-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_OutFfn (m : (ℓ : Loc Cert.OutFfn.nD Cert.OutFfn.τ Cert.OutFfn.sig) → Buf (Elt Bits) ℓ) : Prop :=
  True

def Pre_OutFfnIdeal (m : (ℓ : Loc Cert.OutFfnIdeal.nD Cert.OutFfnIdeal.τ Cert.OutFfnIdeal.sig) → Buf (Elt Ideal) ℓ) : Prop :=
  True

def Pre_OutFfnReferenceIdeal (m : (ℓ : Loc Cert.OutFfnReferenceIdeal.nD Cert.OutFfnReferenceIdeal.τ Cert.OutFfnReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_OutFfn [hOutFfn : Cert.OutFfn.Facts] : Prop :=
  ∀ (m : (ℓ : Loc Cert.OutFfn.nD Cert.OutFfn.τ Cert.OutFfn.sig) → Buf (Elt Bits) ℓ) (g : Dev Cert.OutFfn.nD → PrngReg), Pre_OutFfn m →
    θ_run (Cert.OutFfn.defs (F := Bits)) (onTc (τ := Cert.OutFfn.τ) (Cert.OutFfn.main (F := Bits))) ⟨m, fun _ => 0, g⟩ (fun r => (∀ c : Dev Cert.OutFfn.nD,
      r.2.mem ((c.tc : Thread Cert.OutFfn.nD Cert.OutFfn.τ).loc Cert.OutFfn.main_arg0) = m ((c.tc : Thread Cert.OutFfn.nD Cert.OutFfn.τ).loc Cert.OutFfn.main_arg0)
      ∧ r.2.mem ((c.tc : Thread Cert.OutFfn.nD Cert.OutFfn.τ).loc Cert.OutFfn.main_arg1) = m ((c.tc : Thread Cert.OutFfn.nD Cert.OutFfn.τ).loc Cert.OutFfn.main_arg1)
      ∧ r.2.mem ((c.tc : Thread Cert.OutFfn.nD Cert.OutFfn.τ).loc Cert.OutFfn.main_arg2) = m ((c.tc : Thread Cert.OutFfn.nD Cert.OutFfn.τ).loc Cert.OutFfn.main_arg2)
      ∧ r.2.mem ((c.tc : Thread Cert.OutFfn.nD Cert.OutFfn.τ).loc Cert.OutFfn.main_arg3) = m ((c.tc : Thread Cert.OutFfn.nD Cert.OutFfn.τ).loc Cert.OutFfn.main_arg3)
      ∧ r.2.mem ((c.tc : Thread Cert.OutFfn.nD Cert.OutFfn.τ).loc Cert.OutFfn.main_arg4) = m ((c.tc : Thread Cert.OutFfn.nD Cert.OutFfn.τ).loc Cert.OutFfn.main_arg4)
      ∧ r.2.mem ((c.tc : Thread Cert.OutFfn.nD Cert.OutFfn.τ).loc Cert.OutFfn.main_arg5) = m ((c.tc : Thread Cert.OutFfn.nD Cert.OutFfn.τ).loc Cert.OutFfn.main_arg5)
      ∧ r.2.mem ((c.tc : Thread Cert.OutFfn.nD Cert.OutFfn.τ).loc Cert.OutFfn.main_arg6) = m ((c.tc : Thread Cert.OutFfn.nD Cert.OutFfn.τ).loc Cert.OutFfn.main_arg6)
      ∧ r.2.mem ((c.tc : Thread Cert.OutFfn.nD Cert.OutFfn.τ).loc Cert.OutFfn.main_arg7) = m ((c.tc : Thread Cert.OutFfn.nD Cert.OutFfn.τ).loc Cert.OutFfn.main_arg7)
      ∧ r.2.mem ((c.tc : Thread Cert.OutFfn.nD Cert.OutFfn.τ).loc Cert.OutFfn.main_arg8) = m ((c.tc : Thread Cert.OutFfn.nD Cert.OutFfn.τ).loc Cert.OutFfn.main_arg8)
      ∧ r.2.mem ((c.tc : Thread Cert.OutFfn.nD Cert.OutFfn.τ).loc Cert.OutFfn.main_arg9) = m ((c.tc : Thread Cert.OutFfn.nD Cert.OutFfn.τ).loc Cert.OutFfn.main_arg9)
      ∧ r.2.mem ((c.tc : Thread Cert.OutFfn.nD Cert.OutFfn.τ).loc Cert.OutFfn.main_arg10) = m ((c.tc : Thread Cert.OutFfn.nD Cert.OutFfn.τ).loc Cert.OutFfn.main_arg10)
      ∧ r.2.mem ((c.tc : Thread Cert.OutFfn.nD Cert.OutFfn.τ).loc Cert.OutFfn.main_arg11) = m ((c.tc : Thread Cert.OutFfn.nD Cert.OutFfn.τ).loc Cert.OutFfn.main_arg11)
      ∧ r.2.mem ((c.tc : Thread Cert.OutFfn.nD Cert.OutFfn.τ).loc Cert.OutFfn.main_arg12) = m ((c.tc : Thread Cert.OutFfn.nD Cert.OutFfn.τ).loc Cert.OutFfn.main_arg12)
      ∧ r.2.mem ((c.tc : Thread Cert.OutFfn.nD Cert.OutFfn.τ).loc Cert.OutFfn.main_arg13) = m ((c.tc : Thread Cert.OutFfn.nD Cert.OutFfn.τ).loc Cert.OutFfn.main_arg13))
      ∧ r.2.sem = fun _ => 0)

def quiescent_OutFfnIdeal [hOutFfnIdeal : Cert.OutFfnIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg), Pre_OutFfnIdeal m →
    θ_run (Cert.OutFfnIdeal.defs (F := Ideal)) (onTc (τ := Cert.OutFfnIdeal.τ) (Cert.OutFfnIdeal.main (F := Ideal))) ⟨m, fun _ => 0, g⟩ (fun r => (∀ c : Dev Cert.OutFfnIdeal.nD,
      r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
      ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
      ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
      ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
      ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
      ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
      ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
      ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
      ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8)
      ∧ r.2.mem ((c.tc : Thread Cert.OutFfnIdeal.nD Cert.OutFfnIdeal.τ).loc Cert.OutFfnIdeal.main_arg9) = m ((c.tc : Thread Cert.OutFfnIdeal.nD Cert.OutFfnIdeal.τ).loc Cert.OutFfnIdeal.main_arg9)
      ∧ r.2.mem ((c.tc : Thread Cert.OutFfnIdeal.nD Cert.OutFfnIdeal.τ).loc Cert.OutFfnIdeal.main_arg10) = m ((c.tc : Thread Cert.OutFfnIdeal.nD Cert.OutFfnIdeal.τ).loc Cert.OutFfnIdeal.main_arg10)
      ∧ r.2.mem ((c.tc : Thread Cert.OutFfnIdeal.nD Cert.OutFfnIdeal.τ).loc Cert.OutFfnIdeal.main_arg11) = m ((c.tc : Thread Cert.OutFfnIdeal.nD Cert.OutFfnIdeal.τ).loc Cert.OutFfnIdeal.main_arg11)
      ∧ r.2.mem ((c.tc : Thread Cert.OutFfnIdeal.nD Cert.OutFfnIdeal.τ).loc Cert.OutFfnIdeal.main_arg12) = m ((c.tc : Thread Cert.OutFfnIdeal.nD Cert.OutFfnIdeal.τ).loc Cert.OutFfnIdeal.main_arg12)
      ∧ r.2.mem ((c.tc : Thread Cert.OutFfnIdeal.nD Cert.OutFfnIdeal.τ).loc Cert.OutFfnIdeal.main_arg13) = m ((c.tc : Thread Cert.OutFfnIdeal.nD Cert.OutFfnIdeal.τ).loc Cert.OutFfnIdeal.main_arg13))
      ∧ r.2.sem = fun _ => 0)

def quiescent_OutFfnReferenceIdeal [hOutFfnReferenceIdeal : Cert.OutFfnReferenceIdeal.Facts] : Prop :=
  ∀ (m : (ℓ : Loc Cert.OutFfnReferenceIdeal.nD Cert.OutFfnReferenceIdeal.τ Cert.OutFfnReferenceIdeal.sig) → Buf (Elt Ideal) ℓ) (g : Dev Cert.OutFfnReferenceIdeal.nD → PrngReg), Pre_OutFfnReferenceIdeal m →
    θ_run (Cert.OutFfnReferenceIdeal.defs (F := Ideal)) (onTc (τ := Cert.OutFfnReferenceIdeal.τ) (Cert.OutFfnReferenceIdeal.main (F := Ideal))) ⟨m, fun _ => 0, g⟩ (fun r => (∀ c : Dev Cert.OutFfnReferenceIdeal.nD,
      r.2.mem ((c.tc : Thread Cert.OutFfnReferenceIdeal.nD Cert.OutFfnReferenceIdeal.τ).loc Cert.OutFfnReferenceIdeal.main_arg0) = m ((c.tc : Thread Cert.OutFfnReferenceIdeal.nD Cert.OutFfnReferenceIdeal.τ).loc Cert.OutFfnReferenceIdeal.main_arg0)
      ∧ r.2.mem ((c.tc : Thread Cert.OutFfnReferenceIdeal.nD Cert.OutFfnReferenceIdeal.τ).loc Cert.OutFfnReferenceIdeal.main_arg1) = m ((c.tc : Thread Cert.OutFfnReferenceIdeal.nD Cert.OutFfnReferenceIdeal.τ).loc Cert.OutFfnReferenceIdeal.main_arg1)
      ∧ r.2.mem ((c.tc : Thread Cert.OutFfnReferenceIdeal.nD Cert.OutFfnReferenceIdeal.τ).loc Cert.OutFfnReferenceIdeal.main_arg2) = m ((c.tc : Thread Cert.OutFfnReferenceIdeal.nD Cert.OutFfnReferenceIdeal.τ).loc Cert.OutFfnReferenceIdeal.main_arg2)
      ∧ r.2.mem ((c.tc : Thread Cert.OutFfnReferenceIdeal.nD Cert.OutFfnReferenceIdeal.τ).loc Cert.OutFfnReferenceIdeal.main_arg3) = m ((c.tc : Thread Cert.OutFfnReferenceIdeal.nD Cert.OutFfnReferenceIdeal.τ).loc Cert.OutFfnReferenceIdeal.main_arg3)
      ∧ r.2.mem ((c.tc : Thread Cert.OutFfnReferenceIdeal.nD Cert.OutFfnReferenceIdeal.τ).loc Cert.OutFfnReferenceIdeal.main_arg4) = m ((c.tc : Thread Cert.OutFfnReferenceIdeal.nD Cert.OutFfnReferenceIdeal.τ).loc Cert.OutFfnReferenceIdeal.main_arg4)
      ∧ r.2.mem ((c.tc : Thread Cert.OutFfnReferenceIdeal.nD Cert.OutFfnReferenceIdeal.τ).loc Cert.OutFfnReferenceIdeal.main_arg5) = m ((c.tc : Thread Cert.OutFfnReferenceIdeal.nD Cert.OutFfnReferenceIdeal.τ).loc Cert.OutFfnReferenceIdeal.main_arg5)
      ∧ r.2.mem ((c.tc : Thread Cert.OutFfnReferenceIdeal.nD Cert.OutFfnReferenceIdeal.τ).loc Cert.OutFfnReferenceIdeal.main_arg6) = m ((c.tc : Thread Cert.OutFfnReferenceIdeal.nD Cert.OutFfnReferenceIdeal.τ).loc Cert.OutFfnReferenceIdeal.main_arg6)
      ∧ r.2.mem ((c.tc : Thread Cert.OutFfnReferenceIdeal.nD Cert.OutFfnReferenceIdeal.τ).loc Cert.OutFfnReferenceIdeal.main_arg7) = m ((c.tc : Thread Cert.OutFfnReferenceIdeal.nD Cert.OutFfnReferenceIdeal.τ).loc Cert.OutFfnReferenceIdeal.main_arg7)
      ∧ r.2.mem ((c.tc : Thread Cert.OutFfnReferenceIdeal.nD Cert.OutFfnReferenceIdeal.τ).loc Cert.OutFfnReferenceIdeal.main_arg8) = m ((c.tc : Thread Cert.OutFfnReferenceIdeal.nD Cert.OutFfnReferenceIdeal.τ).loc Cert.OutFfnReferenceIdeal.main_arg8)
      ∧ r.2.mem ((c.tc : Thread Cert.OutFfnReferenceIdeal.nD Cert.OutFfnReferenceIdeal.τ).loc Cert.OutFfnReferenceIdeal.main_arg9) = m ((c.tc : Thread Cert.OutFfnReferenceIdeal.nD Cert.OutFfnReferenceIdeal.τ).loc Cert.OutFfnReferenceIdeal.main_arg9)
      ∧ r.2.mem ((c.tc : Thread Cert.OutFfnReferenceIdeal.nD Cert.OutFfnReferenceIdeal.τ).loc Cert.OutFfnReferenceIdeal.main_arg10) = m ((c.tc : Thread Cert.OutFfnReferenceIdeal.nD Cert.OutFfnReferenceIdeal.τ).loc Cert.OutFfnReferenceIdeal.main_arg10)
      ∧ r.2.mem ((c.tc : Thread Cert.OutFfnReferenceIdeal.nD Cert.OutFfnReferenceIdeal.τ).loc Cert.OutFfnReferenceIdeal.main_arg11) = m ((c.tc : Thread Cert.OutFfnReferenceIdeal.nD Cert.OutFfnReferenceIdeal.τ).loc Cert.OutFfnReferenceIdeal.main_arg11)
      ∧ r.2.mem ((c.tc : Thread Cert.OutFfnReferenceIdeal.nD Cert.OutFfnReferenceIdeal.τ).loc Cert.OutFfnReferenceIdeal.main_arg12) = m ((c.tc : Thread Cert.OutFfnReferenceIdeal.nD Cert.OutFfnReferenceIdeal.τ).loc Cert.OutFfnReferenceIdeal.main_arg12)
      ∧ r.2.mem ((c.tc : Thread Cert.OutFfnReferenceIdeal.nD Cert.OutFfnReferenceIdeal.τ).loc Cert.OutFfnReferenceIdeal.main_arg13) = m ((c.tc : Thread Cert.OutFfnReferenceIdeal.nD Cert.OutFfnReferenceIdeal.τ).loc Cert.OutFfnReferenceIdeal.main_arg13))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6)
      ∧ r.2.mem ((c.tc : Thread Cert.InProj.nD Cert.InProj.τ).loc Cert.InProj.main_arg7) = m ((c.tc : Thread Cert.InProj.nD Cert.InProj.τ).loc Cert.InProj.main_arg7)
      ∧ r.2.mem ((c.tc : Thread Cert.InProj.nD Cert.InProj.τ).loc Cert.InProj.main_arg8) = m ((c.tc : Thread Cert.InProj.nD Cert.InProj.τ).loc Cert.InProj.main_arg8)
      ∧ r.2.mem ((c.tc : Thread Cert.InProj.nD Cert.InProj.τ).loc Cert.InProj.main_arg9) = m ((c.tc : Thread Cert.InProj.nD Cert.InProj.τ).loc Cert.InProj.main_arg9))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
      ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
      ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
      ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2)
      ∧ r.2.mem ((c.tc : Thread Cert.InProjReferenceIdeal.nD Cert.InProjReferenceIdeal.τ).loc Cert.InProjReferenceIdeal.main_arg3) = m ((c.tc : Thread Cert.InProjReferenceIdeal.nD Cert.InProjReferenceIdeal.τ).loc Cert.InProjReferenceIdeal.main_arg3)
      ∧ r.2.mem ((c.tc : Thread Cert.InProjReferenceIdeal.nD Cert.InProjReferenceIdeal.τ).loc Cert.InProjReferenceIdeal.main_arg4) = m ((c.tc : Thread Cert.InProjReferenceIdeal.nD Cert.InProjReferenceIdeal.τ).loc Cert.InProjReferenceIdeal.main_arg4)
      ∧ r.2.mem ((c.tc : Thread Cert.InProjReferenceIdeal.nD Cert.InProjReferenceIdeal.τ).loc Cert.InProjReferenceIdeal.main_arg5) = m ((c.tc : Thread Cert.InProjReferenceIdeal.nD Cert.InProjReferenceIdeal.τ).loc Cert.InProjReferenceIdeal.main_arg5)
      ∧ r.2.mem ((c.tc : Thread Cert.InProjReferenceIdeal.nD Cert.InProjReferenceIdeal.τ).loc Cert.InProjReferenceIdeal.main_arg6) = m ((c.tc : Thread Cert.InProjReferenceIdeal.nD Cert.InProjReferenceIdeal.τ).loc Cert.InProjReferenceIdeal.main_arg6)
      ∧ r.2.mem ((c.tc : Thread Cert.InProjReferenceIdeal.nD Cert.InProjReferenceIdeal.τ).loc Cert.InProjReferenceIdeal.main_arg7) = m ((c.tc : Thread Cert.InProjReferenceIdeal.nD Cert.InProjReferenceIdeal.τ).loc Cert.InProjReferenceIdeal.main_arg7)
      ∧ r.2.mem ((c.tc : Thread Cert.InProjReferenceIdeal.nD Cert.InProjReferenceIdeal.τ).loc Cert.InProjReferenceIdeal.main_arg8) = m ((c.tc : Thread Cert.InProjReferenceIdeal.nD Cert.InProjReferenceIdeal.τ).loc Cert.InProjReferenceIdeal.main_arg8)
      ∧ r.2.mem ((c.tc : Thread Cert.InProjReferenceIdeal.nD Cert.InProjReferenceIdeal.τ).loc Cert.InProjReferenceIdeal.main_arg9) = m ((c.tc : Thread Cert.InProjReferenceIdeal.nD Cert.InProjReferenceIdeal.τ).loc Cert.InProjReferenceIdeal.main_arg9))
      ∧ r.2.sem = fun _ => 0)

def preserves_Kernel_KernelIdeal : Prop :=
  True

def preserves_OutFfn_OutFfnIdeal : Prop :=
  True

def algebraic_OutFfnIdeal_OutFfnReferenceIdeal [hOutFfnIdeal : Cert.OutFfnIdeal.Facts] [hOutFfnReferenceIdeal : Cert.OutFfnReferenceIdeal.Facts] : Prop :=
  ∀ (m : (ℓ : Loc Cert.OutFfnIdeal.nD Cert.OutFfnIdeal.τ Cert.OutFfnIdeal.sig) → Buf (Elt Ideal) ℓ) (g : Dev Cert.OutFfnIdeal.nD → PrngReg)
    (m' : (ℓ : Loc Cert.OutFfnReferenceIdeal.nD Cert.OutFfnReferenceIdeal.τ Cert.OutFfnReferenceIdeal.sig) → Buf (Elt Ideal) ℓ) (g' : Dev Cert.OutFfnReferenceIdeal.nD → PrngReg), Pre_OutFfnIdeal m →
    (∀ c : Dev Cert.OutFfnIdeal.nD,
      m' ((c.tc : Thread Cert.OutFfnReferenceIdeal.nD Cert.OutFfnReferenceIdeal.τ).loc Cert.OutFfnReferenceIdeal.main_arg0) = m ((c.tc : Thread Cert.OutFfnIdeal.nD Cert.OutFfnIdeal.τ).loc Cert.OutFfnIdeal.main_arg0)
      ∧ m' ((c.tc : Thread Cert.OutFfnReferenceIdeal.nD Cert.OutFfnReferenceIdeal.τ).loc Cert.OutFfnReferenceIdeal.main_arg1) = m ((c.tc : Thread Cert.OutFfnIdeal.nD Cert.OutFfnIdeal.τ).loc Cert.OutFfnIdeal.main_arg1)
      ∧ m' ((c.tc : Thread Cert.OutFfnReferenceIdeal.nD Cert.OutFfnReferenceIdeal.τ).loc Cert.OutFfnReferenceIdeal.main_arg2) = m ((c.tc : Thread Cert.OutFfnIdeal.nD Cert.OutFfnIdeal.τ).loc Cert.OutFfnIdeal.main_arg2)
      ∧ m' ((c.tc : Thread Cert.OutFfnReferenceIdeal.nD Cert.OutFfnReferenceIdeal.τ).loc Cert.OutFfnReferenceIdeal.main_arg3) = m ((c.tc : Thread Cert.OutFfnIdeal.nD Cert.OutFfnIdeal.τ).loc Cert.OutFfnIdeal.main_arg3)
      ∧ m' ((c.tc : Thread Cert.OutFfnReferenceIdeal.nD Cert.OutFfnReferenceIdeal.τ).loc Cert.OutFfnReferenceIdeal.main_arg4) = m ((c.tc : Thread Cert.OutFfnIdeal.nD Cert.OutFfnIdeal.τ).loc Cert.OutFfnIdeal.main_arg4)
      ∧ m' ((c.tc : Thread Cert.OutFfnReferenceIdeal.nD Cert.OutFfnReferenceIdeal.τ).loc Cert.OutFfnReferenceIdeal.main_arg5) = m ((c.tc : Thread Cert.OutFfnIdeal.nD Cert.OutFfnIdeal.τ).loc Cert.OutFfnIdeal.main_arg5)
      ∧ m' ((c.tc : Thread Cert.OutFfnReferenceIdeal.nD Cert.OutFfnReferenceIdeal.τ).loc Cert.OutFfnReferenceIdeal.main_arg6) = m ((c.tc : Thread Cert.OutFfnIdeal.nD Cert.OutFfnIdeal.τ).loc Cert.OutFfnIdeal.main_arg6)
      ∧ m' ((c.tc : Thread Cert.OutFfnReferenceIdeal.nD Cert.OutFfnReferenceIdeal.τ).loc Cert.OutFfnReferenceIdeal.main_arg7) = m ((c.tc : Thread Cert.OutFfnIdeal.nD Cert.OutFfnIdeal.τ).loc Cert.OutFfnIdeal.main_arg7)
      ∧ m' ((c.tc : Thread Cert.OutFfnReferenceIdeal.nD Cert.OutFfnReferenceIdeal.τ).loc Cert.OutFfnReferenceIdeal.main_arg8) = m ((c.tc : Thread Cert.OutFfnIdeal.nD Cert.OutFfnIdeal.τ).loc Cert.OutFfnIdeal.main_arg8)
      ∧ m' ((c.tc : Thread Cert.OutFfnReferenceIdeal.nD Cert.OutFfnReferenceIdeal.τ).loc Cert.OutFfnReferenceIdeal.main_arg9) = m ((c.tc : Thread Cert.OutFfnIdeal.nD Cert.OutFfnIdeal.τ).loc Cert.OutFfnIdeal.main_arg9)
      ∧ m' ((c.tc : Thread Cert.OutFfnReferenceIdeal.nD Cert.OutFfnReferenceIdeal.τ).loc Cert.OutFfnReferenceIdeal.main_arg10) = m ((c.tc : Thread Cert.OutFfnIdeal.nD Cert.OutFfnIdeal.τ).loc Cert.OutFfnIdeal.main_arg10)
      ∧ m' ((c.tc : Thread Cert.OutFfnReferenceIdeal.nD Cert.OutFfnReferenceIdeal.τ).loc Cert.OutFfnReferenceIdeal.main_arg11) = m ((c.tc : Thread Cert.OutFfnIdeal.nD Cert.OutFfnIdeal.τ).loc Cert.OutFfnIdeal.main_arg11)
      ∧ m' ((c.tc : Thread Cert.OutFfnReferenceIdeal.nD Cert.OutFfnReferenceIdeal.τ).loc Cert.OutFfnReferenceIdeal.main_arg12) = m ((c.tc : Thread Cert.OutFfnIdeal.nD Cert.OutFfnIdeal.τ).loc Cert.OutFfnIdeal.main_arg12)
      ∧ m' ((c.tc : Thread Cert.OutFfnReferenceIdeal.nD Cert.OutFfnReferenceIdeal.τ).loc Cert.OutFfnReferenceIdeal.main_arg13) = m ((c.tc : Thread Cert.OutFfnIdeal.nD Cert.OutFfnIdeal.τ).loc Cert.OutFfnIdeal.main_arg13)) →
    ∃ (v0 : (c : Dev Cert.OutFfnIdeal.nD) → Buf (Elt Ideal) ((c.tc : Thread Cert.OutFfnIdeal.nD Cert.OutFfnIdeal.τ).loc Cert.OutFfnIdeal.main_v12)),
      θ_run (Cert.OutFfnIdeal.defs (F := Ideal)) (onTc (τ := Cert.OutFfnIdeal.τ) (Cert.OutFfnIdeal.main (F := Ideal))) ⟨m, fun _ => 0, g⟩ (fun r => ∀ c : Dev Cert.OutFfnIdeal.nD,
          r.2.mem ((c.tc : Thread Cert.OutFfnIdeal.nD Cert.OutFfnIdeal.τ).loc Cert.OutFfnIdeal.main_v12) = v0 c
          ∧ r.2.mem ((c.tc : Thread Cert.OutFfnIdeal.nD Cert.OutFfnIdeal.τ).loc Cert.OutFfnIdeal.main_arg0) = m ((c.tc : Thread Cert.OutFfnIdeal.nD Cert.OutFfnIdeal.τ).loc Cert.OutFfnIdeal.main_arg0)
          ∧ r.2.mem ((c.tc : Thread Cert.OutFfnIdeal.nD Cert.OutFfnIdeal.τ).loc Cert.OutFfnIdeal.main_arg1) = m ((c.tc : Thread Cert.OutFfnIdeal.nD Cert.OutFfnIdeal.τ).loc Cert.OutFfnIdeal.main_arg1)
          ∧ r.2.mem ((c.tc : Thread Cert.OutFfnIdeal.nD Cert.OutFfnIdeal.τ).loc Cert.OutFfnIdeal.main_arg2) = m ((c.tc : Thread Cert.OutFfnIdeal.nD Cert.OutFfnIdeal.τ).loc Cert.OutFfnIdeal.main_arg2)
          ∧ r.2.mem ((c.tc : Thread Cert.OutFfnIdeal.nD Cert.OutFfnIdeal.τ).loc Cert.OutFfnIdeal.main_arg3) = m ((c.tc : Thread Cert.OutFfnIdeal.nD Cert.OutFfnIdeal.τ).loc Cert.OutFfnIdeal.main_arg3)
          ∧ r.2.mem ((c.tc : Thread Cert.OutFfnIdeal.nD Cert.OutFfnIdeal.τ).loc Cert.OutFfnIdeal.main_arg4) = m ((c.tc : Thread Cert.OutFfnIdeal.nD Cert.OutFfnIdeal.τ).loc Cert.OutFfnIdeal.main_arg4)
          ∧ r.2.mem ((c.tc : Thread Cert.OutFfnIdeal.nD Cert.OutFfnIdeal.τ).loc Cert.OutFfnIdeal.main_arg5) = m ((c.tc : Thread Cert.OutFfnIdeal.nD Cert.OutFfnIdeal.τ).loc Cert.OutFfnIdeal.main_arg5)
          ∧ r.2.mem ((c.tc : Thread Cert.OutFfnIdeal.nD Cert.OutFfnIdeal.τ).loc Cert.OutFfnIdeal.main_arg6) = m ((c.tc : Thread Cert.OutFfnIdeal.nD Cert.OutFfnIdeal.τ).loc Cert.OutFfnIdeal.main_arg6)
          ∧ r.2.mem ((c.tc : Thread Cert.OutFfnIdeal.nD Cert.OutFfnIdeal.τ).loc Cert.OutFfnIdeal.main_arg7) = m ((c.tc : Thread Cert.OutFfnIdeal.nD Cert.OutFfnIdeal.τ).loc Cert.OutFfnIdeal.main_arg7)
          ∧ r.2.mem ((c.tc : Thread Cert.OutFfnIdeal.nD Cert.OutFfnIdeal.τ).loc Cert.OutFfnIdeal.main_arg8) = m ((c.tc : Thread Cert.OutFfnIdeal.nD Cert.OutFfnIdeal.τ).loc Cert.OutFfnIdeal.main_arg8)
          ∧ r.2.mem ((c.tc : Thread Cert.OutFfnIdeal.nD Cert.OutFfnIdeal.τ).loc Cert.OutFfnIdeal.main_arg9) = m ((c.tc : Thread Cert.OutFfnIdeal.nD Cert.OutFfnIdeal.τ).loc Cert.OutFfnIdeal.main_arg9)
          ∧ r.2.mem ((c.tc : Thread Cert.OutFfnIdeal.nD Cert.OutFfnIdeal.τ).loc Cert.OutFfnIdeal.main_arg10) = m ((c.tc : Thread Cert.OutFfnIdeal.nD Cert.OutFfnIdeal.τ).loc Cert.OutFfnIdeal.main_arg10)
          ∧ r.2.mem ((c.tc : Thread Cert.OutFfnIdeal.nD Cert.OutFfnIdeal.τ).loc Cert.OutFfnIdeal.main_arg11) = m ((c.tc : Thread Cert.OutFfnIdeal.nD Cert.OutFfnIdeal.τ).loc Cert.OutFfnIdeal.main_arg11)
          ∧ r.2.mem ((c.tc : Thread Cert.OutFfnIdeal.nD Cert.OutFfnIdeal.τ).loc Cert.OutFfnIdeal.main_arg12) = m ((c.tc : Thread Cert.OutFfnIdeal.nD Cert.OutFfnIdeal.τ).loc Cert.OutFfnIdeal.main_arg12)
          ∧ r.2.mem ((c.tc : Thread Cert.OutFfnIdeal.nD Cert.OutFfnIdeal.τ).loc Cert.OutFfnIdeal.main_arg13) = m ((c.tc : Thread Cert.OutFfnIdeal.nD Cert.OutFfnIdeal.τ).loc Cert.OutFfnIdeal.main_arg13))
      ∧ θ_run (Cert.OutFfnReferenceIdeal.defs (F := Ideal)) (onTc (τ := Cert.OutFfnReferenceIdeal.τ) (Cert.OutFfnReferenceIdeal.main (F := Ideal))) ⟨m', fun _ => 0, g'⟩ (fun r => ∀ c : Dev Cert.OutFfnReferenceIdeal.nD,
          r.2.mem ((c.tc : Thread Cert.OutFfnReferenceIdeal.nD Cert.OutFfnReferenceIdeal.τ).loc Cert.OutFfnReferenceIdeal.main_v65) = v0 c
          ∧ r.2.mem ((c.tc : Thread Cert.OutFfnReferenceIdeal.nD Cert.OutFfnReferenceIdeal.τ).loc Cert.OutFfnReferenceIdeal.main_arg0) = m' ((c.tc : Thread Cert.OutFfnReferenceIdeal.nD Cert.OutFfnReferenceIdeal.τ).loc Cert.OutFfnReferenceIdeal.main_arg0)
          ∧ r.2.mem ((c.tc : Thread Cert.OutFfnReferenceIdeal.nD Cert.OutFfnReferenceIdeal.τ).loc Cert.OutFfnReferenceIdeal.main_arg1) = m' ((c.tc : Thread Cert.OutFfnReferenceIdeal.nD Cert.OutFfnReferenceIdeal.τ).loc Cert.OutFfnReferenceIdeal.main_arg1)
          ∧ r.2.mem ((c.tc : Thread Cert.OutFfnReferenceIdeal.nD Cert.OutFfnReferenceIdeal.τ).loc Cert.OutFfnReferenceIdeal.main_arg2) = m' ((c.tc : Thread Cert.OutFfnReferenceIdeal.nD Cert.OutFfnReferenceIdeal.τ).loc Cert.OutFfnReferenceIdeal.main_arg2)
          ∧ r.2.mem ((c.tc : Thread Cert.OutFfnReferenceIdeal.nD Cert.OutFfnReferenceIdeal.τ).loc Cert.OutFfnReferenceIdeal.main_arg3) = m' ((c.tc : Thread Cert.OutFfnReferenceIdeal.nD Cert.OutFfnReferenceIdeal.τ).loc Cert.OutFfnReferenceIdeal.main_arg3)
          ∧ r.2.mem ((c.tc : Thread Cert.OutFfnReferenceIdeal.nD Cert.OutFfnReferenceIdeal.τ).loc Cert.OutFfnReferenceIdeal.main_arg4) = m' ((c.tc : Thread Cert.OutFfnReferenceIdeal.nD Cert.OutFfnReferenceIdeal.τ).loc Cert.OutFfnReferenceIdeal.main_arg4)
          ∧ r.2.mem ((c.tc : Thread Cert.OutFfnReferenceIdeal.nD Cert.OutFfnReferenceIdeal.τ).loc Cert.OutFfnReferenceIdeal.main_arg5) = m' ((c.tc : Thread Cert.OutFfnReferenceIdeal.nD Cert.OutFfnReferenceIdeal.τ).loc Cert.OutFfnReferenceIdeal.main_arg5)
          ∧ r.2.mem ((c.tc : Thread Cert.OutFfnReferenceIdeal.nD Cert.OutFfnReferenceIdeal.τ).loc Cert.OutFfnReferenceIdeal.main_arg6) = m' ((c.tc : Thread Cert.OutFfnReferenceIdeal.nD Cert.OutFfnReferenceIdeal.τ).loc Cert.OutFfnReferenceIdeal.main_arg6)
          ∧ r.2.mem ((c.tc : Thread Cert.OutFfnReferenceIdeal.nD Cert.OutFfnReferenceIdeal.τ).loc Cert.OutFfnReferenceIdeal.main_arg7) = m' ((c.tc : Thread Cert.OutFfnReferenceIdeal.nD Cert.OutFfnReferenceIdeal.τ).loc Cert.OutFfnReferenceIdeal.main_arg7)
          ∧ r.2.mem ((c.tc : Thread Cert.OutFfnReferenceIdeal.nD Cert.OutFfnReferenceIdeal.τ).loc Cert.OutFfnReferenceIdeal.main_arg8) = m' ((c.tc : Thread Cert.OutFfnReferenceIdeal.nD Cert.OutFfnReferenceIdeal.τ).loc Cert.OutFfnReferenceIdeal.main_arg8)
          ∧ r.2.mem ((c.tc : Thread Cert.OutFfnReferenceIdeal.nD Cert.OutFfnReferenceIdeal.τ).loc Cert.OutFfnReferenceIdeal.main_arg9) = m' ((c.tc : Thread Cert.OutFfnReferenceIdeal.nD Cert.OutFfnReferenceIdeal.τ).loc Cert.OutFfnReferenceIdeal.main_arg9)
          ∧ r.2.mem ((c.tc : Thread Cert.OutFfnReferenceIdeal.nD Cert.OutFfnReferenceIdeal.τ).loc Cert.OutFfnReferenceIdeal.main_arg10) = m' ((c.tc : Thread Cert.OutFfnReferenceIdeal.nD Cert.OutFfnReferenceIdeal.τ).loc Cert.OutFfnReferenceIdeal.main_arg10)
          ∧ r.2.mem ((c.tc : Thread Cert.OutFfnReferenceIdeal.nD Cert.OutFfnReferenceIdeal.τ).loc Cert.OutFfnReferenceIdeal.main_arg11) = m' ((c.tc : Thread Cert.OutFfnReferenceIdeal.nD Cert.OutFfnReferenceIdeal.τ).loc Cert.OutFfnReferenceIdeal.main_arg11)
          ∧ r.2.mem ((c.tc : Thread Cert.OutFfnReferenceIdeal.nD Cert.OutFfnReferenceIdeal.τ).loc Cert.OutFfnReferenceIdeal.main_arg12) = m' ((c.tc : Thread Cert.OutFfnReferenceIdeal.nD Cert.OutFfnReferenceIdeal.τ).loc Cert.OutFfnReferenceIdeal.main_arg12)
          ∧ r.2.mem ((c.tc : Thread Cert.OutFfnReferenceIdeal.nD Cert.OutFfnReferenceIdeal.τ).loc Cert.OutFfnReferenceIdeal.main_arg13) = m' ((c.tc : Thread Cert.OutFfnReferenceIdeal.nD Cert.OutFfnReferenceIdeal.τ).loc Cert.OutFfnReferenceIdeal.main_arg13))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)
      ∧ m' ((c.tc : Thread Cert.InProjReferenceIdeal.nD Cert.InProjReferenceIdeal.τ).loc Cert.InProjReferenceIdeal.main_arg3) = m ((c.tc : Thread Cert.InProjIdeal.nD Cert.InProjIdeal.τ).loc Cert.InProjIdeal.main_arg3)
      ∧ m' ((c.tc : Thread Cert.InProjReferenceIdeal.nD Cert.InProjReferenceIdeal.τ).loc Cert.InProjReferenceIdeal.main_arg4) = m ((c.tc : Thread Cert.InProjIdeal.nD Cert.InProjIdeal.τ).loc Cert.InProjIdeal.main_arg4)
      ∧ m' ((c.tc : Thread Cert.InProjReferenceIdeal.nD Cert.InProjReferenceIdeal.τ).loc Cert.InProjReferenceIdeal.main_arg5) = m ((c.tc : Thread Cert.InProjIdeal.nD Cert.InProjIdeal.τ).loc Cert.InProjIdeal.main_arg5)
      ∧ m' ((c.tc : Thread Cert.InProjReferenceIdeal.nD Cert.InProjReferenceIdeal.τ).loc Cert.InProjReferenceIdeal.main_arg6) = m ((c.tc : Thread Cert.InProjIdeal.nD Cert.InProjIdeal.τ).loc Cert.InProjIdeal.main_arg6)
      ∧ m' ((c.tc : Thread Cert.InProjReferenceIdeal.nD Cert.InProjReferenceIdeal.τ).loc Cert.InProjReferenceIdeal.main_arg7) = m ((c.tc : Thread Cert.InProjIdeal.nD Cert.InProjIdeal.τ).loc Cert.InProjIdeal.main_arg7)
      ∧ m' ((c.tc : Thread Cert.InProjReferenceIdeal.nD Cert.InProjReferenceIdeal.τ).loc Cert.InProjReferenceIdeal.main_arg8) = m ((c.tc : Thread Cert.InProjIdeal.nD Cert.InProjIdeal.τ).loc Cert.InProjIdeal.main_arg8)
      ∧ m' ((c.tc : Thread Cert.InProjReferenceIdeal.nD Cert.InProjReferenceIdeal.τ).loc Cert.InProjReferenceIdeal.main_arg9) = m ((c.tc : Thread Cert.InProjIdeal.nD Cert.InProjIdeal.τ).loc Cert.InProjIdeal.main_arg9)) →
    ∃ (v0 : (c : Dev Cert.InProjIdeal.nD) → Buf (Elt Ideal) ((c.tc : Thread Cert.InProjIdeal.nD Cert.InProjIdeal.τ).loc Cert.InProjIdeal.main_v16_0)) (v1 : (c : Dev Cert.InProjIdeal.nD) → Buf (Elt Ideal) ((c.tc : Thread Cert.InProjIdeal.nD Cert.InProjIdeal.τ).loc Cert.InProjIdeal.main_v16_1)) (v2 : (c : Dev Cert.InProjIdeal.nD) → Buf (Elt Ideal) ((c.tc : Thread Cert.InProjIdeal.nD Cert.InProjIdeal.τ).loc Cert.InProjIdeal.main_v16_2)) (v3 : (c : Dev Cert.InProjIdeal.nD) → Buf (Elt Ideal) ((c.tc : Thread Cert.InProjIdeal.nD Cert.InProjIdeal.τ).loc Cert.InProjIdeal.main_v16_3)) (v4 : (c : Dev Cert.InProjIdeal.nD) → Buf (Elt Ideal) ((c.tc : Thread Cert.InProjIdeal.nD Cert.InProjIdeal.τ).loc Cert.InProjIdeal.main_v16_4)) (v5 : (c : Dev Cert.InProjIdeal.nD) → Buf (Elt Ideal) ((c.tc : Thread Cert.InProjIdeal.nD Cert.InProjIdeal.τ).loc Cert.InProjIdeal.main_v16_5)) (v6 : (c : Dev Cert.InProjIdeal.nD) → Buf (Elt Ideal) ((c.tc : Thread Cert.InProjIdeal.nD Cert.InProjIdeal.τ).loc Cert.InProjIdeal.main_v16_6)) (v7 : (c : Dev Cert.InProjIdeal.nD) → Buf (Elt Ideal) ((c.tc : Thread Cert.InProjIdeal.nD Cert.InProjIdeal.τ).loc Cert.InProjIdeal.main_v16_7)) (v8 : (c : Dev Cert.InProjIdeal.nD) → Buf (Elt Ideal) ((c.tc : Thread Cert.InProjIdeal.nD Cert.InProjIdeal.τ).loc Cert.InProjIdeal.main_v16_8)) (v9 : (c : Dev Cert.InProjIdeal.nD) → Buf (Elt Ideal) ((c.tc : Thread Cert.InProjIdeal.nD Cert.InProjIdeal.τ).loc Cert.InProjIdeal.main_v16_9)) (v10 : (c : Dev Cert.InProjIdeal.nD) → Buf (Elt Ideal) ((c.tc : Thread Cert.InProjIdeal.nD Cert.InProjIdeal.τ).loc Cert.InProjIdeal.main_v16_10)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v16_0) = v0 c
          ∧ r.2.mem ((c.tc : Thread Cert.InProjIdeal.nD Cert.InProjIdeal.τ).loc Cert.InProjIdeal.main_v16_1) = v1 c
          ∧ r.2.mem ((c.tc : Thread Cert.InProjIdeal.nD Cert.InProjIdeal.τ).loc Cert.InProjIdeal.main_v16_2) = v2 c
          ∧ r.2.mem ((c.tc : Thread Cert.InProjIdeal.nD Cert.InProjIdeal.τ).loc Cert.InProjIdeal.main_v16_3) = v3 c
          ∧ r.2.mem ((c.tc : Thread Cert.InProjIdeal.nD Cert.InProjIdeal.τ).loc Cert.InProjIdeal.main_v16_4) = v4 c
          ∧ r.2.mem ((c.tc : Thread Cert.InProjIdeal.nD Cert.InProjIdeal.τ).loc Cert.InProjIdeal.main_v16_5) = v5 c
          ∧ r.2.mem ((c.tc : Thread Cert.InProjIdeal.nD Cert.InProjIdeal.τ).loc Cert.InProjIdeal.main_v16_6) = v6 c
          ∧ r.2.mem ((c.tc : Thread Cert.InProjIdeal.nD Cert.InProjIdeal.τ).loc Cert.InProjIdeal.main_v16_7) = v7 c
          ∧ r.2.mem ((c.tc : Thread Cert.InProjIdeal.nD Cert.InProjIdeal.τ).loc Cert.InProjIdeal.main_v16_8) = v8 c
          ∧ r.2.mem ((c.tc : Thread Cert.InProjIdeal.nD Cert.InProjIdeal.τ).loc Cert.InProjIdeal.main_v16_9) = v9 c
          ∧ r.2.mem ((c.tc : Thread Cert.InProjIdeal.nD Cert.InProjIdeal.τ).loc Cert.InProjIdeal.main_v16_10) = v10 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6)
          ∧ r.2.mem ((c.tc : Thread Cert.InProjIdeal.nD Cert.InProjIdeal.τ).loc Cert.InProjIdeal.main_arg7) = m ((c.tc : Thread Cert.InProjIdeal.nD Cert.InProjIdeal.τ).loc Cert.InProjIdeal.main_arg7)
          ∧ r.2.mem ((c.tc : Thread Cert.InProjIdeal.nD Cert.InProjIdeal.τ).loc Cert.InProjIdeal.main_arg8) = m ((c.tc : Thread Cert.InProjIdeal.nD Cert.InProjIdeal.τ).loc Cert.InProjIdeal.main_arg8)
          ∧ r.2.mem ((c.tc : Thread Cert.InProjIdeal.nD Cert.InProjIdeal.τ).loc Cert.InProjIdeal.main_arg9) = m ((c.tc : Thread Cert.InProjIdeal.nD Cert.InProjIdeal.τ).loc Cert.InProjIdeal.main_arg9))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v127) = v0 c
          ∧ r.2.mem ((c.tc : Thread Cert.InProjReferenceIdeal.nD Cert.InProjReferenceIdeal.τ).loc Cert.InProjReferenceIdeal.main_v128) = v1 c
          ∧ r.2.mem ((c.tc : Thread Cert.InProjReferenceIdeal.nD Cert.InProjReferenceIdeal.τ).loc Cert.InProjReferenceIdeal.main_v129) = v2 c
          ∧ r.2.mem ((c.tc : Thread Cert.InProjReferenceIdeal.nD Cert.InProjReferenceIdeal.τ).loc Cert.InProjReferenceIdeal.main_v130) = v3 c
          ∧ r.2.mem ((c.tc : Thread Cert.InProjReferenceIdeal.nD Cert.InProjReferenceIdeal.τ).loc Cert.InProjReferenceIdeal.main_v131) = v4 c
          ∧ r.2.mem ((c.tc : Thread Cert.InProjReferenceIdeal.nD Cert.InProjReferenceIdeal.τ).loc Cert.InProjReferenceIdeal.main_v132) = v5 c
          ∧ r.2.mem ((c.tc : Thread Cert.InProjReferenceIdeal.nD Cert.InProjReferenceIdeal.τ).loc Cert.InProjReferenceIdeal.main_v133) = v6 c
          ∧ r.2.mem ((c.tc : Thread Cert.InProjReferenceIdeal.nD Cert.InProjReferenceIdeal.τ).loc Cert.InProjReferenceIdeal.main_v134) = v7 c
          ∧ r.2.mem ((c.tc : Thread Cert.InProjReferenceIdeal.nD Cert.InProjReferenceIdeal.τ).loc Cert.InProjReferenceIdeal.main_v135) = v8 c
          ∧ r.2.mem ((c.tc : Thread Cert.InProjReferenceIdeal.nD Cert.InProjReferenceIdeal.τ).loc Cert.InProjReferenceIdeal.main_v136) = v9 c
          ∧ r.2.mem ((c.tc : Thread Cert.InProjReferenceIdeal.nD Cert.InProjReferenceIdeal.τ).loc Cert.InProjReferenceIdeal.main_v137) = v10 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2)
          ∧ r.2.mem ((c.tc : Thread Cert.InProjReferenceIdeal.nD Cert.InProjReferenceIdeal.τ).loc Cert.InProjReferenceIdeal.main_arg3) = m' ((c.tc : Thread Cert.InProjReferenceIdeal.nD Cert.InProjReferenceIdeal.τ).loc Cert.InProjReferenceIdeal.main_arg3)
          ∧ r.2.mem ((c.tc : Thread Cert.InProjReferenceIdeal.nD Cert.InProjReferenceIdeal.τ).loc Cert.InProjReferenceIdeal.main_arg4) = m' ((c.tc : Thread Cert.InProjReferenceIdeal.nD Cert.InProjReferenceIdeal.τ).loc Cert.InProjReferenceIdeal.main_arg4)
          ∧ r.2.mem ((c.tc : Thread Cert.InProjReferenceIdeal.nD Cert.InProjReferenceIdeal.τ).loc Cert.InProjReferenceIdeal.main_arg5) = m' ((c.tc : Thread Cert.InProjReferenceIdeal.nD Cert.InProjReferenceIdeal.τ).loc Cert.InProjReferenceIdeal.main_arg5)
          ∧ r.2.mem ((c.tc : Thread Cert.InProjReferenceIdeal.nD Cert.InProjReferenceIdeal.τ).loc Cert.InProjReferenceIdeal.main_arg6) = m' ((c.tc : Thread Cert.InProjReferenceIdeal.nD Cert.InProjReferenceIdeal.τ).loc Cert.InProjReferenceIdeal.main_arg6)
          ∧ r.2.mem ((c.tc : Thread Cert.InProjReferenceIdeal.nD Cert.InProjReferenceIdeal.τ).loc Cert.InProjReferenceIdeal.main_arg7) = m' ((c.tc : Thread Cert.InProjReferenceIdeal.nD Cert.InProjReferenceIdeal.τ).loc Cert.InProjReferenceIdeal.main_arg7)
          ∧ r.2.mem ((c.tc : Thread Cert.InProjReferenceIdeal.nD Cert.InProjReferenceIdeal.τ).loc Cert.InProjReferenceIdeal.main_arg8) = m' ((c.tc : Thread Cert.InProjReferenceIdeal.nD Cert.InProjReferenceIdeal.τ).loc Cert.InProjReferenceIdeal.main_arg8)
          ∧ r.2.mem ((c.tc : Thread Cert.InProjReferenceIdeal.nD Cert.InProjReferenceIdeal.τ).loc Cert.InProjReferenceIdeal.main_arg9) = m' ((c.tc : Thread Cert.InProjReferenceIdeal.nD Cert.InProjReferenceIdeal.τ).loc Cert.InProjReferenceIdeal.main_arg9))

def Claim : Prop :=
  ∃ (hKernel : Cert.Kernel.Facts) (hKernelIdeal : Cert.KernelIdeal.Facts) (hOutFfn : Cert.OutFfn.Facts) (hOutFfnIdeal : Cert.OutFfnIdeal.Facts) (hOutFfnReferenceIdeal : Cert.OutFfnReferenceIdeal.Facts) (hInProj : Cert.InProj.Facts) (hInProjIdeal : Cert.InProjIdeal.Facts) (hInProjReferenceIdeal : Cert.InProjReferenceIdeal.Facts),
    quiescent_Kernel (hKernel := hKernel)
    ∧ quiescent_KernelIdeal (hKernelIdeal := hKernelIdeal)
    ∧ quiescent_OutFfn (hOutFfn := hOutFfn)
    ∧ quiescent_OutFfnIdeal (hOutFfnIdeal := hOutFfnIdeal)
    ∧ quiescent_OutFfnReferenceIdeal (hOutFfnReferenceIdeal := hOutFfnReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ preserves_Kernel_KernelIdeal
    ∧ preserves_OutFfn_OutFfnIdeal
    ∧ algebraic_OutFfnIdeal_OutFfnReferenceIdeal (hOutFfnIdeal := hOutFfnIdeal) (hOutFfnReferenceIdeal := hOutFfnReferenceIdeal)
    ∧ preserves_InProj_InProjIdeal
    ∧ algebraic_InProjIdeal_InProjReferenceIdeal (hInProjIdeal := hInProjIdeal) (hInProjReferenceIdeal := hInProjReferenceIdeal)
-- ==== Kernel.lean ====
abbrev S2x8x8192x128 : Shape := ⟨4, ![2, 8, 8192, 128]⟩
abbrev S_ : Shape := ⟨0, ![]⟩
abbrev S2x8x128x8192 : Shape := ⟨4, ![2, 8, 128, 8192]⟩
abbrev S2x1024x8192 : Shape := ⟨3, ![2, 1024, 8192]⟩
abbrev S2x8x32x256x128 : Shape := ⟨5, ![2, 8, 32, 256, 128]⟩
abbrev S2x8x32x128x256 : Shape := ⟨5, ![2, 8, 32, 128, 256]⟩
abbrev S2x8x32x16x256 : Shape := ⟨5, ![2, 8, 32, 16, 256]⟩
abbrev S2x8x32x144x256 : Shape := ⟨5, ![2, 8, 32, 144, 256]⟩
abbrev S2x8192x1024 : Shape := ⟨3, ![2, 8192, 1024]⟩
abbrev S1x1024x256 : Shape := ⟨3, ![1, 1024, 256]⟩
abbrev S1x8x8192x128 : Shape := ⟨4, ![1, 8, 8192, 128]⟩
abbrev S1x8x32x144x256 : Shape := ⟨5, ![1, 8, 32, 144, 256]⟩
abbrev S1x256x1024 : Shape := ⟨3, ![1, 256, 1024]⟩
abbrev S8x64x128 : Shape := ⟨3, ![8, 64, 128]⟩
abbrev S8x256x256 : Shape := ⟨3, ![8, 256, 256]⟩
abbrev S8x1x256 : Shape := ⟨3, ![8, 1, 256]⟩
abbrev S8x144x256 : Shape := ⟨3, ![8, 144, 256]⟩
abbrev S2x8x256x256 : Shape := ⟨4, ![2, 8, 256, 256]⟩
abbrev S2x8x1x256 : Shape := ⟨4, ![2, 8, 1, 256]⟩
abbrev S1x1x8192x128 : Shape := ⟨4, ![1, 1, 8192, 128]⟩
abbrev S8192x128 : Shape := ⟨2, ![8192, 128]⟩
abbrev S32x256x128 : Shape := ⟨3, ![32, 256, 128]⟩
abbrev S32x128 : Shape := ⟨2, ![32, 128]⟩
abbrev S1x32x128 : Shape := ⟨3, ![1, 32, 128]⟩
abbrev S1x256 : Shape := ⟨2, ![1, 256]⟩
abbrev S1x1x256 : Shape := ⟨3, ![1, 1, 256]⟩
abbrev S144x256 : Shape := ⟨2, ![144, 256]⟩
abbrev S1x144x256 : Shape := ⟨3, ![1, 144, 256]⟩
abbrev S1x1x256x128 : Shape := ⟨4, ![1, 1, 256, 128]⟩
abbrev S256x128 : Shape := ⟨2, ![256, 128]⟩
abbrev S1x128x256 : Shape := ⟨3, ![1, 128, 256]⟩
abbrev S128x256 : Shape := ⟨2, ![128, 256]⟩
abbrev S256x256 : Shape := ⟨2, ![256, 256]⟩
abbrev S1x1x256x256 : Shape := ⟨4, ![1, 1, 256, 256]⟩
abbrev S256 : Shape := ⟨1, ![256]⟩
abbrev S1x1x1x256 : Shape := ⟨4, ![1, 1, 1, 256]⟩
abbrev S1x64x128 : Shape := ⟨3, ![1, 64, 128]⟩
abbrev S64x128 : Shape := ⟨2, ![64, 128]⟩
abbrev S64x256 : Shape := ⟨2, ![64, 256]⟩
abbrev S32x256 : Shape := ⟨2, ![32, 256]⟩
abbrev S1x32x256 : Shape := ⟨3, ![1, 32, 256]⟩
abbrev S96x256 : Shape := ⟨2, ![96, 256]⟩
abbrev S1x96x256 : Shape := ⟨3, ![1, 96, 256]⟩
abbrev S1x256x256 : Shape := ⟨3, ![1, 256, 256]⟩
abbrev S1x1x1x144x256 : Shape := ⟨5, ![1, 1, 1, 144, 256]⟩
abbrev S1x256x128 : Shape := ⟨3, ![1, 256, 128]⟩

abbrev nBuf : Space → Nat
  | .hbm => 17
  | .vmem => 14
  | .smem => 0
  | _ => 0

abbrev bufTy : (tb : Table) → Fin (tcTables nBuf tb) → BufTy
  | .hbm, ⟨0, _⟩ => ⟨S2x8x8192x128, .f32⟩
  | .hbm, ⟨1, _⟩ => ⟨S2x8x8192x128, .f32⟩
  | .hbm, ⟨2, _⟩ => ⟨S2x8x8192x128, .f32⟩
  | .hbm, ⟨3, _⟩ => ⟨S_, .f32⟩
  | .hbm, ⟨4, _⟩ => ⟨S2x8x8192x128, .f32⟩
  | .hbm, ⟨5, _⟩ => ⟨S2x8x8192x128, .f32⟩
  | .hbm, ⟨6, _⟩ => ⟨S2x8x128x8192, .f32⟩
  | .hbm, ⟨7, _⟩ => ⟨S2x1024x8192, .f32⟩
  | .hbm, ⟨8, _⟩ => ⟨S2x1024x8192, .bf16⟩
  | .hbm, ⟨9, _⟩ => ⟨S2x8x32x256x128, .f32⟩
  | .hbm, ⟨10, _⟩ => ⟨S2x8x32x128x256, .f32⟩
  | .hbm, ⟨11, _⟩ => ⟨S2x8x32x128x256, .bf16⟩
  | .hbm, ⟨12, _⟩ => ⟨S_, .bf16⟩
  | .hbm, ⟨13, _⟩ => ⟨S2x8x32x16x256, .bf16⟩
  | .hbm, ⟨14, _⟩ => ⟨S2x8x8192x128, .bf16⟩
  | .hbm, ⟨15, _⟩ => ⟨S2x8x32x144x256, .bf16⟩
  | .hbm, ⟨16, _⟩ => ⟨S2x8192x1024, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x8x8192x128, .bf16⟩
  | .local _ .vmem, ⟨3, _⟩ => ⟨S1x8x32x144x256, .bf16⟩
  | .local _ .vmem, ⟨4, _⟩ => ⟨S1x256x1024, .bf16⟩
  | .local _ .vmem, ⟨5, _⟩ => ⟨S1x256x1024, .bf16⟩
  | .local _ .vmem, ⟨6, _⟩ => ⟨S8x64x128, .bf16⟩
  | .local _ .vmem, ⟨7, _⟩ => ⟨S8x256x256, .bf16⟩
  | .local _ .vmem, ⟨8, _⟩ => ⟨S8x1x256, .f32⟩
  | .local _ .vmem, ⟨9, _⟩ => ⟨S8x144x256, .f32⟩
  | .local _ .vmem, ⟨10, _⟩ => ⟨S2x8x256x256, .f32⟩
  | .local _ .vmem, ⟨11, _⟩ => ⟨S2x8x1x256, .f32⟩
  | .local _ .vmem, ⟨12, _⟩ => ⟨S2x8x256x256, .bf16⟩
  | .local _ .vmem, ⟨13, _⟩ => ⟨S2x8x1x256, .f32⟩
  | _, _ => ⟨S2x8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![2, 1, 32], ![false, false, false]⟩

def k0_mult1 (i : grid0.Coords) : BitVec 32 :=
  let arg2 : BitVec 32 := BitVec.ofNat 32 (i 2).val
  let c256_i32 : BitVec 32 := 256#32
  let v11 : BitVec 32 := Scalar.muli arg2 c256_i32
  v11
def k0_off1 (i : grid0.Coords) : Fin 4 → Nat :=
  let c0_7 : Index := 0#32
  let c0_8 : Index := 0#32
  let arg2 : BitVec 32 := BitVec.ofNat 32 (i 2).val
  let c256_i32 : BitVec 32 := 256#32
  let v11 : BitVec 32 := Scalar.muli arg2 c256_i32
  let v12 : BitVec 32 := v11
  let v13 : Index := Scalar.indexCast v12
  let c0_9 : Index := 0#32
  ![0, 0, v13.toNat, 0]
def k0_mult2 (i : grid0.Coords) : BitVec 32 :=
  let arg2 : BitVec 32 := BitVec.ofNat 32 (i 2).val
  let c256_i32_31 : BitVec 32 := 256#32
  let v40 : BitVec 32 := Scalar.muli arg2 c256_i32_31
  v40
def k0_off2 (i : grid0.Coords) : Fin 4 → Nat :=
  let c0_32 : Index := 0#32
  let c1_33 : Index := 1#32
  let arg2 : BitVec 32 := BitVec.ofNat 32 (i 2).val
  let c256_i32_31 : BitVec 32 := 256#32
  let v40 : BitVec 32 := Scalar.muli arg2 c256_i32_31
  let v41 : BitVec 32 := v40
  let v42 : Index := Scalar.indexCast v41
  let c0_34 : Index := 0#32
  ![0, 1, v42.toNat, 0]
def k0_mult3 (i : grid0.Coords) : BitVec 32 :=
  let arg2 : BitVec 32 := BitVec.ofNat 32 (i 2).val
  let c256_i32_55 : BitVec 32 := 256#32
  let v69 : BitVec 32 := Scalar.muli arg2 c256_i32_55
  v69
def k0_off3 (i : grid0.Coords) : Fin 4 → Nat :=
  let c0_56 : Index := 0#32
  let c2_57 : Index := 2#32
  let arg2 : BitVec 32 := BitVec.ofNat 32 (i 2).val
  let c256_i32_55 : BitVec 32 := 256#32
  let v69 : BitVec 32 := Scalar.muli arg2 c256_i32_55
  let v70 : BitVec 32 := v69
  let v71 : Index := Scalar.indexCast v70
  let c0_58 : Index := 0#32
  ![0, 2, v71.toNat, 0]
def k0_mult4 (i : grid0.Coords) : BitVec 32 :=
  let arg2 : BitVec 32 := BitVec.ofNat 32 (i 2).val
  let c256_i32_79 : BitVec 32 := 256#32
  let v98 : BitVec 32 := Scalar.muli arg2 c256_i32_79
  v98
def k0_off4 (i : grid0.Coords) : Fin 4 → Nat :=
  let c0_80 : Index := 0#32
  let c3_81 : Index := 3#32
  let arg2 : BitVec 32 := BitVec.ofNat 32 (i 2).val
  let c256_i32_79 : BitVec 32 := 256#32
  let v98 : BitVec 32 := Scalar.muli arg2 c256_i32_79
  let v99 : BitVec 32 := v98
  let v100 : Index := Scalar.indexCast v99
  let c0_82 : Index := 0#32
  ![0, 3, v100.toNat, 0]
def k0_mult5 (i : grid0.Coords) : BitVec 32 :=
  let arg2 : BitVec 32 := BitVec.ofNat 32 (i 2).val
  let c256_i32_103 : BitVec 32 := 256#32
  let v127 : BitVec 32 := Scalar.muli arg2 c256_i32_103
  v127
def k0_off5 (i : grid0.Coords) : Fin 4 → Nat :=
  let c0_104 : Index := 0#32
  let c4_105 : Index := 4#32
  let arg2 : BitVec 32 := BitVec.ofNat 32 (i 2).val
  let c256_i32_103 : BitVec 32 := 256#32
  let v127 : BitVec 32 := Scalar.muli arg2 c256_i32_103
  let v128 : BitVec 32 := v127
  let v129 : Index := Scalar.indexCast v128
  let c0_106 : Index := 0#32
  ![0, 4, v129.toNat, 0]
def k0_mult6 (i : grid0.Coords) : BitVec 32 :=
  let arg2 : BitVec 32 := BitVec.ofNat 32 (i 2).val
  let c256_i32_127 : BitVec 32 := 256#32
  let v156 : BitVec 32 := Scalar.muli arg2 c256_i32_127
  v156
def k0_off6 (i : grid0.Coords) : Fin 4 → Nat :=
  let c0_128 : Index := 0#32
  let c5_129 : Index := 5#32
  let arg2 : BitVec 32 := BitVec.ofNat 32 (i 2).val
  let c256_i32_127 : BitVec 32 := 256#32
  let v156 : BitVec 32 := Scalar.muli arg2 c256_i32_127
  let v157 : BitVec 32 := v156
  let v158 : Index := Scalar.indexCast v157
  let c0_130 : Index := 0#32
  ![0, 5, v158.toNat, 0]
def k0_mult7 (i : grid0.Coords) : BitVec 32 :=
  let arg2 : BitVec 32 := BitVec.ofNat 32 (i 2).val
  let c256_i32_151 : BitVec 32 := 256#32
  let v185 : BitVec 32 := Scalar.muli arg2 c256_i32_151
  v185
def k0_off7 (i : grid0.Coords) : Fin 4 → Nat :=
  let c0_152 : Index := 0#32
  let c6_153 : Index := 6#32
  let arg2 : BitVec 32 := BitVec.ofNat 32 (i 2).val
  let c256_i32_151 : BitVec 32 := 256#32
  let v185 : BitVec 32 := Scalar.muli arg2 c256_i32_151
  let v186 : BitVec 32 := v185
  let v187 : Index := Scalar.indexCast v186
  let c0_154 : Index := 0#32
  ![0, 6, v187.toNat, 0]
def k0_mult8 (i : grid0.Coords) : BitVec 32 :=
  let arg2 : BitVec 32 := BitVec.ofNat 32 (i 2).val
  let c256_i32_175 : BitVec 32 := 256#32
  let v214 : BitVec 32 := Scalar.muli arg2 c256_i32_175
  v214
def k0_off8 (i : grid0.Coords) : Fin 4 → Nat :=
  let c0_176 : Index := 0#32
  let c7_177 : Index := 7#32
  let arg2 : BitVec 32 := BitVec.ofNat 32 (i 2).val
  let c256_i32_175 : BitVec 32 := 256#32
  let v214 : BitVec 32 := Scalar.muli arg2 c256_i32_175
  let v215 : BitVec 32 := v214
  let v216 : Index := Scalar.indexCast v215
  let c0_178 : Index := 0#32
  ![0, 7, v216.toNat, 0]
def k0_mult9 (i : grid0.Coords) : BitVec 32 :=
  let false_445 : BitVec 1 := 0#1
  let arg2 : BitVec 32 := BitVec.ofNat 32 (i 2).val
  let c0_i32_446 : BitVec 32 := 0#32
  let v763 : BitVec 32 := Scalar.select false_445 arg2 c0_i32_446
  let c31_i32 : BitVec 32 := 31#32
  let v764 : BitVec 32 := Scalar.minsi v763 c31_i32
  let c256_i32_447 : BitVec 32 := 256#32
  let v765 : BitVec 32 := Scalar.muli v764 c256_i32_447
  v765
def k0_off9 (i : grid0.Coords) (c0_i32_446 : BitVec 32) : Fin 4 → Nat :=
  let c0_450 : Index := 0#32
  let c0_451 : Index := 0#32
  let false_445 : BitVec 1 := 0#1
  let arg2 : BitVec 32 := BitVec.ofNat 32 (i 2).val
  let v763 : BitVec 32 := Scalar.select false_445 arg2 c0_i32_446
  let c31_i32 : BitVec 32 := 31#32
  let v764 : BitVec 32 := Scalar.minsi v763 c31_i32
  let c256_i32_447 : BitVec 32 := 256#32
  let v765 : BitVec 32 := Scalar.muli v764 c256_i32_447
  let v766 : BitVec 32 := v765
  let v774 : Index := Scalar.indexCast v766
  let c0_452 : Index := 0#32
  ![0, 0, v774.toNat, 0]
def k0_mult10 (i : grid0.Coords) : BitVec 32 :=
  let false_466 : BitVec 1 := 0#1
  let arg2 : BitVec 32 := BitVec.ofNat 32 (i 2).val
  let c0_i32_467 : BitVec 32 := 0#32
  let v789 : BitVec 32 := Scalar.select false_466 arg2 c0_i32_467
  let c31_i32_468 : BitVec 32 := 31#32
  let v790 : BitVec 32 := Scalar.minsi v789 c31_i32_468
  let c256_i32_469 : BitVec 32 := 256#32
  let v791 : BitVec 32 := Scalar.muli v790 c256_i32_469
  v791
def k0_off10 (i : grid0.Coords) (c0_i32_467 : BitVec 32) : Fin 4 → Nat :=
  let c0_472 : Index := 0#32
  let c1_473 : Index := 1#32
  let false_466 : BitVec 1 := 0#1
  let arg2 : BitVec 32 := BitVec.ofNat 32 (i 2).val
  let v789 : BitVec 32 := Scalar.select false_466 arg2 c0_i32_467
  let c31_i32_468 : BitVec 32 := 31#32
  let v790 : BitVec 32 := Scalar.minsi v789 c31_i32_468
  let c256_i32_469 : BitVec 32 := 256#32
  let v791 : BitVec 32 := Scalar.muli v790 c256_i32_469
  let v792 : BitVec 32 := v791
  let v800 : Index := Scalar.indexCast v792
  let c0_474 : Index := 0#32
  ![0, 1, v800.toNat, 0]
def k0_mult11 (i : grid0.Coords) : BitVec 32 :=
  let false_488 : BitVec 1 := 0#1
  let arg2 : BitVec 32 := BitVec.ofNat 32 (i 2).val
  let c0_i32_489 : BitVec 32 := 0#32
  let v815 : BitVec 32 := Scalar.select false_488 arg2 c0_i32_489
  let c31_i32_490 : BitVec 32 := 31#32
  let v816 : BitVec 32 := Scalar.minsi v815 c31_i32_490
  let c256_i32_491 : BitVec 32 := 256#32
  let v817 : BitVec 32 := Scalar.muli v816 c256_i32_491
  v817
def k0_off11 (i : grid0.Coords) (c0_i32_489 : BitVec 32) : Fin 4 → Nat :=
  let c0_494 : Index := 0#32
  let c2_495 : Index := 2#32
  let false_488 : BitVec 1 := 0#1
  let arg2 : BitVec 32 := BitVec.ofNat 32 (i 2).val
  let v815 : BitVec 32 := Scalar.select false_488 arg2 c0_i32_489
  let c31_i32_490 : BitVec 32 := 31#32
  let v816 : BitVec 32 := Scalar.minsi v815 c31_i32_490
  let c256_i32_491 : BitVec 32 := 256#32
  let v817 : BitVec 32 := Scalar.muli v816 c256_i32_491
  let v818 : BitVec 32 := v817
  let v826 : Index := Scalar.indexCast v818
  let c0_496 : Index := 0#32
  ![0, 2, v826.toNat, 0]
def k0_mult12 (i : grid0.Coords) : BitVec 32 :=
  let false_510 : BitVec 1 := 0#1
  let arg2 : BitVec 32 := BitVec.ofNat 32 (i 2).val
  let c0_i32_511 : BitVec 32 := 0#32
  let v841 : BitVec 32 := Scalar.select false_510 arg2 c0_i32_511
  let c31_i32_512 : BitVec 32 := 31#32
  let v842 : BitVec 32 := Scalar.minsi v841 c31_i32_512
  let c256_i32_513 : BitVec 32 := 256#32
  let v843 : BitVec 32 := Scalar.muli v842 c256_i32_513
  v843
def k0_off12 (i : grid0.Coords) (c0_i32_511 : BitVec 32) : Fin 4 → Nat :=
  let c0_516 : Index := 0#32
  let c3_517 : Index := 3#32
  let false_510 : BitVec 1 := 0#1
  let arg2 : BitVec 32 := BitVec.ofNat 32 (i 2).val
  let v841 : BitVec 32 := Scalar.select false_510 arg2 c0_i32_511
  let c31_i32_512 : BitVec 32 := 31#32
  let v842 : BitVec 32 := Scalar.minsi v841 c31_i32_512
  let c256_i32_513 : BitVec 32 := 256#32
  let v843 : BitVec 32 := Scalar.muli v842 c256_i32_513
  let v844 : BitVec 32 := v843
  let v852 : Index := Scalar.indexCast v844
  let c0_518 : Index := 0#32
  ![0, 3, v852.toNat, 0]
def k0_mult13 (i : grid0.Coords) : BitVec 32 :=
  let false_532 : BitVec 1 := 0#1
  let arg2 : BitVec 32 := BitVec.ofNat 32 (i 2).val
  let c0_i32_533 : BitVec 32 := 0#32
  let v867 : BitVec 32 := Scalar.select false_532 arg2 c0_i32_533
  let c31_i32_534 : BitVec 32 := 31#32
  let v868 : BitVec 32 := Scalar.minsi v867 c31_i32_534
  let c256_i32_535 : BitVec 32 := 256#32
  let v869 : BitVec 32 := Scalar.muli v868 c256_i32_535
  v869
def k0_off13 (i : grid0.Coords) (c0_i32_533 : BitVec 32) : Fin 4 → Nat :=
  let c0_538 : Index := 0#32
  let c4_539 : Index := 4#32
  let false_532 : BitVec 1 := 0#1
  let arg2 : BitVec 32 := BitVec.ofNat 32 (i 2).val
  let v867 : BitVec 32 := Scalar.select false_532 arg2 c0_i32_533
  let c31_i32_534 : BitVec 32 := 31#32
  let v868 : BitVec 32 := Scalar.minsi v867 c31_i32_534
  let c256_i32_535 : BitVec 32 := 256#32
  let v869 : BitVec 32 := Scalar.muli v868 c256_i32_535
  let v870 : BitVec 32 := v869
  let v878 : Index := Scalar.indexCast v870
  let c0_540 : Index := 0#32
  ![0, 4, v878.toNat, 0]
def k0_mult14 (i : grid0.Coords) : BitVec 32 :=
  let false_554 : BitVec 1 := 0#1
  let arg2 : BitVec 32 := BitVec.ofNat 32 (i 2).val
  let c0_i32_555 : BitVec 32 := 0#32
  let v893 : BitVec 32 := Scalar.select false_554 arg2 c0_i32_555
  let c31_i32_556 : BitVec 32 := 31#32
  let v894 : BitVec 32 := Scalar.minsi v893 c31_i32_556
  let c256_i32_557 : BitVec 32 := 256#32
  let v895 : BitVec 32 := Scalar.muli v894 c256_i32_557
  v895
def k0_off14 (i : grid0.Coords) (c0_i32_555 : BitVec 32) : Fin 4 → Nat :=
  let c0_560 : Index := 0#32
  let c5_561 : Index := 5#32
  let false_554 : BitVec 1 := 0#1
  let arg2 : BitVec 32 := BitVec.ofNat 32 (i 2).val
  let v893 : BitVec 32 := Scalar.select false_554 arg2 c0_i32_555
  let c31_i32_556 : BitVec 32 := 31#32
  let v894 : BitVec 32 := Scalar.minsi v893 c31_i32_556
  let c256_i32_557 : BitVec 32 := 256#32
  let v895 : BitVec 32 := Scalar.muli v894 c256_i32_557
  let v896 : BitVec 32 := v895
  let v904 : Index := Scalar.indexCast v896
  let c0_562 : Index := 0#32
  ![0, 5, v904.toNat, 0]
def k0_mult15 (i : grid0.Coords) : BitVec 32 :=
  let false_576 : BitVec 1 := 0#1
  let arg2 : BitVec 32 := BitVec.ofNat 32 (i 2).val
  let c0_i32_577 : BitVec 32 := 0#32
  let v919 : BitVec 32 := Scalar.select false_576 arg2 c0_i32_577
  let c31_i32_578 : BitVec 32 := 31#32
  let v920 : BitVec 32 := Scalar.minsi v919 c31_i32_578
  let c256_i32_579 : BitVec 32 := 256#32
  let v921 : BitVec 32 := Scalar.muli v920 c256_i32_579
  v921
def k0_off15 (i : grid0.Coords) (c0_i32_577 : BitVec 32) : Fin 4 → Nat :=
  let c0_582 : Index := 0#32
  let c6_583 : Index := 6#32
  let false_576 : BitVec 1 := 0#1
  let arg2 : BitVec 32 := BitVec.ofNat 32 (i 2).val
  let v919 : BitVec 32 := Scalar.select false_576 arg2 c0_i32_577
  let c31_i32_578 : BitVec 32 := 31#32
  let v920 : BitVec 32 := Scalar.minsi v919 c31_i32_578
  let c256_i32_579 : BitVec 32 := 256#32
  let v921 : BitVec 32 := Scalar.muli v920 c256_i32_579
  let v922 : BitVec 32 := v921
  let v930 : Index := Scalar.indexCast v922
  let c0_584 : Index := 0#32
  ![0, 6, v930.toNat, 0]
def k0_mult16 (i : grid0.Coords) : BitVec 32 :=
  let false_598 : BitVec 1 := 0#1
  let arg2 : BitVec 32 := BitVec.ofNat 32 (i 2).val
  let c0_i32_599 : BitVec 32 := 0#32
  let v945 : BitVec 32 := Scalar.select false_598 arg2 c0_i32_599
  let c31_i32_600 : BitVec 32 := 31#32
  let v946 : BitVec 32 := Scalar.minsi v945 c31_i32_600
  let c256_i32_601 : BitVec 32 := 256#32
  let v947 : BitVec 32 := Scalar.muli v946 c256_i32_601
  v947
def k0_off16 (i : grid0.Coords) (c0_i32_599 : BitVec 32) : Fin 4 → Nat :=
  let c0_604 : Index := 0#32
  let c7_605 : Index := 7#32
  let false_598 : BitVec 1 := 0#1
  let arg2 : BitVec 32 := BitVec.ofNat 32 (i 2).val
  let v945 : BitVec 32 := Scalar.select false_598 arg2 c0_i32_599
  let c31_i32_600 : BitVec 32 := 31#32
  let v946 : BitVec 32 := Scalar.minsi v945 c31_i32_600
  let c256_i32_601 : BitVec 32 := 256#32
  let v947 : BitVec 32 := Scalar.muli v946 c256_i32_601
  let v948 : BitVec 32 := v947
  let v956 : Index := Scalar.indexCast v948
  let c0_606 : Index := 0#32
  ![0, 7, v956.toNat, 0]
def k0_mult17 (i : grid0.Coords) : BitVec 32 :=
  let false_642 : BitVec 1 := 0#1
  let arg2 : BitVec 32 := BitVec.ofNat 32 (i 2).val
  let c1_i32 : BitVec 32 := 1#32
  let v993 : BitVec 32 := Scalar.select false_642 arg2 c1_i32
  let c31_i32_643 : BitVec 32 := 31#32
  let v994 : BitVec 32 := Scalar.minsi v993 c31_i32_643
  let c256_i32_644 : BitVec 32 := 256#32
  let v995 : BitVec 32 := Scalar.muli v994 c256_i32_644
  v995
def k0_mult18 (i : grid0.Coords) : BitVec 32 :=
  let false_685 : BitVec 1 := 0#1
  let arg2 : BitVec 32 := BitVec.ofNat 32 (i 2).val
  let c2_i32 : BitVec 32 := 2#32
  let v1041 : BitVec 32 := Scalar.select false_685 arg2 c2_i32
  let c31_i32_686 : BitVec 32 := 31#32
  let v1042 : BitVec 32 := Scalar.minsi v1041 c31_i32_686
  let c256_i32_687 : BitVec 32 := 256#32
  let v1043 : BitVec 32 := Scalar.muli v1042 c256_i32_687
  v1043
def k0_mult19 (i : grid0.Coords) : BitVec 32 :=
  let false_728 : BitVec 1 := 0#1
  let arg2 : BitVec 32 := BitVec.ofNat 32 (i 2).val
  let c1_i32_729 : BitVec 32 := 1#32
  let v1089 : BitVec 32 := Scalar.select false_728 arg2 c1_i32_729
  let c31_i32_730 : BitVec 32 := 31#32
  let v1090 : BitVec 32 := Scalar.minsi v1089 c31_i32_730
  let c256_i32_731 : BitVec 32 := 256#32
  let v1091 : BitVec 32 := Scalar.muli v1090 c256_i32_731
  v1091
def k0_mult20 (i : grid0.Coords) : BitVec 32 :=
  let false_772 : BitVec 1 := 0#1
  let arg2 : BitVec 32 := BitVec.ofNat 32 (i 2).val
  let c2_i32_773 : BitVec 32 := 2#32
  let v1137 : BitVec 32 := Scalar.select false_772 arg2 c2_i32_773
  let c31_i32_774 : BitVec 32 := 31#32
  let v1138 : BitVec 32 := Scalar.minsi v1137 c31_i32_774
  let c256_i32_775 : BitVec 32 := 256#32
  let v1139 : BitVec 32 := Scalar.muli v1138 c256_i32_775
  v1139
def k0_mult21 (i : grid0.Coords) : BitVec 32 :=
  let false_816 : BitVec 1 := 0#1
  let arg2 : BitVec 32 := BitVec.ofNat 32 (i 2).val
  let c1_i32_817 : BitVec 32 := 1#32
  let v1185 : BitVec 32 := Scalar.select false_816 arg2 c1_i32_817
  let c31_i32_818 : BitVec 32 := 31#32
  let v1186 : BitVec 32 := Scalar.minsi v1185 c31_i32_818
  let c256_i32_819 : BitVec 32 := 256#32
  let v1187 : BitVec 32 := Scalar.muli v1186 c256_i32_819
  v1187
def k0_mult22 (i : grid0.Coords) : BitVec 32 :=
  let false_860 : BitVec 1 := 0#1
  let arg2 : BitVec 32 := BitVec.ofNat 32 (i 2).val
  let c2_i32_861 : BitVec 32 := 2#32
  let v1233 : BitVec 32 := Scalar.select false_860 arg2 c2_i32_861
  let c31_i32_862 : BitVec 32 := 31#32
  let v1234 : BitVec 32 := Scalar.minsi v1233 c31_i32_862
  let c256_i32_863 : BitVec 32 := 256#32
  let v1235 : BitVec 32 := Scalar.muli v1234 c256_i32_863
  v1235
def k0_mult23 (i : grid0.Coords) : BitVec 32 :=
  let false_904 : BitVec 1 := 0#1
  let arg2 : BitVec 32 := BitVec.ofNat 32 (i 2).val
  let c1_i32_905 : BitVec 32 := 1#32
  let v1281 : BitVec 32 := Scalar.select false_904 arg2 c1_i32_905
  let c31_i32_906 : BitVec 32 := 31#32
  let v1282 : BitVec 32 := Scalar.minsi v1281 c31_i32_906
  let c256_i32_907 : BitVec 32 := 256#32
  let v1283 : BitVec 32 := Scalar.muli v1282 c256_i32_907
  v1283
def k0_mult24 (i : grid0.Coords) : BitVec 32 :=
  let false_948 : BitVec 1 := 0#1
  let arg2 : BitVec 32 := BitVec.ofNat 32 (i 2).val
  let c2_i32_949 : BitVec 32 := 2#32
  let v1329 : BitVec 32 := Scalar.select false_948 arg2 c2_i32_949
  let c31_i32_950 : BitVec 32 := 31#32
  let v1330 : BitVec 32 := Scalar.minsi v1329 c31_i32_950
  let c256_i32_951 : BitVec 32 := 256#32
  let v1331 : BitVec 32 := Scalar.muli v1330 c256_i32_951
  v1331
def k0_mult25 (i : grid0.Coords) : BitVec 32 :=
  let false_992 : BitVec 1 := 0#1
  let arg2 : BitVec 32 := BitVec.ofNat 32 (i 2).val
  let c1_i32_993 : BitVec 32 := 1#32
  let v1377 : BitVec 32 := Scalar.select false_992 arg2 c1_i32_993
  let c31_i32_994 : BitVec 32 := 31#32
  let v1378 : BitVec 32 := Scalar.minsi v1377 c31_i32_994
  let c256_i32_995 : BitVec 32 := 256#32
  let v1379 : BitVec 32 := Scalar.muli v1378 c256_i32_995
  v1379
def k0_mult26 (i : grid0.Coords) : BitVec 32 :=
  let false_1036 : BitVec 1 := 0#1
  let arg2 : BitVec 32 := BitVec.ofNat 32 (i 2).val
  let c2_i32_1037 : BitVec 32 := 2#32
  let v1425 : BitVec 32 := Scalar.select false_1036 arg2 c2_i32_1037
  let c31_i32_1038 : BitVec 32 := 31#32
  let v1426 : BitVec 32 := Scalar.minsi v1425 c31_i32_1038
  let c256_i32_1039 : BitVec 32 := 256#32
  let v1427 : BitVec 32 := Scalar.muli v1426 c256_i32_1039
  v1427
def k0_mult27 (i : grid0.Coords) : BitVec 32 :=
  let false_1080 : BitVec 1 := 0#1
  let arg2 : BitVec 32 := BitVec.ofNat 32 (i 2).val
  let c1_i32_1081 : BitVec 32 := 1#32
  let v1473 : BitVec 32 := Scalar.select false_1080 arg2 c1_i32_1081
  let c31_i32_1082 : BitVec 32 := 31#32
  let v1474 : BitVec 32 := Scalar.minsi v1473 c31_i32_1082
  let c256_i32_1083 : BitVec 32 := 256#32
  let v1475 : BitVec 32 := Scalar.muli v1474 c256_i32_1083
  v1475
def k0_mult28 (i : grid0.Coords) : BitVec 32 :=
  let false_1124 : BitVec 1 := 0#1
  let arg2 : BitVec 32 := BitVec.ofNat 32 (i 2).val
  let c2_i32_1125 : BitVec 32 := 2#32
  let v1521 : BitVec 32 := Scalar.select false_1124 arg2 c2_i32_1125
  let c31_i32_1126 : BitVec 32 := 31#32
  let v1522 : BitVec 32 := Scalar.minsi v1521 c31_i32_1126
  let c256_i32_1127 : BitVec 32 := 256#32
  let v1523 : BitVec 32 := Scalar.muli v1522 c256_i32_1127
  v1523
def k0_mult29 (i : grid0.Coords) : BitVec 32 :=
  let false_1168 : BitVec 1 := 0#1
  let arg2 : BitVec 32 := BitVec.ofNat 32 (i 2).val
  let c1_i32_1169 : BitVec 32 := 1#32
  let v1569 : BitVec 32 := Scalar.select false_1168 arg2 c1_i32_1169
  let c31_i32_1170 : BitVec 32 := 31#32
  let v1570 : BitVec 32 := Scalar.minsi v1569 c31_i32_1170
  let c256_i32_1171 : BitVec 32 := 256#32
  let v1571 : BitVec 32 := Scalar.muli v1570 c256_i32_1171
  v1571
def k0_mult30 (i : grid0.Coords) : BitVec 32 :=
  let false_1212 : BitVec 1 := 0#1
  let arg2 : BitVec 32 := BitVec.ofNat 32 (i 2).val
  let c2_i32_1213 : BitVec 32 := 2#32
  let v1617 : BitVec 32 := Scalar.select false_1212 arg2 c2_i32_1213
  let c31_i32_1214 : BitVec 32 := 31#32
  let v1618 : BitVec 32 := Scalar.minsi v1617 c31_i32_1214
  let c256_i32_1215 : BitVec 32 := 256#32
  let v1619 : BitVec 32 := Scalar.muli v1618 c256_i32_1215
  v1619
def k0_mult31 (i : grid0.Coords) : BitVec 32 :=
  let false_1256 : BitVec 1 := 0#1
  let arg2 : BitVec 32 := BitVec.ofNat 32 (i 2).val
  let c1_i32_1257 : BitVec 32 := 1#32
  let v1665 : BitVec 32 := Scalar.select false_1256 arg2 c1_i32_1257
  let c31_i32_1258 : BitVec 32 := 31#32
  let v1666 : BitVec 32 := Scalar.minsi v1665 c31_i32_1258
  let c256_i32_1259 : BitVec 32 := 256#32
  let v1667 : BitVec 32 := Scalar.muli v1666 c256_i32_1259
  v1667
def k0_mult32 (i : grid0.Coords) : BitVec 32 :=
  let false_1300 : BitVec 1 := 0#1
  let arg2 : BitVec 32 := BitVec.ofNat 32 (i 2).val
  let c2_i32_1301 : BitVec 32 := 2#32
  let v1713 : BitVec 32 := Scalar.select false_1300 arg2 c2_i32_1301
  let c31_i32_1302 : BitVec 32 := 31#32
  let v1714 : BitVec 32 := Scalar.minsi v1713 c31_i32_1302
  let c256_i32_1303 : BitVec 32 := 256#32
  let v1715 : BitVec 32 := Scalar.muli v1714 c256_i32_1303
  v1715
@[reducible] def k0_t1_loop (i : grid0.Coords) : Scf.Loop 32 :=
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1335 : BitVec 32 := 1#32
  ⟨c0_i32_1333, v1763, c1_i32_1335⟩
def k0_off17 (i : grid0.Coords) (k0_t1 : Fin (k0_t1_loop i).trips) (c0_i32_2523 : BitVec 32) : Fin 5 → Nat :=
  let c0_2527 : Index := 0#32
  let c0_2528 : Index := 0#32
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let v2910 : BitVec 32 := Scalar.addi v2909 c0_i32_2523
  let c0_i32_2524 : BitVec 32 := 0#32
  let v2911 : BitVec 1 := Scalar.cmpi .eq v2910 c0_i32_2524
  let arg2 : BitVec 32 := BitVec.ofNat 32 (i 2).val
  let c1_i32_2525 : BitVec 32 := 1#32
  let v2912 : BitVec 32 := Scalar.subi v2910 c1_i32_2525
  let v2913 : BitVec 32 := Scalar.select v2911 arg2 v2912
  let c31_i32_2526 : BitVec 32 := 31#32
  let v2914 : BitVec 32 := Scalar.minsi v2913 c31_i32_2526
  let v2915 : Index := Scalar.indexCast v2914
  let c0_2529 : Index := 0#32
  let c0_2530 : Index := 0#32
  ![0, 0, v2915.toNat, 0, 0]
def k0_mult33 (i : grid0.Coords) (k0_t1 : Fin (k0_t1_loop i).trips) : BitVec 32 :=
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32 : BitVec 32 := 4#32
  let v2953 : BitVec 32 := Scalar.addi v2909 c4_i32
  let c0_i32_2568 : BitVec 32 := 0#32
  let v2954 : BitVec 32 := Scalar.addi v2953 c0_i32_2568
  let c0_i32_2569 : BitVec 32 := 0#32
  let v2955 : BitVec 1 := Scalar.cmpi .eq v2954 c0_i32_2569
  let arg2 : BitVec 32 := BitVec.ofNat 32 (i 2).val
  let c1_i32_2570 : BitVec 32 := 1#32
  let v2956 : BitVec 32 := Scalar.subi v2954 c1_i32_2570
  let v2957 : BitVec 32 := Scalar.select v2955 arg2 v2956
  let c31_i32_2571 : BitVec 32 := 31#32
  let v2958 : BitVec 32 := Scalar.minsi v2957 c31_i32_2571
  let c256_i32_2572 : BitVec 32 := 256#32
  let v2959 : BitVec 32 := Scalar.muli v2958 c256_i32_2572
  v2959
def k0_off18 (i : grid0.Coords) (k0_t1 : Fin (k0_t1_loop i).trips) (c0_i32_2568 : BitVec 32) : Fin 4 → Nat :=
  let c0_2575 : Index := 0#32
  let c0_2576 : Index := 0#32
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32 : BitVec 32 := 4#32
  let v2953 : BitVec 32 := Scalar.addi v2909 c4_i32
  let v2954 : BitVec 32 := Scalar.addi v2953 c0_i32_2568
  let c0_i32_2569 : BitVec 32 := 0#32
  let v2955 : BitVec 1 := Scalar.cmpi .eq v2954 c0_i32_2569
  let arg2 : BitVec 32 := BitVec.ofNat 32 (i 2).val
  let c1_i32_2570 : BitVec 32 := 1#32
  let v2956 : BitVec 32 := Scalar.subi v2954 c1_i32_2570
  let v2957 : BitVec 32 := Scalar.select v2955 arg2 v2956
  let c31_i32_2571 : BitVec 32 := 31#32
  let v2958 : BitVec 32 := Scalar.minsi v2957 c31_i32_2571
  let c256_i32_2572 : BitVec 32 := 256#32
  let v2959 : BitVec 32 := Scalar.muli v2958 c256_i32_2572
  let v2960 : BitVec 32 := v2959
  let v2968 : Index := Scalar.indexCast v2960
  let c0_2577 : Index := 0#32
  ![0, 0, v2968.toNat, 0]
def k0_mult34 (i : grid0.Coords) (k0_t1 : Fin (k0_t1_loop i).trips) : BitVec 32 :=
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_2636 : BitVec 32 := 4#32
  let v3026 : BitVec 32 := Scalar.addi v2909 c4_i32_2636
  let c1_i32_2637 : BitVec 32 := 1#32
  let v3027 : BitVec 32 := Scalar.addi v3026 c1_i32_2637
  let c0_i32_2638 : BitVec 32 := 0#32
  let v3028 : BitVec 1 := Scalar.cmpi .eq v3027 c0_i32_2638
  let arg2 : BitVec 32 := BitVec.ofNat 32 (i 2).val
  let c1_i32_2639 : BitVec 32 := 1#32
  let v3029 : BitVec 32 := Scalar.subi v3027 c1_i32_2639
  let v3030 : BitVec 32 := Scalar.select v3028 arg2 v3029
  let c31_i32_2640 : BitVec 32 := 31#32
  let v3031 : BitVec 32 := Scalar.minsi v3030 c31_i32_2640
  let c256_i32_2641 : BitVec 32 := 256#32
  let v3032 : BitVec 32 := Scalar.muli v3031 c256_i32_2641
  v3032
def k0_off19 (i : grid0.Coords) (k0_t1 : Fin (k0_t1_loop i).trips) (c0_i32_2660 : BitVec 32) : Fin 5 → Nat :=
  let c0_2664 : Index := 0#32
  let c1_2665 : Index := 1#32
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let v3056 : BitVec 32 := Scalar.addi v2909 c0_i32_2660
  let c0_i32_2661 : BitVec 32 := 0#32
  let v3057 : BitVec 1 := Scalar.cmpi .eq v3056 c0_i32_2661
  let arg2 : BitVec 32 := BitVec.ofNat 32 (i 2).val
  let c1_i32_2662 : BitVec 32 := 1#32
  let v3058 : BitVec 32 := Scalar.subi v3056 c1_i32_2662
  let v3059 : BitVec 32 := Scalar.select v3057 arg2 v3058
  let c31_i32_2663 : BitVec 32 := 31#32
  let v3060 : BitVec 32 := Scalar.minsi v3059 c31_i32_2663
  let v3061 : Index := Scalar.indexCast v3060
  let c0_2666 : Index := 0#32
  let c0_2667 : Index := 0#32
  ![0, 1, v3061.toNat, 0, 0]
def k0_mult35 (i : grid0.Coords) (k0_t1 : Fin (k0_t1_loop i).trips) : BitVec 32 :=
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_2705 : BitVec 32 := 4#32
  let v3099 : BitVec 32 := Scalar.addi v2909 c4_i32_2705
  let c0_i32_2706 : BitVec 32 := 0#32
  let v3100 : BitVec 32 := Scalar.addi v3099 c0_i32_2706
  let c0_i32_2707 : BitVec 32 := 0#32
  let v3101 : BitVec 1 := Scalar.cmpi .eq v3100 c0_i32_2707
  let arg2 : BitVec 32 := BitVec.ofNat 32 (i 2).val
  let c1_i32_2708 : BitVec 32 := 1#32
  let v3102 : BitVec 32 := Scalar.subi v3100 c1_i32_2708
  let v3103 : BitVec 32 := Scalar.select v3101 arg2 v3102
  let c31_i32_2709 : BitVec 32 := 31#32
  let v3104 : BitVec 32 := Scalar.minsi v3103 c31_i32_2709
  let c256_i32_2710 : BitVec 32 := 256#32
  let v3105 : BitVec 32 := Scalar.muli v3104 c256_i32_2710
  v3105
def k0_off20 (i : grid0.Coords) (k0_t1 : Fin (k0_t1_loop i).trips) (c0_i32_2706 : BitVec 32) : Fin 4 → Nat :=
  let c0_2713 : Index := 0#32
  let c1_2714 : Index := 1#32
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_2705 : BitVec 32 := 4#32
  let v3099 : BitVec 32 := Scalar.addi v2909 c4_i32_2705
  let v3100 : BitVec 32 := Scalar.addi v3099 c0_i32_2706
  let c0_i32_2707 : BitVec 32 := 0#32
  let v3101 : BitVec 1 := Scalar.cmpi .eq v3100 c0_i32_2707
  let arg2 : BitVec 32 := BitVec.ofNat 32 (i 2).val
  let c1_i32_2708 : BitVec 32 := 1#32
  let v3102 : BitVec 32 := Scalar.subi v3100 c1_i32_2708
  let v3103 : BitVec 32 := Scalar.select v3101 arg2 v3102
  let c31_i32_2709 : BitVec 32 := 31#32
  let v3104 : BitVec 32 := Scalar.minsi v3103 c31_i32_2709
  let c256_i32_2710 : BitVec 32 := 256#32
  let v3105 : BitVec 32 := Scalar.muli v3104 c256_i32_2710
  let v3106 : BitVec 32 := v3105
  let v3114 : Index := Scalar.indexCast v3106
  let c0_2715 : Index := 0#32
  ![0, 1, v3114.toNat, 0]
def k0_mult36 (i : grid0.Coords) (k0_t1 : Fin (k0_t1_loop i).trips) : BitVec 32 :=
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_2774 : BitVec 32 := 4#32
  let v3172 : BitVec 32 := Scalar.addi v2909 c4_i32_2774
  let c1_i32_2775 : BitVec 32 := 1#32
  let v3173 : BitVec 32 := Scalar.addi v3172 c1_i32_2775
  let c0_i32_2776 : BitVec 32 := 0#32
  let v3174 : BitVec 1 := Scalar.cmpi .eq v3173 c0_i32_2776
  let arg2 : BitVec 32 := BitVec.ofNat 32 (i 2).val
  let c1_i32_2777 : BitVec 32 := 1#32
  let v3175 : BitVec 32 := Scalar.subi v3173 c1_i32_2777
  let v3176 : BitVec 32 := Scalar.select v3174 arg2 v3175
  let c31_i32_2778 : BitVec 32 := 31#32
  let v3177 : BitVec 32 := Scalar.minsi v3176 c31_i32_2778
  let c256_i32_2779 : BitVec 32 := 256#32
  let v3178 : BitVec 32 := Scalar.muli v3177 c256_i32_2779
  v3178
def k0_off21 (i : grid0.Coords) (k0_t1 : Fin (k0_t1_loop i).trips) (c0_i32_2798 : BitVec 32) : Fin 5 → Nat :=
  let c0_2802 : Index := 0#32
  let c2_2803 : Index := 2#32
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let v3202 : BitVec 32 := Scalar.addi v2909 c0_i32_2798
  let c0_i32_2799 : BitVec 32 := 0#32
  let v3203 : BitVec 1 := Scalar.cmpi .eq v3202 c0_i32_2799
  let arg2 : BitVec 32 := BitVec.ofNat 32 (i 2).val
  let c1_i32_2800 : BitVec 32 := 1#32
  let v3204 : BitVec 32 := Scalar.subi v3202 c1_i32_2800
  let v3205 : BitVec 32 := Scalar.select v3203 arg2 v3204
  let c31_i32_2801 : BitVec 32 := 31#32
  let v3206 : BitVec 32 := Scalar.minsi v3205 c31_i32_2801
  let v3207 : Index := Scalar.indexCast v3206
  let c0_2804 : Index := 0#32
  let c0_2805 : Index := 0#32
  ![0, 2, v3207.toNat, 0, 0]
def k0_mult37 (i : grid0.Coords) (k0_t1 : Fin (k0_t1_loop i).trips) : BitVec 32 :=
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_2843 : BitVec 32 := 4#32
  let v3245 : BitVec 32 := Scalar.addi v2909 c4_i32_2843
  let c0_i32_2844 : BitVec 32 := 0#32
  let v3246 : BitVec 32 := Scalar.addi v3245 c0_i32_2844
  let c0_i32_2845 : BitVec 32 := 0#32
  let v3247 : BitVec 1 := Scalar.cmpi .eq v3246 c0_i32_2845
  let arg2 : BitVec 32 := BitVec.ofNat 32 (i 2).val
  let c1_i32_2846 : BitVec 32 := 1#32
  let v3248 : BitVec 32 := Scalar.subi v3246 c1_i32_2846
  let v3249 : BitVec 32 := Scalar.select v3247 arg2 v3248
  let c31_i32_2847 : BitVec 32 := 31#32
  let v3250 : BitVec 32 := Scalar.minsi v3249 c31_i32_2847
  let c256_i32_2848 : BitVec 32 := 256#32
  let v3251 : BitVec 32 := Scalar.muli v3250 c256_i32_2848
  v3251
def k0_off22 (i : grid0.Coords) (k0_t1 : Fin (k0_t1_loop i).trips) (c0_i32_2844 : BitVec 32) : Fin 4 → Nat :=
  let c0_2851 : Index := 0#32
  let c2_2852 : Index := 2#32
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_2843 : BitVec 32 := 4#32
  let v3245 : BitVec 32 := Scalar.addi v2909 c4_i32_2843
  let v3246 : BitVec 32 := Scalar.addi v3245 c0_i32_2844
  let c0_i32_2845 : BitVec 32 := 0#32
  let v3247 : BitVec 1 := Scalar.cmpi .eq v3246 c0_i32_2845
  let arg2 : BitVec 32 := BitVec.ofNat 32 (i 2).val
  let c1_i32_2846 : BitVec 32 := 1#32
  let v3248 : BitVec 32 := Scalar.subi v3246 c1_i32_2846
  let v3249 : BitVec 32 := Scalar.select v3247 arg2 v3248
  let c31_i32_2847 : BitVec 32 := 31#32
  let v3250 : BitVec 32 := Scalar.minsi v3249 c31_i32_2847
  let c256_i32_2848 : BitVec 32 := 256#32
  let v3251 : BitVec 32 := Scalar.muli v3250 c256_i32_2848
  let v3252 : BitVec 32 := v3251
  let v3260 : Index := Scalar.indexCast v3252
  let c0_2853 : Index := 0#32
  ![0, 2, v3260.toNat, 0]
def k0_mult38 (i : grid0.Coords) (k0_t1 : Fin (k0_t1_loop i).trips) : BitVec 32 :=
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_2912 : BitVec 32 := 4#32
  let v3318 : BitVec 32 := Scalar.addi v2909 c4_i32_2912
  let c1_i32_2913 : BitVec 32 := 1#32
  let v3319 : BitVec 32 := Scalar.addi v3318 c1_i32_2913
  let c0_i32_2914 : BitVec 32 := 0#32
  let v3320 : BitVec 1 := Scalar.cmpi .eq v3319 c0_i32_2914
  let arg2 : BitVec 32 := BitVec.ofNat 32 (i 2).val
  let c1_i32_2915 : BitVec 32 := 1#32
  let v3321 : BitVec 32 := Scalar.subi v3319 c1_i32_2915
  let v3322 : BitVec 32 := Scalar.select v3320 arg2 v3321
  let c31_i32_2916 : BitVec 32 := 31#32
  let v3323 : BitVec 32 := Scalar.minsi v3322 c31_i32_2916
  let c256_i32_2917 : BitVec 32 := 256#32
  let v3324 : BitVec 32 := Scalar.muli v3323 c256_i32_2917
  v3324
def k0_off23 (i : grid0.Coords) (k0_t1 : Fin (k0_t1_loop i).trips) (c0_i32_2936 : BitVec 32) : Fin 5 → Nat :=
  let c0_2940 : Index := 0#32
  let c3_2941 : Index := 3#32
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let v3348 : BitVec 32 := Scalar.addi v2909 c0_i32_2936
  let c0_i32_2937 : BitVec 32 := 0#32
  let v3349 : BitVec 1 := Scalar.cmpi .eq v3348 c0_i32_2937
  let arg2 : BitVec 32 := BitVec.ofNat 32 (i 2).val
  let c1_i32_2938 : BitVec 32 := 1#32
  let v3350 : BitVec 32 := Scalar.subi v3348 c1_i32_2938
  let v3351 : BitVec 32 := Scalar.select v3349 arg2 v3350
  let c31_i32_2939 : BitVec 32 := 31#32
  let v3352 : BitVec 32 := Scalar.minsi v3351 c31_i32_2939
  let v3353 : Index := Scalar.indexCast v3352
  let c0_2942 : Index := 0#32
  let c0_2943 : Index := 0#32
  ![0, 3, v3353.toNat, 0, 0]
def k0_mult39 (i : grid0.Coords) (k0_t1 : Fin (k0_t1_loop i).trips) : BitVec 32 :=
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_2981 : BitVec 32 := 4#32
  let v3391 : BitVec 32 := Scalar.addi v2909 c4_i32_2981
  let c0_i32_2982 : BitVec 32 := 0#32
  let v3392 : BitVec 32 := Scalar.addi v3391 c0_i32_2982
  let c0_i32_2983 : BitVec 32 := 0#32
  let v3393 : BitVec 1 := Scalar.cmpi .eq v3392 c0_i32_2983
  let arg2 : BitVec 32 := BitVec.ofNat 32 (i 2).val
  let c1_i32_2984 : BitVec 32 := 1#32
  let v3394 : BitVec 32 := Scalar.subi v3392 c1_i32_2984
  let v3395 : BitVec 32 := Scalar.select v3393 arg2 v3394
  let c31_i32_2985 : BitVec 32 := 31#32
  let v3396 : BitVec 32 := Scalar.minsi v3395 c31_i32_2985
  let c256_i32_2986 : BitVec 32 := 256#32
  let v3397 : BitVec 32 := Scalar.muli v3396 c256_i32_2986
  v3397
def k0_off24 (i : grid0.Coords) (k0_t1 : Fin (k0_t1_loop i).trips) (c0_i32_2982 : BitVec 32) : Fin 4 → Nat :=
  let c0_2989 : Index := 0#32
  let c3_2990 : Index := 3#32
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_2981 : BitVec 32 := 4#32
  let v3391 : BitVec 32 := Scalar.addi v2909 c4_i32_2981
  let v3392 : BitVec 32 := Scalar.addi v3391 c0_i32_2982
  let c0_i32_2983 : BitVec 32 := 0#32
  let v3393 : BitVec 1 := Scalar.cmpi .eq v3392 c0_i32_2983
  let arg2 : BitVec 32 := BitVec.ofNat 32 (i 2).val
  let c1_i32_2984 : BitVec 32 := 1#32
  let v3394 : BitVec 32 := Scalar.subi v3392 c1_i32_2984
  let v3395 : BitVec 32 := Scalar.select v3393 arg2 v3394
  let c31_i32_2985 : BitVec 32 := 31#32
  let v3396 : BitVec 32 := Scalar.minsi v3395 c31_i32_2985
  let c256_i32_2986 : BitVec 32 := 256#32
  let v3397 : BitVec 32 := Scalar.muli v3396 c256_i32_2986
  let v3398 : BitVec 32 := v3397
  let v3406 : Index := Scalar.indexCast v3398
  let c0_2991 : Index := 0#32
  ![0, 3, v3406.toNat, 0]
def k0_mult40 (i : grid0.Coords) (k0_t1 : Fin (k0_t1_loop i).trips) : BitVec 32 :=
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_3050 : BitVec 32 := 4#32
  let v3464 : BitVec 32 := Scalar.addi v2909 c4_i32_3050
  let c1_i32_3051 : BitVec 32 := 1#32
  let v3465 : BitVec 32 := Scalar.addi v3464 c1_i32_3051
  let c0_i32_3052 : BitVec 32 := 0#32
  let v3466 : BitVec 1 := Scalar.cmpi .eq v3465 c0_i32_3052
  let arg2 : BitVec 32 := BitVec.ofNat 32 (i 2).val
  let c1_i32_3053 : BitVec 32 := 1#32
  let v3467 : BitVec 32 := Scalar.subi v3465 c1_i32_3053
  let v3468 : BitVec 32 := Scalar.select v3466 arg2 v3467
  let c31_i32_3054 : BitVec 32 := 31#32
  let v3469 : BitVec 32 := Scalar.minsi v3468 c31_i32_3054
  let c256_i32_3055 : BitVec 32 := 256#32
  let v3470 : BitVec 32 := Scalar.muli v3469 c256_i32_3055
  v3470
def k0_off25 (i : grid0.Coords) (k0_t1 : Fin (k0_t1_loop i).trips) (c0_i32_3074 : BitVec 32) : Fin 5 → Nat :=
  let c0_3078 : Index := 0#32
  let c4_3079 : Index := 4#32
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let v3494 : BitVec 32 := Scalar.addi v2909 c0_i32_3074
  let c0_i32_3075 : BitVec 32 := 0#32
  let v3495 : BitVec 1 := Scalar.cmpi .eq v3494 c0_i32_3075
  let arg2 : BitVec 32 := BitVec.ofNat 32 (i 2).val
  let c1_i32_3076 : BitVec 32 := 1#32
  let v3496 : BitVec 32 := Scalar.subi v3494 c1_i32_3076
  let v3497 : BitVec 32 := Scalar.select v3495 arg2 v3496
  let c31_i32_3077 : BitVec 32 := 31#32
  let v3498 : BitVec 32 := Scalar.minsi v3497 c31_i32_3077
  let v3499 : Index := Scalar.indexCast v3498
  let c0_3080 : Index := 0#32
  let c0_3081 : Index := 0#32
  ![0, 4, v3499.toNat, 0, 0]
def k0_mult41 (i : grid0.Coords) (k0_t1 : Fin (k0_t1_loop i).trips) : BitVec 32 :=
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_3119 : BitVec 32 := 4#32
  let v3537 : BitVec 32 := Scalar.addi v2909 c4_i32_3119
  let c0_i32_3120 : BitVec 32 := 0#32
  let v3538 : BitVec 32 := Scalar.addi v3537 c0_i32_3120
  let c0_i32_3121 : BitVec 32 := 0#32
  let v3539 : BitVec 1 := Scalar.cmpi .eq v3538 c0_i32_3121
  let arg2 : BitVec 32 := BitVec.ofNat 32 (i 2).val
  let c1_i32_3122 : BitVec 32 := 1#32
  let v3540 : BitVec 32 := Scalar.subi v3538 c1_i32_3122
  let v3541 : BitVec 32 := Scalar.select v3539 arg2 v3540
  let c31_i32_3123 : BitVec 32 := 31#32
  let v3542 : BitVec 32 := Scalar.minsi v3541 c31_i32_3123
  let c256_i32_3124 : BitVec 32 := 256#32
  let v3543 : BitVec 32 := Scalar.muli v3542 c256_i32_3124
  v3543
def k0_off26 (i : grid0.Coords) (k0_t1 : Fin (k0_t1_loop i).trips) (c0_i32_3120 : BitVec 32) : Fin 4 → Nat :=
  let c0_3127 : Index := 0#32
  let c4_3128 : Index := 4#32
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_3119 : BitVec 32 := 4#32
  let v3537 : BitVec 32 := Scalar.addi v2909 c4_i32_3119
  let v3538 : BitVec 32 := Scalar.addi v3537 c0_i32_3120
  let c0_i32_3121 : BitVec 32 := 0#32
  let v3539 : BitVec 1 := Scalar.cmpi .eq v3538 c0_i32_3121
  let arg2 : BitVec 32 := BitVec.ofNat 32 (i 2).val
  let c1_i32_3122 : BitVec 32 := 1#32
  let v3540 : BitVec 32 := Scalar.subi v3538 c1_i32_3122
  let v3541 : BitVec 32 := Scalar.select v3539 arg2 v3540
  let c31_i32_3123 : BitVec 32 := 31#32
  let v3542 : BitVec 32 := Scalar.minsi v3541 c31_i32_3123
  let c256_i32_3124 : BitVec 32 := 256#32
  let v3543 : BitVec 32 := Scalar.muli v3542 c256_i32_3124
  let v3544 : BitVec 32 := v3543
  let v3552 : Index := Scalar.indexCast v3544
  let c0_3129 : Index := 0#32
  ![0, 4, v3552.toNat, 0]
def k0_mult42 (i : grid0.Coords) (k0_t1 : Fin (k0_t1_loop i).trips) : BitVec 32 :=
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_3188 : BitVec 32 := 4#32
  let v3610 : BitVec 32 := Scalar.addi v2909 c4_i32_3188
  let c1_i32_3189 : BitVec 32 := 1#32
  let v3611 : BitVec 32 := Scalar.addi v3610 c1_i32_3189
  let c0_i32_3190 : BitVec 32 := 0#32
  let v3612 : BitVec 1 := Scalar.cmpi .eq v3611 c0_i32_3190
  let arg2 : BitVec 32 := BitVec.ofNat 32 (i 2).val
  let c1_i32_3191 : BitVec 32 := 1#32
  let v3613 : BitVec 32 := Scalar.subi v3611 c1_i32_3191
  let v3614 : BitVec 32 := Scalar.select v3612 arg2 v3613
  let c31_i32_3192 : BitVec 32 := 31#32
  let v3615 : BitVec 32 := Scalar.minsi v3614 c31_i32_3192
  let c256_i32_3193 : BitVec 32 := 256#32
  let v3616 : BitVec 32 := Scalar.muli v3615 c256_i32_3193
  v3616
def k0_off27 (i : grid0.Coords) (k0_t1 : Fin (k0_t1_loop i).trips) (c0_i32_3212 : BitVec 32) : Fin 5 → Nat :=
  let c0_3216 : Index := 0#32
  let c5_3217 : Index := 5#32
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let v3640 : BitVec 32 := Scalar.addi v2909 c0_i32_3212
  let c0_i32_3213 : BitVec 32 := 0#32
  let v3641 : BitVec 1 := Scalar.cmpi .eq v3640 c0_i32_3213
  let arg2 : BitVec 32 := BitVec.ofNat 32 (i 2).val
  let c1_i32_3214 : BitVec 32 := 1#32
  let v3642 : BitVec 32 := Scalar.subi v3640 c1_i32_3214
  let v3643 : BitVec 32 := Scalar.select v3641 arg2 v3642
  let c31_i32_3215 : BitVec 32 := 31#32
  let v3644 : BitVec 32 := Scalar.minsi v3643 c31_i32_3215
  let v3645 : Index := Scalar.indexCast v3644
  let c0_3218 : Index := 0#32
  let c0_3219 : Index := 0#32
  ![0, 5, v3645.toNat, 0, 0]
def k0_mult43 (i : grid0.Coords) (k0_t1 : Fin (k0_t1_loop i).trips) : BitVec 32 :=
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_3257 : BitVec 32 := 4#32
  let v3683 : BitVec 32 := Scalar.addi v2909 c4_i32_3257
  let c0_i32_3258 : BitVec 32 := 0#32
  let v3684 : BitVec 32 := Scalar.addi v3683 c0_i32_3258
  let c0_i32_3259 : BitVec 32 := 0#32
  let v3685 : BitVec 1 := Scalar.cmpi .eq v3684 c0_i32_3259
  let arg2 : BitVec 32 := BitVec.ofNat 32 (i 2).val
  let c1_i32_3260 : BitVec 32 := 1#32
  let v3686 : BitVec 32 := Scalar.subi v3684 c1_i32_3260
  let v3687 : BitVec 32 := Scalar.select v3685 arg2 v3686
  let c31_i32_3261 : BitVec 32 := 31#32
  let v3688 : BitVec 32 := Scalar.minsi v3687 c31_i32_3261
  let c256_i32_3262 : BitVec 32 := 256#32
  let v3689 : BitVec 32 := Scalar.muli v3688 c256_i32_3262
  v3689
def k0_off28 (i : grid0.Coords) (k0_t1 : Fin (k0_t1_loop i).trips) (c0_i32_3258 : BitVec 32) : Fin 4 → Nat :=
  let c0_3265 : Index := 0#32
  let c5_3266 : Index := 5#32
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_3257 : BitVec 32 := 4#32
  let v3683 : BitVec 32 := Scalar.addi v2909 c4_i32_3257
  let v3684 : BitVec 32 := Scalar.addi v3683 c0_i32_3258
  let c0_i32_3259 : BitVec 32 := 0#32
  let v3685 : BitVec 1 := Scalar.cmpi .eq v3684 c0_i32_3259
  let arg2 : BitVec 32 := BitVec.ofNat 32 (i 2).val
  let c1_i32_3260 : BitVec 32 := 1#32
  let v3686 : BitVec 32 := Scalar.subi v3684 c1_i32_3260
  let v3687 : BitVec 32 := Scalar.select v3685 arg2 v3686
  let c31_i32_3261 : BitVec 32 := 31#32
  let v3688 : BitVec 32 := Scalar.minsi v3687 c31_i32_3261
  let c256_i32_3262 : BitVec 32 := 256#32
  let v3689 : BitVec 32 := Scalar.muli v3688 c256_i32_3262
  let v3690 : BitVec 32 := v3689
  let v3698 : Index := Scalar.indexCast v3690
  let c0_3267 : Index := 0#32
  ![0, 5, v3698.toNat, 0]
def k0_mult44 (i : grid0.Coords) (k0_t1 : Fin (k0_t1_loop i).trips) : BitVec 32 :=
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_3326 : BitVec 32 := 4#32
  let v3756 : BitVec 32 := Scalar.addi v2909 c4_i32_3326
  let c1_i32_3327 : BitVec 32 := 1#32
  let v3757 : BitVec 32 := Scalar.addi v3756 c1_i32_3327
  let c0_i32_3328 : BitVec 32 := 0#32
  let v3758 : BitVec 1 := Scalar.cmpi .eq v3757 c0_i32_3328
  let arg2 : BitVec 32 := BitVec.ofNat 32 (i 2).val
  let c1_i32_3329 : BitVec 32 := 1#32
  let v3759 : BitVec 32 := Scalar.subi v3757 c1_i32_3329
  let v3760 : BitVec 32 := Scalar.select v3758 arg2 v3759
  let c31_i32_3330 : BitVec 32 := 31#32
  let v3761 : BitVec 32 := Scalar.minsi v3760 c31_i32_3330
  let c256_i32_3331 : BitVec 32 := 256#32
  let v3762 : BitVec 32 := Scalar.muli v3761 c256_i32_3331
  v3762
def k0_off29 (i : grid0.Coords) (k0_t1 : Fin (k0_t1_loop i).trips) (c0_i32_3350 : BitVec 32) : Fin 5 → Nat :=
  let c0_3354 : Index := 0#32
  let c6_3355 : Index := 6#32
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let v3786 : BitVec 32 := Scalar.addi v2909 c0_i32_3350
  let c0_i32_3351 : BitVec 32 := 0#32
  let v3787 : BitVec 1 := Scalar.cmpi .eq v3786 c0_i32_3351
  let arg2 : BitVec 32 := BitVec.ofNat 32 (i 2).val
  let c1_i32_3352 : BitVec 32 := 1#32
  let v3788 : BitVec 32 := Scalar.subi v3786 c1_i32_3352
  let v3789 : BitVec 32 := Scalar.select v3787 arg2 v3788
  let c31_i32_3353 : BitVec 32 := 31#32
  let v3790 : BitVec 32 := Scalar.minsi v3789 c31_i32_3353
  let v3791 : Index := Scalar.indexCast v3790
  let c0_3356 : Index := 0#32
  let c0_3357 : Index := 0#32
  ![0, 6, v3791.toNat, 0, 0]
def k0_mult45 (i : grid0.Coords) (k0_t1 : Fin (k0_t1_loop i).trips) : BitVec 32 :=
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_3395 : BitVec 32 := 4#32
  let v3829 : BitVec 32 := Scalar.addi v2909 c4_i32_3395
  let c0_i32_3396 : BitVec 32 := 0#32
  let v3830 : BitVec 32 := Scalar.addi v3829 c0_i32_3396
  let c0_i32_3397 : BitVec 32 := 0#32
  let v3831 : BitVec 1 := Scalar.cmpi .eq v3830 c0_i32_3397
  let arg2 : BitVec 32 := BitVec.ofNat 32 (i 2).val
  let c1_i32_3398 : BitVec 32 := 1#32
  let v3832 : BitVec 32 := Scalar.subi v3830 c1_i32_3398
  let v3833 : BitVec 32 := Scalar.select v3831 arg2 v3832
  let c31_i32_3399 : BitVec 32 := 31#32
  let v3834 : BitVec 32 := Scalar.minsi v3833 c31_i32_3399
  let c256_i32_3400 : BitVec 32 := 256#32
  let v3835 : BitVec 32 := Scalar.muli v3834 c256_i32_3400
  v3835
def k0_off30 (i : grid0.Coords) (k0_t1 : Fin (k0_t1_loop i).trips) (c0_i32_3396 : BitVec 32) : Fin 4 → Nat :=
  let c0_3403 : Index := 0#32
  let c6_3404 : Index := 6#32
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_3395 : BitVec 32 := 4#32
  let v3829 : BitVec 32 := Scalar.addi v2909 c4_i32_3395
  let v3830 : BitVec 32 := Scalar.addi v3829 c0_i32_3396
  let c0_i32_3397 : BitVec 32 := 0#32
  let v3831 : BitVec 1 := Scalar.cmpi .eq v3830 c0_i32_3397
  let arg2 : BitVec 32 := BitVec.ofNat 32 (i 2).val
  let c1_i32_3398 : BitVec 32 := 1#32
  let v3832 : BitVec 32 := Scalar.subi v3830 c1_i32_3398
  let v3833 : BitVec 32 := Scalar.select v3831 arg2 v3832
  let c31_i32_3399 : BitVec 32 := 31#32
  let v3834 : BitVec 32 := Scalar.minsi v3833 c31_i32_3399
  let c256_i32_3400 : BitVec 32 := 256#32
  let v3835 : BitVec 32 := Scalar.muli v3834 c256_i32_3400
  let v3836 : BitVec 32 := v3835
  let v3844 : Index := Scalar.indexCast v3836
  let c0_3405 : Index := 0#32
  ![0, 6, v3844.toNat, 0]
def k0_mult46 (i : grid0.Coords) (k0_t1 : Fin (k0_t1_loop i).trips) : BitVec 32 :=
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_3464 : BitVec 32 := 4#32
  let v3902 : BitVec 32 := Scalar.addi v2909 c4_i32_3464
  let c1_i32_3465 : BitVec 32 := 1#32
  let v3903 : BitVec 32 := Scalar.addi v3902 c1_i32_3465
  let c0_i32_3466 : BitVec 32 := 0#32
  let v3904 : BitVec 1 := Scalar.cmpi .eq v3903 c0_i32_3466
  let arg2 : BitVec 32 := BitVec.ofNat 32 (i 2).val
  let c1_i32_3467 : BitVec 32 := 1#32
  let v3905 : BitVec 32 := Scalar.subi v3903 c1_i32_3467
  let v3906 : BitVec 32 := Scalar.select v3904 arg2 v3905
  let c31_i32_3468 : BitVec 32 := 31#32
  let v3907 : BitVec 32 := Scalar.minsi v3906 c31_i32_3468
  let c256_i32_3469 : BitVec 32 := 256#32
  let v3908 : BitVec 32 := Scalar.muli v3907 c256_i32_3469
  v3908
def k0_off31 (i : grid0.Coords) (k0_t1 : Fin (k0_t1_loop i).trips) (c0_i32_3488 : BitVec 32) : Fin 5 → Nat :=
  let c0_3492 : Index := 0#32
  let c7_3493 : Index := 7#32
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let v3932 : BitVec 32 := Scalar.addi v2909 c0_i32_3488
  let c0_i32_3489 : BitVec 32 := 0#32
  let v3933 : BitVec 1 := Scalar.cmpi .eq v3932 c0_i32_3489
  let arg2 : BitVec 32 := BitVec.ofNat 32 (i 2).val
  let c1_i32_3490 : BitVec 32 := 1#32
  let v3934 : BitVec 32 := Scalar.subi v3932 c1_i32_3490
  let v3935 : BitVec 32 := Scalar.select v3933 arg2 v3934
  let c31_i32_3491 : BitVec 32 := 31#32
  let v3936 : BitVec 32 := Scalar.minsi v3935 c31_i32_3491
  let v3937 : Index := Scalar.indexCast v3936
  let c0_3494 : Index := 0#32
  let c0_3495 : Index := 0#32
  ![0, 7, v3937.toNat, 0, 0]
def k0_mult47 (i : grid0.Coords) (k0_t1 : Fin (k0_t1_loop i).trips) : BitVec 32 :=
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_3533 : BitVec 32 := 4#32
  let v3975 : BitVec 32 := Scalar.addi v2909 c4_i32_3533
  let c0_i32_3534 : BitVec 32 := 0#32
  let v3976 : BitVec 32 := Scalar.addi v3975 c0_i32_3534
  let c0_i32_3535 : BitVec 32 := 0#32
  let v3977 : BitVec 1 := Scalar.cmpi .eq v3976 c0_i32_3535
  let arg2 : BitVec 32 := BitVec.ofNat 32 (i 2).val
  let c1_i32_3536 : BitVec 32 := 1#32
  let v3978 : BitVec 32 := Scalar.subi v3976 c1_i32_3536
  let v3979 : BitVec 32 := Scalar.select v3977 arg2 v3978
  let c31_i32_3537 : BitVec 32 := 31#32
  let v3980 : BitVec 32 := Scalar.minsi v3979 c31_i32_3537
  let c256_i32_3538 : BitVec 32 := 256#32
  let v3981 : BitVec 32 := Scalar.muli v3980 c256_i32_3538
  v3981
def k0_off32 (i : grid0.Coords) (k0_t1 : Fin (k0_t1_loop i).trips) (c0_i32_3534 : BitVec 32) : Fin 4 → Nat :=
  let c0_3541 : Index := 0#32
  let c7_3542 : Index := 7#32
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_3533 : BitVec 32 := 4#32
  let v3975 : BitVec 32 := Scalar.addi v2909 c4_i32_3533
  let v3976 : BitVec 32 := Scalar.addi v3975 c0_i32_3534
  let c0_i32_3535 : BitVec 32 := 0#32
  let v3977 : BitVec 1 := Scalar.cmpi .eq v3976 c0_i32_3535
  let arg2 : BitVec 32 := BitVec.ofNat 32 (i 2).val
  let c1_i32_3536 : BitVec 32 := 1#32
  let v3978 : BitVec 32 := Scalar.subi v3976 c1_i32_3536
  let v3979 : BitVec 32 := Scalar.select v3977 arg2 v3978
  let c31_i32_3537 : BitVec 32 := 31#32
  let v3980 : BitVec 32 := Scalar.minsi v3979 c31_i32_3537
  let c256_i32_3538 : BitVec 32 := 256#32
  let v3981 : BitVec 32 := Scalar.muli v3980 c256_i32_3538
  let v3982 : BitVec 32 := v3981
  let v3990 : Index := Scalar.indexCast v3982
  let c0_3543 : Index := 0#32
  ![0, 7, v3990.toNat, 0]
def k0_mult48 (i : grid0.Coords) (k0_t1 : Fin (k0_t1_loop i).trips) : BitVec 32 :=
  let c2_i32_2522 : BitVec 32 := 2#32
  let c0_i32_1333 : BitVec 32 := 0#32
  let c1_i32_1335 : BitVec 32 := 1#32
  let arg15 : BitVec 32 := Scf.iv c0_i32_1333 c1_i32_1335 k0_t1
  let v2909 : BitVec 32 := Scalar.muli c2_i32_2522 arg15
  let c4_i32_3602 : BitVec 32 := 4#32
  let v4048 : BitVec 32 := Scalar.addi v2909 c4_i32_3602
  let c1_i32_3603 : BitVec 32 := 1#32
  let v4049 : BitVec 32 := Scalar.addi v4048 c1_i32_3603
  let c0_i32_3604 : BitVec 32 := 0#32
  let v4050 : BitVec 1 := Scalar.cmpi .eq v4049 c0_i32_3604
  let arg2 : BitVec 32 := BitVec.ofNat 32 (i 2).val
  let c1_i32_3605 : BitVec 32 := 1#32
  let v4051 : BitVec 32 := Scalar.subi v4049 c1_i32_3605
  let v4052 : BitVec 32 := Scalar.select v4050 arg2 v4051
  let c31_i32_3606 : BitVec 32 := 31#32
  let v4053 : BitVec 32 := Scalar.minsi v4052 c31_i32_3606
  let c256_i32_3607 : BitVec 32 := 256#32
  let v4054 : BitVec 32 := Scalar.muli v4053 c256_i32_3607
  v4054
@[reducible] def k0_t2_loop (i : grid0.Coords) : Scf.Loop 32 :=
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let v1760 : BitVec 32 := Scalar.addi c0_i32_1333 v1759
  let c1_i32_1336 : BitVec 32 := 1#32
  ⟨v1763, v1760, c1_i32_1336⟩
def k0_off33 (i : grid0.Coords) (k0_t2 : Fin (k0_t2_loop i).trips) (c0_i32_2523 : BitVec 32) : Fin 5 → Nat :=
  let c0_2527 : Index := 0#32
  let c0_2528 : Index := 0#32
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let v2910 : BitVec 32 := Scalar.addi v2909 c0_i32_2523
  let c0_i32_2524 : BitVec 32 := 0#32
  let v2911 : BitVec 1 := Scalar.cmpi .eq v2910 c0_i32_2524
  let c1_i32_2525 : BitVec 32 := 1#32
  let v2912 : BitVec 32 := Scalar.subi v2910 c1_i32_2525
  let v2913 : BitVec 32 := Scalar.select v2911 arg2 v2912
  let c31_i32_2526 : BitVec 32 := 31#32
  let v2914 : BitVec 32 := Scalar.minsi v2913 c31_i32_2526
  let v2915 : Index := Scalar.indexCast v2914
  let c0_2529 : Index := 0#32
  let c0_2530 : Index := 0#32
  ![0, 0, v2915.toNat, 0, 0]
def k0_mult49 (i : grid0.Coords) (k0_t2 : Fin (k0_t2_loop i).trips) : BitVec 32 :=
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32 : BitVec 32 := 4#32
  let v2953 : BitVec 32 := Scalar.addi v2909 c4_i32
  let c0_i32_2568 : BitVec 32 := 0#32
  let v2954 : BitVec 32 := Scalar.addi v2953 c0_i32_2568
  let c0_i32_2569 : BitVec 32 := 0#32
  let v2955 : BitVec 1 := Scalar.cmpi .eq v2954 c0_i32_2569
  let c1_i32_2570 : BitVec 32 := 1#32
  let v2956 : BitVec 32 := Scalar.subi v2954 c1_i32_2570
  let v2957 : BitVec 32 := Scalar.select v2955 arg2 v2956
  let c31_i32_2571 : BitVec 32 := 31#32
  let v2958 : BitVec 32 := Scalar.minsi v2957 c31_i32_2571
  let c256_i32_2572 : BitVec 32 := 256#32
  let v2959 : BitVec 32 := Scalar.muli v2958 c256_i32_2572
  v2959
def k0_off34 (i : grid0.Coords) (k0_t2 : Fin (k0_t2_loop i).trips) (c0_i32_2568 : BitVec 32) : Fin 4 → Nat :=
  let c0_2575 : Index := 0#32
  let c0_2576 : Index := 0#32
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32 : BitVec 32 := 4#32
  let v2953 : BitVec 32 := Scalar.addi v2909 c4_i32
  let v2954 : BitVec 32 := Scalar.addi v2953 c0_i32_2568
  let c0_i32_2569 : BitVec 32 := 0#32
  let v2955 : BitVec 1 := Scalar.cmpi .eq v2954 c0_i32_2569
  let c1_i32_2570 : BitVec 32 := 1#32
  let v2956 : BitVec 32 := Scalar.subi v2954 c1_i32_2570
  let v2957 : BitVec 32 := Scalar.select v2955 arg2 v2956
  let c31_i32_2571 : BitVec 32 := 31#32
  let v2958 : BitVec 32 := Scalar.minsi v2957 c31_i32_2571
  let c256_i32_2572 : BitVec 32 := 256#32
  let v2959 : BitVec 32 := Scalar.muli v2958 c256_i32_2572
  let v2960 : BitVec 32 := v2959
  let v2968 : Index := Scalar.indexCast v2960
  let c0_2577 : Index := 0#32
  ![0, 0, v2968.toNat, 0]
def k0_mult50 (i : grid0.Coords) (k0_t2 : Fin (k0_t2_loop i).trips) : BitVec 32 :=
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_2636 : BitVec 32 := 4#32
  let v3026 : BitVec 32 := Scalar.addi v2909 c4_i32_2636
  let c1_i32_2637 : BitVec 32 := 1#32
  let v3027 : BitVec 32 := Scalar.addi v3026 c1_i32_2637
  let c0_i32_2638 : BitVec 32 := 0#32
  let v3028 : BitVec 1 := Scalar.cmpi .eq v3027 c0_i32_2638
  let c1_i32_2639 : BitVec 32 := 1#32
  let v3029 : BitVec 32 := Scalar.subi v3027 c1_i32_2639
  let v3030 : BitVec 32 := Scalar.select v3028 arg2 v3029
  let c31_i32_2640 : BitVec 32 := 31#32
  let v3031 : BitVec 32 := Scalar.minsi v3030 c31_i32_2640
  let c256_i32_2641 : BitVec 32 := 256#32
  let v3032 : BitVec 32 := Scalar.muli v3031 c256_i32_2641
  v3032
def k0_off35 (i : grid0.Coords) (k0_t2 : Fin (k0_t2_loop i).trips) (c0_i32_2660 : BitVec 32) : Fin 5 → Nat :=
  let c0_2664 : Index := 0#32
  let c1_2665 : Index := 1#32
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let v3056 : BitVec 32 := Scalar.addi v2909 c0_i32_2660
  let c0_i32_2661 : BitVec 32 := 0#32
  let v3057 : BitVec 1 := Scalar.cmpi .eq v3056 c0_i32_2661
  let c1_i32_2662 : BitVec 32 := 1#32
  let v3058 : BitVec 32 := Scalar.subi v3056 c1_i32_2662
  let v3059 : BitVec 32 := Scalar.select v3057 arg2 v3058
  let c31_i32_2663 : BitVec 32 := 31#32
  let v3060 : BitVec 32 := Scalar.minsi v3059 c31_i32_2663
  let v3061 : Index := Scalar.indexCast v3060
  let c0_2666 : Index := 0#32
  let c0_2667 : Index := 0#32
  ![0, 1, v3061.toNat, 0, 0]
def k0_mult51 (i : grid0.Coords) (k0_t2 : Fin (k0_t2_loop i).trips) : BitVec 32 :=
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_2705 : BitVec 32 := 4#32
  let v3099 : BitVec 32 := Scalar.addi v2909 c4_i32_2705
  let c0_i32_2706 : BitVec 32 := 0#32
  let v3100 : BitVec 32 := Scalar.addi v3099 c0_i32_2706
  let c0_i32_2707 : BitVec 32 := 0#32
  let v3101 : BitVec 1 := Scalar.cmpi .eq v3100 c0_i32_2707
  let c1_i32_2708 : BitVec 32 := 1#32
  let v3102 : BitVec 32 := Scalar.subi v3100 c1_i32_2708
  let v3103 : BitVec 32 := Scalar.select v3101 arg2 v3102
  let c31_i32_2709 : BitVec 32 := 31#32
  let v3104 : BitVec 32 := Scalar.minsi v3103 c31_i32_2709
  let c256_i32_2710 : BitVec 32 := 256#32
  let v3105 : BitVec 32 := Scalar.muli v3104 c256_i32_2710
  v3105
def k0_off36 (i : grid0.Coords) (k0_t2 : Fin (k0_t2_loop i).trips) (c0_i32_2706 : BitVec 32) : Fin 4 → Nat :=
  let c0_2713 : Index := 0#32
  let c1_2714 : Index := 1#32
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_2705 : BitVec 32 := 4#32
  let v3099 : BitVec 32 := Scalar.addi v2909 c4_i32_2705
  let v3100 : BitVec 32 := Scalar.addi v3099 c0_i32_2706
  let c0_i32_2707 : BitVec 32 := 0#32
  let v3101 : BitVec 1 := Scalar.cmpi .eq v3100 c0_i32_2707
  let c1_i32_2708 : BitVec 32 := 1#32
  let v3102 : BitVec 32 := Scalar.subi v3100 c1_i32_2708
  let v3103 : BitVec 32 := Scalar.select v3101 arg2 v3102
  let c31_i32_2709 : BitVec 32 := 31#32
  let v3104 : BitVec 32 := Scalar.minsi v3103 c31_i32_2709
  let c256_i32_2710 : BitVec 32 := 256#32
  let v3105 : BitVec 32 := Scalar.muli v3104 c256_i32_2710
  let v3106 : BitVec 32 := v3105
  let v3114 : Index := Scalar.indexCast v3106
  let c0_2715 : Index := 0#32
  ![0, 1, v3114.toNat, 0]
def k0_mult52 (i : grid0.Coords) (k0_t2 : Fin (k0_t2_loop i).trips) : BitVec 32 :=
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_2774 : BitVec 32 := 4#32
  let v3172 : BitVec 32 := Scalar.addi v2909 c4_i32_2774
  let c1_i32_2775 : BitVec 32 := 1#32
  let v3173 : BitVec 32 := Scalar.addi v3172 c1_i32_2775
  let c0_i32_2776 : BitVec 32 := 0#32
  let v3174 : BitVec 1 := Scalar.cmpi .eq v3173 c0_i32_2776
  let c1_i32_2777 : BitVec 32 := 1#32
  let v3175 : BitVec 32 := Scalar.subi v3173 c1_i32_2777
  let v3176 : BitVec 32 := Scalar.select v3174 arg2 v3175
  let c31_i32_2778 : BitVec 32 := 31#32
  let v3177 : BitVec 32 := Scalar.minsi v3176 c31_i32_2778
  let c256_i32_2779 : BitVec 32 := 256#32
  let v3178 : BitVec 32 := Scalar.muli v3177 c256_i32_2779
  v3178
def k0_off37 (i : grid0.Coords) (k0_t2 : Fin (k0_t2_loop i).trips) (c0_i32_2798 : BitVec 32) : Fin 5 → Nat :=
  let c0_2802 : Index := 0#32
  let c2_2803 : Index := 2#32
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let v3202 : BitVec 32 := Scalar.addi v2909 c0_i32_2798
  let c0_i32_2799 : BitVec 32 := 0#32
  let v3203 : BitVec 1 := Scalar.cmpi .eq v3202 c0_i32_2799
  let c1_i32_2800 : BitVec 32 := 1#32
  let v3204 : BitVec 32 := Scalar.subi v3202 c1_i32_2800
  let v3205 : BitVec 32 := Scalar.select v3203 arg2 v3204
  let c31_i32_2801 : BitVec 32 := 31#32
  let v3206 : BitVec 32 := Scalar.minsi v3205 c31_i32_2801
  let v3207 : Index := Scalar.indexCast v3206
  let c0_2804 : Index := 0#32
  let c0_2805 : Index := 0#32
  ![0, 2, v3207.toNat, 0, 0]
def k0_mult53 (i : grid0.Coords) (k0_t2 : Fin (k0_t2_loop i).trips) : BitVec 32 :=
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_2843 : BitVec 32 := 4#32
  let v3245 : BitVec 32 := Scalar.addi v2909 c4_i32_2843
  let c0_i32_2844 : BitVec 32 := 0#32
  let v3246 : BitVec 32 := Scalar.addi v3245 c0_i32_2844
  let c0_i32_2845 : BitVec 32 := 0#32
  let v3247 : BitVec 1 := Scalar.cmpi .eq v3246 c0_i32_2845
  let c1_i32_2846 : BitVec 32 := 1#32
  let v3248 : BitVec 32 := Scalar.subi v3246 c1_i32_2846
  let v3249 : BitVec 32 := Scalar.select v3247 arg2 v3248
  let c31_i32_2847 : BitVec 32 := 31#32
  let v3250 : BitVec 32 := Scalar.minsi v3249 c31_i32_2847
  let c256_i32_2848 : BitVec 32 := 256#32
  let v3251 : BitVec 32 := Scalar.muli v3250 c256_i32_2848
  v3251
def k0_off38 (i : grid0.Coords) (k0_t2 : Fin (k0_t2_loop i).trips) (c0_i32_2844 : BitVec 32) : Fin 4 → Nat :=
  let c0_2851 : Index := 0#32
  let c2_2852 : Index := 2#32
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_2843 : BitVec 32 := 4#32
  let v3245 : BitVec 32 := Scalar.addi v2909 c4_i32_2843
  let v3246 : BitVec 32 := Scalar.addi v3245 c0_i32_2844
  let c0_i32_2845 : BitVec 32 := 0#32
  let v3247 : BitVec 1 := Scalar.cmpi .eq v3246 c0_i32_2845
  let c1_i32_2846 : BitVec 32 := 1#32
  let v3248 : BitVec 32 := Scalar.subi v3246 c1_i32_2846
  let v3249 : BitVec 32 := Scalar.select v3247 arg2 v3248
  let c31_i32_2847 : BitVec 32 := 31#32
  let v3250 : BitVec 32 := Scalar.minsi v3249 c31_i32_2847
  let c256_i32_2848 : BitVec 32 := 256#32
  let v3251 : BitVec 32 := Scalar.muli v3250 c256_i32_2848
  let v3252 : BitVec 32 := v3251
  let v3260 : Index := Scalar.indexCast v3252
  let c0_2853 : Index := 0#32
  ![0, 2, v3260.toNat, 0]
def k0_mult54 (i : grid0.Coords) (k0_t2 : Fin (k0_t2_loop i).trips) : BitVec 32 :=
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_2912 : BitVec 32 := 4#32
  let v3318 : BitVec 32 := Scalar.addi v2909 c4_i32_2912
  let c1_i32_2913 : BitVec 32 := 1#32
  let v3319 : BitVec 32 := Scalar.addi v3318 c1_i32_2913
  let c0_i32_2914 : BitVec 32 := 0#32
  let v3320 : BitVec 1 := Scalar.cmpi .eq v3319 c0_i32_2914
  let c1_i32_2915 : BitVec 32 := 1#32
  let v3321 : BitVec 32 := Scalar.subi v3319 c1_i32_2915
  let v3322 : BitVec 32 := Scalar.select v3320 arg2 v3321
  let c31_i32_2916 : BitVec 32 := 31#32
  let v3323 : BitVec 32 := Scalar.minsi v3322 c31_i32_2916
  let c256_i32_2917 : BitVec 32 := 256#32
  let v3324 : BitVec 32 := Scalar.muli v3323 c256_i32_2917
  v3324
def k0_off39 (i : grid0.Coords) (k0_t2 : Fin (k0_t2_loop i).trips) (c0_i32_2936 : BitVec 32) : Fin 5 → Nat :=
  let c0_2940 : Index := 0#32
  let c3_2941 : Index := 3#32
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let v3348 : BitVec 32 := Scalar.addi v2909 c0_i32_2936
  let c0_i32_2937 : BitVec 32 := 0#32
  let v3349 : BitVec 1 := Scalar.cmpi .eq v3348 c0_i32_2937
  let c1_i32_2938 : BitVec 32 := 1#32
  let v3350 : BitVec 32 := Scalar.subi v3348 c1_i32_2938
  let v3351 : BitVec 32 := Scalar.select v3349 arg2 v3350
  let c31_i32_2939 : BitVec 32 := 31#32
  let v3352 : BitVec 32 := Scalar.minsi v3351 c31_i32_2939
  let v3353 : Index := Scalar.indexCast v3352
  let c0_2942 : Index := 0#32
  let c0_2943 : Index := 0#32
  ![0, 3, v3353.toNat, 0, 0]
def k0_mult55 (i : grid0.Coords) (k0_t2 : Fin (k0_t2_loop i).trips) : BitVec 32 :=
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_2981 : BitVec 32 := 4#32
  let v3391 : BitVec 32 := Scalar.addi v2909 c4_i32_2981
  let c0_i32_2982 : BitVec 32 := 0#32
  let v3392 : BitVec 32 := Scalar.addi v3391 c0_i32_2982
  let c0_i32_2983 : BitVec 32 := 0#32
  let v3393 : BitVec 1 := Scalar.cmpi .eq v3392 c0_i32_2983
  let c1_i32_2984 : BitVec 32 := 1#32
  let v3394 : BitVec 32 := Scalar.subi v3392 c1_i32_2984
  let v3395 : BitVec 32 := Scalar.select v3393 arg2 v3394
  let c31_i32_2985 : BitVec 32 := 31#32
  let v3396 : BitVec 32 := Scalar.minsi v3395 c31_i32_2985
  let c256_i32_2986 : BitVec 32 := 256#32
  let v3397 : BitVec 32 := Scalar.muli v3396 c256_i32_2986
  v3397
def k0_off40 (i : grid0.Coords) (k0_t2 : Fin (k0_t2_loop i).trips) (c0_i32_2982 : BitVec 32) : Fin 4 → Nat :=
  let c0_2989 : Index := 0#32
  let c3_2990 : Index := 3#32
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_2981 : BitVec 32 := 4#32
  let v3391 : BitVec 32 := Scalar.addi v2909 c4_i32_2981
  let v3392 : BitVec 32 := Scalar.addi v3391 c0_i32_2982
  let c0_i32_2983 : BitVec 32 := 0#32
  let v3393 : BitVec 1 := Scalar.cmpi .eq v3392 c0_i32_2983
  let c1_i32_2984 : BitVec 32 := 1#32
  let v3394 : BitVec 32 := Scalar.subi v3392 c1_i32_2984
  let v3395 : BitVec 32 := Scalar.select v3393 arg2 v3394
  let c31_i32_2985 : BitVec 32 := 31#32
  let v3396 : BitVec 32 := Scalar.minsi v3395 c31_i32_2985
  let c256_i32_2986 : BitVec 32 := 256#32
  let v3397 : BitVec 32 := Scalar.muli v3396 c256_i32_2986
  let v3398 : BitVec 32 := v3397
  let v3406 : Index := Scalar.indexCast v3398
  let c0_2991 : Index := 0#32
  ![0, 3, v3406.toNat, 0]
def k0_mult56 (i : grid0.Coords) (k0_t2 : Fin (k0_t2_loop i).trips) : BitVec 32 :=
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_3050 : BitVec 32 := 4#32
  let v3464 : BitVec 32 := Scalar.addi v2909 c4_i32_3050
  let c1_i32_3051 : BitVec 32 := 1#32
  let v3465 : BitVec 32 := Scalar.addi v3464 c1_i32_3051
  let c0_i32_3052 : BitVec 32 := 0#32
  let v3466 : BitVec 1 := Scalar.cmpi .eq v3465 c0_i32_3052
  let c1_i32_3053 : BitVec 32 := 1#32
  let v3467 : BitVec 32 := Scalar.subi v3465 c1_i32_3053
  let v3468 : BitVec 32 := Scalar.select v3466 arg2 v3467
  let c31_i32_3054 : BitVec 32 := 31#32
  let v3469 : BitVec 32 := Scalar.minsi v3468 c31_i32_3054
  let c256_i32_3055 : BitVec 32 := 256#32
  let v3470 : BitVec 32 := Scalar.muli v3469 c256_i32_3055
  v3470
def k0_off41 (i : grid0.Coords) (k0_t2 : Fin (k0_t2_loop i).trips) (c0_i32_3074 : BitVec 32) : Fin 5 → Nat :=
  let c0_3078 : Index := 0#32
  let c4_3079 : Index := 4#32
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let v3494 : BitVec 32 := Scalar.addi v2909 c0_i32_3074
  let c0_i32_3075 : BitVec 32 := 0#32
  let v3495 : BitVec 1 := Scalar.cmpi .eq v3494 c0_i32_3075
  let c1_i32_3076 : BitVec 32 := 1#32
  let v3496 : BitVec 32 := Scalar.subi v3494 c1_i32_3076
  let v3497 : BitVec 32 := Scalar.select v3495 arg2 v3496
  let c31_i32_3077 : BitVec 32 := 31#32
  let v3498 : BitVec 32 := Scalar.minsi v3497 c31_i32_3077
  let v3499 : Index := Scalar.indexCast v3498
  let c0_3080 : Index := 0#32
  let c0_3081 : Index := 0#32
  ![0, 4, v3499.toNat, 0, 0]
def k0_mult57 (i : grid0.Coords) (k0_t2 : Fin (k0_t2_loop i).trips) : BitVec 32 :=
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_3119 : BitVec 32 := 4#32
  let v3537 : BitVec 32 := Scalar.addi v2909 c4_i32_3119
  let c0_i32_3120 : BitVec 32 := 0#32
  let v3538 : BitVec 32 := Scalar.addi v3537 c0_i32_3120
  let c0_i32_3121 : BitVec 32 := 0#32
  let v3539 : BitVec 1 := Scalar.cmpi .eq v3538 c0_i32_3121
  let c1_i32_3122 : BitVec 32 := 1#32
  let v3540 : BitVec 32 := Scalar.subi v3538 c1_i32_3122
  let v3541 : BitVec 32 := Scalar.select v3539 arg2 v3540
  let c31_i32_3123 : BitVec 32 := 31#32
  let v3542 : BitVec 32 := Scalar.minsi v3541 c31_i32_3123
  let c256_i32_3124 : BitVec 32 := 256#32
  let v3543 : BitVec 32 := Scalar.muli v3542 c256_i32_3124
  v3543
def k0_off42 (i : grid0.Coords) (k0_t2 : Fin (k0_t2_loop i).trips) (c0_i32_3120 : BitVec 32) : Fin 4 → Nat :=
  let c0_3127 : Index := 0#32
  let c4_3128 : Index := 4#32
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_3119 : BitVec 32 := 4#32
  let v3537 : BitVec 32 := Scalar.addi v2909 c4_i32_3119
  let v3538 : BitVec 32 := Scalar.addi v3537 c0_i32_3120
  let c0_i32_3121 : BitVec 32 := 0#32
  let v3539 : BitVec 1 := Scalar.cmpi .eq v3538 c0_i32_3121
  let c1_i32_3122 : BitVec 32 := 1#32
  let v3540 : BitVec 32 := Scalar.subi v3538 c1_i32_3122
  let v3541 : BitVec 32 := Scalar.select v3539 arg2 v3540
  let c31_i32_3123 : BitVec 32 := 31#32
  let v3542 : BitVec 32 := Scalar.minsi v3541 c31_i32_3123
  let c256_i32_3124 : BitVec 32 := 256#32
  let v3543 : BitVec 32 := Scalar.muli v3542 c256_i32_3124
  let v3544 : BitVec 32 := v3543
  let v3552 : Index := Scalar.indexCast v3544
  let c0_3129 : Index := 0#32
  ![0, 4, v3552.toNat, 0]
def k0_mult58 (i : grid0.Coords) (k0_t2 : Fin (k0_t2_loop i).trips) : BitVec 32 :=
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_3188 : BitVec 32 := 4#32
  let v3610 : BitVec 32 := Scalar.addi v2909 c4_i32_3188
  let c1_i32_3189 : BitVec 32 := 1#32
  let v3611 : BitVec 32 := Scalar.addi v3610 c1_i32_3189
  let c0_i32_3190 : BitVec 32 := 0#32
  let v3612 : BitVec 1 := Scalar.cmpi .eq v3611 c0_i32_3190
  let c1_i32_3191 : BitVec 32 := 1#32
  let v3613 : BitVec 32 := Scalar.subi v3611 c1_i32_3191
  let v3614 : BitVec 32 := Scalar.select v3612 arg2 v3613
  let c31_i32_3192 : BitVec 32 := 31#32
  let v3615 : BitVec 32 := Scalar.minsi v3614 c31_i32_3192
  let c256_i32_3193 : BitVec 32 := 256#32
  let v3616 : BitVec 32 := Scalar.muli v3615 c256_i32_3193
  v3616
def k0_off43 (i : grid0.Coords) (k0_t2 : Fin (k0_t2_loop i).trips) (c0_i32_3212 : BitVec 32) : Fin 5 → Nat :=
  let c0_3216 : Index := 0#32
  let c5_3217 : Index := 5#32
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let v3640 : BitVec 32 := Scalar.addi v2909 c0_i32_3212
  let c0_i32_3213 : BitVec 32 := 0#32
  let v3641 : BitVec 1 := Scalar.cmpi .eq v3640 c0_i32_3213
  let c1_i32_3214 : BitVec 32 := 1#32
  let v3642 : BitVec 32 := Scalar.subi v3640 c1_i32_3214
  let v3643 : BitVec 32 := Scalar.select v3641 arg2 v3642
  let c31_i32_3215 : BitVec 32 := 31#32
  let v3644 : BitVec 32 := Scalar.minsi v3643 c31_i32_3215
  let v3645 : Index := Scalar.indexCast v3644
  let c0_3218 : Index := 0#32
  let c0_3219 : Index := 0#32
  ![0, 5, v3645.toNat, 0, 0]
def k0_mult59 (i : grid0.Coords) (k0_t2 : Fin (k0_t2_loop i).trips) : BitVec 32 :=
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_3257 : BitVec 32 := 4#32
  let v3683 : BitVec 32 := Scalar.addi v2909 c4_i32_3257
  let c0_i32_3258 : BitVec 32 := 0#32
  let v3684 : BitVec 32 := Scalar.addi v3683 c0_i32_3258
  let c0_i32_3259 : BitVec 32 := 0#32
  let v3685 : BitVec 1 := Scalar.cmpi .eq v3684 c0_i32_3259
  let c1_i32_3260 : BitVec 32 := 1#32
  let v3686 : BitVec 32 := Scalar.subi v3684 c1_i32_3260
  let v3687 : BitVec 32 := Scalar.select v3685 arg2 v3686
  let c31_i32_3261 : BitVec 32 := 31#32
  let v3688 : BitVec 32 := Scalar.minsi v3687 c31_i32_3261
  let c256_i32_3262 : BitVec 32 := 256#32
  let v3689 : BitVec 32 := Scalar.muli v3688 c256_i32_3262
  v3689
def k0_off44 (i : grid0.Coords) (k0_t2 : Fin (k0_t2_loop i).trips) (c0_i32_3258 : BitVec 32) : Fin 4 → Nat :=
  let c0_3265 : Index := 0#32
  let c5_3266 : Index := 5#32
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_3257 : BitVec 32 := 4#32
  let v3683 : BitVec 32 := Scalar.addi v2909 c4_i32_3257
  let v3684 : BitVec 32 := Scalar.addi v3683 c0_i32_3258
  let c0_i32_3259 : BitVec 32 := 0#32
  let v3685 : BitVec 1 := Scalar.cmpi .eq v3684 c0_i32_3259
  let c1_i32_3260 : BitVec 32 := 1#32
  let v3686 : BitVec 32 := Scalar.subi v3684 c1_i32_3260
  let v3687 : BitVec 32 := Scalar.select v3685 arg2 v3686
  let c31_i32_3261 : BitVec 32 := 31#32
  let v3688 : BitVec 32 := Scalar.minsi v3687 c31_i32_3261
  let c256_i32_3262 : BitVec 32 := 256#32
  let v3689 : BitVec 32 := Scalar.muli v3688 c256_i32_3262
  let v3690 : BitVec 32 := v3689
  let v3698 : Index := Scalar.indexCast v3690
  let c0_3267 : Index := 0#32
  ![0, 5, v3698.toNat, 0]
def k0_mult60 (i : grid0.Coords) (k0_t2 : Fin (k0_t2_loop i).trips) : BitVec 32 :=
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_3326 : BitVec 32 := 4#32
  let v3756 : BitVec 32 := Scalar.addi v2909 c4_i32_3326
  let c1_i32_3327 : BitVec 32 := 1#32
  let v3757 : BitVec 32 := Scalar.addi v3756 c1_i32_3327
  let c0_i32_3328 : BitVec 32 := 0#32
  let v3758 : BitVec 1 := Scalar.cmpi .eq v3757 c0_i32_3328
  let c1_i32_3329 : BitVec 32 := 1#32
  let v3759 : BitVec 32 := Scalar.subi v3757 c1_i32_3329
  let v3760 : BitVec 32 := Scalar.select v3758 arg2 v3759
  let c31_i32_3330 : BitVec 32 := 31#32
  let v3761 : BitVec 32 := Scalar.minsi v3760 c31_i32_3330
  let c256_i32_3331 : BitVec 32 := 256#32
  let v3762 : BitVec 32 := Scalar.muli v3761 c256_i32_3331
  v3762
def k0_off45 (i : grid0.Coords) (k0_t2 : Fin (k0_t2_loop i).trips) (c0_i32_3350 : BitVec 32) : Fin 5 → Nat :=
  let c0_3354 : Index := 0#32
  let c6_3355 : Index := 6#32
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let v3786 : BitVec 32 := Scalar.addi v2909 c0_i32_3350
  let c0_i32_3351 : BitVec 32 := 0#32
  let v3787 : BitVec 1 := Scalar.cmpi .eq v3786 c0_i32_3351
  let c1_i32_3352 : BitVec 32 := 1#32
  let v3788 : BitVec 32 := Scalar.subi v3786 c1_i32_3352
  let v3789 : BitVec 32 := Scalar.select v3787 arg2 v3788
  let c31_i32_3353 : BitVec 32 := 31#32
  let v3790 : BitVec 32 := Scalar.minsi v3789 c31_i32_3353
  let v3791 : Index := Scalar.indexCast v3790
  let c0_3356 : Index := 0#32
  let c0_3357 : Index := 0#32
  ![0, 6, v3791.toNat, 0, 0]
def k0_mult61 (i : grid0.Coords) (k0_t2 : Fin (k0_t2_loop i).trips) : BitVec 32 :=
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_3395 : BitVec 32 := 4#32
  let v3829 : BitVec 32 := Scalar.addi v2909 c4_i32_3395
  let c0_i32_3396 : BitVec 32 := 0#32
  let v3830 : BitVec 32 := Scalar.addi v3829 c0_i32_3396
  let c0_i32_3397 : BitVec 32 := 0#32
  let v3831 : BitVec 1 := Scalar.cmpi .eq v3830 c0_i32_3397
  let c1_i32_3398 : BitVec 32 := 1#32
  let v3832 : BitVec 32 := Scalar.subi v3830 c1_i32_3398
  let v3833 : BitVec 32 := Scalar.select v3831 arg2 v3832
  let c31_i32_3399 : BitVec 32 := 31#32
  let v3834 : BitVec 32 := Scalar.minsi v3833 c31_i32_3399
  let c256_i32_3400 : BitVec 32 := 256#32
  let v3835 : BitVec 32 := Scalar.muli v3834 c256_i32_3400
  v3835
def k0_off46 (i : grid0.Coords) (k0_t2 : Fin (k0_t2_loop i).trips) (c0_i32_3396 : BitVec 32) : Fin 4 → Nat :=
  let c0_3403 : Index := 0#32
  let c6_3404 : Index := 6#32
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_3395 : BitVec 32 := 4#32
  let v3829 : BitVec 32 := Scalar.addi v2909 c4_i32_3395
  let v3830 : BitVec 32 := Scalar.addi v3829 c0_i32_3396
  let c0_i32_3397 : BitVec 32 := 0#32
  let v3831 : BitVec 1 := Scalar.cmpi .eq v3830 c0_i32_3397
  let c1_i32_3398 : BitVec 32 := 1#32
  let v3832 : BitVec 32 := Scalar.subi v3830 c1_i32_3398
  let v3833 : BitVec 32 := Scalar.select v3831 arg2 v3832
  let c31_i32_3399 : BitVec 32 := 31#32
  let v3834 : BitVec 32 := Scalar.minsi v3833 c31_i32_3399
  let c256_i32_3400 : BitVec 32 := 256#32
  let v3835 : BitVec 32 := Scalar.muli v3834 c256_i32_3400
  let v3836 : BitVec 32 := v3835
  let v3844 : Index := Scalar.indexCast v3836
  let c0_3405 : Index := 0#32
  ![0, 6, v3844.toNat, 0]
def k0_mult62 (i : grid0.Coords) (k0_t2 : Fin (k0_t2_loop i).trips) : BitVec 32 :=
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_3464 : BitVec 32 := 4#32
  let v3902 : BitVec 32 := Scalar.addi v2909 c4_i32_3464
  let c1_i32_3465 : BitVec 32 := 1#32
  let v3903 : BitVec 32 := Scalar.addi v3902 c1_i32_3465
  let c0_i32_3466 : BitVec 32 := 0#32
  let v3904 : BitVec 1 := Scalar.cmpi .eq v3903 c0_i32_3466
  let c1_i32_3467 : BitVec 32 := 1#32
  let v3905 : BitVec 32 := Scalar.subi v3903 c1_i32_3467
  let v3906 : BitVec 32 := Scalar.select v3904 arg2 v3905
  let c31_i32_3468 : BitVec 32 := 31#32
  let v3907 : BitVec 32 := Scalar.minsi v3906 c31_i32_3468
  let c256_i32_3469 : BitVec 32 := 256#32
  let v3908 : BitVec 32 := Scalar.muli v3907 c256_i32_3469
  v3908
def k0_off47 (i : grid0.Coords) (k0_t2 : Fin (k0_t2_loop i).trips) (c0_i32_3488 : BitVec 32) : Fin 5 → Nat :=
  let c0_3492 : Index := 0#32
  let c7_3493 : Index := 7#32
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let v3932 : BitVec 32 := Scalar.addi v2909 c0_i32_3488
  let c0_i32_3489 : BitVec 32 := 0#32
  let v3933 : BitVec 1 := Scalar.cmpi .eq v3932 c0_i32_3489
  let c1_i32_3490 : BitVec 32 := 1#32
  let v3934 : BitVec 32 := Scalar.subi v3932 c1_i32_3490
  let v3935 : BitVec 32 := Scalar.select v3933 arg2 v3934
  let c31_i32_3491 : BitVec 32 := 31#32
  let v3936 : BitVec 32 := Scalar.minsi v3935 c31_i32_3491
  let v3937 : Index := Scalar.indexCast v3936
  let c0_3494 : Index := 0#32
  let c0_3495 : Index := 0#32
  ![0, 7, v3937.toNat, 0, 0]
def k0_mult63 (i : grid0.Coords) (k0_t2 : Fin (k0_t2_loop i).trips) : BitVec 32 :=
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_3533 : BitVec 32 := 4#32
  let v3975 : BitVec 32 := Scalar.addi v2909 c4_i32_3533
  let c0_i32_3534 : BitVec 32 := 0#32
  let v3976 : BitVec 32 := Scalar.addi v3975 c0_i32_3534
  let c0_i32_3535 : BitVec 32 := 0#32
  let v3977 : BitVec 1 := Scalar.cmpi .eq v3976 c0_i32_3535
  let c1_i32_3536 : BitVec 32 := 1#32
  let v3978 : BitVec 32 := Scalar.subi v3976 c1_i32_3536
  let v3979 : BitVec 32 := Scalar.select v3977 arg2 v3978
  let c31_i32_3537 : BitVec 32 := 31#32
  let v3980 : BitVec 32 := Scalar.minsi v3979 c31_i32_3537
  let c256_i32_3538 : BitVec 32 := 256#32
  let v3981 : BitVec 32 := Scalar.muli v3980 c256_i32_3538
  v3981
def k0_off48 (i : grid0.Coords) (k0_t2 : Fin (k0_t2_loop i).trips) (c0_i32_3534 : BitVec 32) : Fin 4 → Nat :=
  let c0_3541 : Index := 0#32
  let c7_3542 : Index := 7#32
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_3533 : BitVec 32 := 4#32
  let v3975 : BitVec 32 := Scalar.addi v2909 c4_i32_3533
  let v3976 : BitVec 32 := Scalar.addi v3975 c0_i32_3534
  let c0_i32_3535 : BitVec 32 := 0#32
  let v3977 : BitVec 1 := Scalar.cmpi .eq v3976 c0_i32_3535
  let c1_i32_3536 : BitVec 32 := 1#32
  let v3978 : BitVec 32 := Scalar.subi v3976 c1_i32_3536
  let v3979 : BitVec 32 := Scalar.select v3977 arg2 v3978
  let c31_i32_3537 : BitVec 32 := 31#32
  let v3980 : BitVec 32 := Scalar.minsi v3979 c31_i32_3537
  let c256_i32_3538 : BitVec 32 := 256#32
  let v3981 : BitVec 32 := Scalar.muli v3980 c256_i32_3538
  let v3982 : BitVec 32 := v3981
  let v3990 : Index := Scalar.indexCast v3982
  let c0_3543 : Index := 0#32
  ![0, 7, v3990.toNat, 0]
def k0_mult64 (i : grid0.Coords) (k0_t2 : Fin (k0_t2_loop i).trips) : BitVec 32 :=
  let c2_i32_2522 : BitVec 32 := 2#32
  let c0_i32_1333 : BitVec 32 := 0#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1759 : BitVec 32 := Scalar.subi v1758 c0_i32_1333
  let c1_i32_1334 : BitVec 32 := 1#32
  let v1761 : BitVec 32 := Scalar.divsi v1759 c1_i32_1334
  let v1762 : BitVec 32 := Scalar.muli v1761 c1_i32_1334
  let v1763 : BitVec 32 := Scalar.addi c0_i32_1333 v1762
  let c1_i32_1336 : BitVec 32 := 1#32
  let arg15 : BitVec 32 := Scf.iv v1763 c1_i32_1336 k0_t2
  let v2909 : BitVec 32 := Scalar.muli c2_i32_2522 arg15
  let c4_i32_3602 : BitVec 32 := 4#32
  let v4048 : BitVec 32 := Scalar.addi v2909 c4_i32_3602
  let c1_i32_3603 : BitVec 32 := 1#32
  let v4049 : BitVec 32 := Scalar.addi v4048 c1_i32_3603
  let c0_i32_3604 : BitVec 32 := 0#32
  let v4050 : BitVec 1 := Scalar.cmpi .eq v4049 c0_i32_3604
  let c1_i32_3605 : BitVec 32 := 1#32
  let v4051 : BitVec 32 := Scalar.subi v4049 c1_i32_3605
  let v4052 : BitVec 32 := Scalar.select v4050 arg2 v4051
  let c31_i32_3606 : BitVec 32 := 31#32
  let v4053 : BitVec 32 := Scalar.minsi v4052 c31_i32_3606
  let c256_i32_3607 : BitVec 32 := 256#32
  let v4054 : BitVec 32 := Scalar.muli v4053 c256_i32_3607
  v4054
def k0_off49 (i : grid0.Coords) (c0_i32_1338 : BitVec 32) : Fin 5 → Nat :=
  let c0_1342 : Index := 0#32
  let c0_1343 : Index := 0#32
  let c2_i32_1337 : BitVec 32 := 2#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1764 : BitVec 32 := Scalar.muli c2_i32_1337 v1758
  let v1765 : BitVec 32 := Scalar.addi v1764 c0_i32_1338
  let c0_i32_1339 : BitVec 32 := 0#32
  let v1766 : BitVec 1 := Scalar.cmpi .eq v1765 c0_i32_1339
  let c1_i32_1340 : BitVec 32 := 1#32
  let v1767 : BitVec 32 := Scalar.subi v1765 c1_i32_1340
  let v1768 : BitVec 32 := Scalar.select v1766 arg2 v1767
  let c31_i32_1341 : BitVec 32 := 31#32
  let v1769 : BitVec 32 := Scalar.minsi v1768 c31_i32_1341
  let v1770 : Index := Scalar.indexCast v1769
  let c0_1344 : Index := 0#32
  let c0_1345 : Index := 0#32
  ![0, 0, v1770.toNat, 0, 0]
def k0_off50 (i : grid0.Coords) (c0_i32_1428 : BitVec 32) : Fin 5 → Nat :=
  let c0_1432 : Index := 0#32
  let c1_1433 : Index := 1#32
  let c2_i32_1337 : BitVec 32 := 2#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1764 : BitVec 32 := Scalar.muli c2_i32_1337 v1758
  let v1851 : BitVec 32 := Scalar.addi v1764 c0_i32_1428
  let c0_i32_1429 : BitVec 32 := 0#32
  let v1852 : BitVec 1 := Scalar.cmpi .eq v1851 c0_i32_1429
  let c1_i32_1430 : BitVec 32 := 1#32
  let v1853 : BitVec 32 := Scalar.subi v1851 c1_i32_1430
  let v1854 : BitVec 32 := Scalar.select v1852 arg2 v1853
  let c31_i32_1431 : BitVec 32 := 31#32
  let v1855 : BitVec 32 := Scalar.minsi v1854 c31_i32_1431
  let v1856 : Index := Scalar.indexCast v1855
  let c0_1434 : Index := 0#32
  let c0_1435 : Index := 0#32
  ![0, 1, v1856.toNat, 0, 0]
def k0_off51 (i : grid0.Coords) (c0_i32_1518 : BitVec 32) : Fin 5 → Nat :=
  let c0_1522 : Index := 0#32
  let c2_1523 : Index := 2#32
  let c2_i32_1337 : BitVec 32 := 2#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1764 : BitVec 32 := Scalar.muli c2_i32_1337 v1758
  let v1937 : BitVec 32 := Scalar.addi v1764 c0_i32_1518
  let c0_i32_1519 : BitVec 32 := 0#32
  let v1938 : BitVec 1 := Scalar.cmpi .eq v1937 c0_i32_1519
  let c1_i32_1520 : BitVec 32 := 1#32
  let v1939 : BitVec 32 := Scalar.subi v1937 c1_i32_1520
  let v1940 : BitVec 32 := Scalar.select v1938 arg2 v1939
  let c31_i32_1521 : BitVec 32 := 31#32
  let v1941 : BitVec 32 := Scalar.minsi v1940 c31_i32_1521
  let v1942 : Index := Scalar.indexCast v1941
  let c0_1524 : Index := 0#32
  let c0_1525 : Index := 0#32
  ![0, 2, v1942.toNat, 0, 0]
def k0_off52 (i : grid0.Coords) (c0_i32_1608 : BitVec 32) : Fin 5 → Nat :=
  let c0_1612 : Index := 0#32
  let c3_1613 : Index := 3#32
  let c2_i32_1337 : BitVec 32 := 2#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1764 : BitVec 32 := Scalar.muli c2_i32_1337 v1758
  let v2023 : BitVec 32 := Scalar.addi v1764 c0_i32_1608
  let c0_i32_1609 : BitVec 32 := 0#32
  let v2024 : BitVec 1 := Scalar.cmpi .eq v2023 c0_i32_1609
  let c1_i32_1610 : BitVec 32 := 1#32
  let v2025 : BitVec 32 := Scalar.subi v2023 c1_i32_1610
  let v2026 : BitVec 32 := Scalar.select v2024 arg2 v2025
  let c31_i32_1611 : BitVec 32 := 31#32
  let v2027 : BitVec 32 := Scalar.minsi v2026 c31_i32_1611
  let v2028 : Index := Scalar.indexCast v2027
  let c0_1614 : Index := 0#32
  let c0_1615 : Index := 0#32
  ![0, 3, v2028.toNat, 0, 0]
def k0_off53 (i : grid0.Coords) (c0_i32_1698 : BitVec 32) : Fin 5 → Nat :=
  let c0_1702 : Index := 0#32
  let c4_1703 : Index := 4#32
  let c2_i32_1337 : BitVec 32 := 2#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1764 : BitVec 32 := Scalar.muli c2_i32_1337 v1758
  let v2109 : BitVec 32 := Scalar.addi v1764 c0_i32_1698
  let c0_i32_1699 : BitVec 32 := 0#32
  let v2110 : BitVec 1 := Scalar.cmpi .eq v2109 c0_i32_1699
  let c1_i32_1700 : BitVec 32 := 1#32
  let v2111 : BitVec 32 := Scalar.subi v2109 c1_i32_1700
  let v2112 : BitVec 32 := Scalar.select v2110 arg2 v2111
  let c31_i32_1701 : BitVec 32 := 31#32
  let v2113 : BitVec 32 := Scalar.minsi v2112 c31_i32_1701
  let v2114 : Index := Scalar.indexCast v2113
  let c0_1704 : Index := 0#32
  let c0_1705 : Index := 0#32
  ![0, 4, v2114.toNat, 0, 0]
def k0_off54 (i : grid0.Coords) (c0_i32_1788 : BitVec 32) : Fin 5 → Nat :=
  let c0_1792 : Index := 0#32
  let c5_1793 : Index := 5#32
  let c2_i32_1337 : BitVec 32 := 2#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1764 : BitVec 32 := Scalar.muli c2_i32_1337 v1758
  let v2195 : BitVec 32 := Scalar.addi v1764 c0_i32_1788
  let c0_i32_1789 : BitVec 32 := 0#32
  let v2196 : BitVec 1 := Scalar.cmpi .eq v2195 c0_i32_1789
  let c1_i32_1790 : BitVec 32 := 1#32
  let v2197 : BitVec 32 := Scalar.subi v2195 c1_i32_1790
  let v2198 : BitVec 32 := Scalar.select v2196 arg2 v2197
  let c31_i32_1791 : BitVec 32 := 31#32
  let v2199 : BitVec 32 := Scalar.minsi v2198 c31_i32_1791
  let v2200 : Index := Scalar.indexCast v2199
  let c0_1794 : Index := 0#32
  let c0_1795 : Index := 0#32
  ![0, 5, v2200.toNat, 0, 0]
def k0_off55 (i : grid0.Coords) (c0_i32_1878 : BitVec 32) : Fin 5 → Nat :=
  let c0_1882 : Index := 0#32
  let c6_1883 : Index := 6#32
  let c2_i32_1337 : BitVec 32 := 2#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1764 : BitVec 32 := Scalar.muli c2_i32_1337 v1758
  let v2281 : BitVec 32 := Scalar.addi v1764 c0_i32_1878
  let c0_i32_1879 : BitVec 32 := 0#32
  let v2282 : BitVec 1 := Scalar.cmpi .eq v2281 c0_i32_1879
  let c1_i32_1880 : BitVec 32 := 1#32
  let v2283 : BitVec 32 := Scalar.subi v2281 c1_i32_1880
  let v2284 : BitVec 32 := Scalar.select v2282 arg2 v2283
  let c31_i32_1881 : BitVec 32 := 31#32
  let v2285 : BitVec 32 := Scalar.minsi v2284 c31_i32_1881
  let v2286 : Index := Scalar.indexCast v2285
  let c0_1884 : Index := 0#32
  let c0_1885 : Index := 0#32
  ![0, 6, v2286.toNat, 0, 0]
def k0_off56 (i : grid0.Coords) (c0_i32_1968 : BitVec 32) : Fin 5 → Nat :=
  let c0_1972 : Index := 0#32
  let c7_1973 : Index := 7#32
  let c2_i32_1337 : BitVec 32 := 2#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1764 : BitVec 32 := Scalar.muli c2_i32_1337 v1758
  let v2367 : BitVec 32 := Scalar.addi v1764 c0_i32_1968
  let c0_i32_1969 : BitVec 32 := 0#32
  let v2368 : BitVec 1 := Scalar.cmpi .eq v2367 c0_i32_1969
  let c1_i32_1970 : BitVec 32 := 1#32
  let v2369 : BitVec 32 := Scalar.subi v2367 c1_i32_1970
  let v2370 : BitVec 32 := Scalar.select v2368 arg2 v2369
  let c31_i32_1971 : BitVec 32 := 31#32
  let v2371 : BitVec 32 := Scalar.minsi v2370 c31_i32_1971
  let v2372 : Index := Scalar.indexCast v2371
  let c0_1974 : Index := 0#32
  let c0_1975 : Index := 0#32
  ![0, 7, v2372.toNat, 0, 0]
def k0_off57 (i : grid0.Coords) (c0_i32_2059 : BitVec 32) : Fin 5 → Nat :=
  let c0_2063 : Index := 0#32
  let c0_2064 : Index := 0#32
  let c2_i32_1337 : BitVec 32 := 2#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1764 : BitVec 32 := Scalar.muli c2_i32_1337 v1758
  let c2_i32_2058 : BitVec 32 := 2#32
  let v2453 : BitVec 32 := Scalar.addi v1764 c2_i32_2058
  let v2454 : BitVec 32 := Scalar.addi v2453 c0_i32_2059
  let c0_i32_2060 : BitVec 32 := 0#32
  let v2455 : BitVec 1 := Scalar.cmpi .eq v2454 c0_i32_2060
  let c1_i32_2061 : BitVec 32 := 1#32
  let v2456 : BitVec 32 := Scalar.subi v2454 c1_i32_2061
  let v2457 : BitVec 32 := Scalar.select v2455 arg2 v2456
  let c31_i32_2062 : BitVec 32 := 31#32
  let v2458 : BitVec 32 := Scalar.minsi v2457 c31_i32_2062
  let v2459 : Index := Scalar.indexCast v2458
  let c0_2065 : Index := 0#32
  let c0_2066 : Index := 0#32
  ![0, 0, v2459.toNat, 0, 0]
def k0_off58 (i : grid0.Coords) (c0_i32_2107 : BitVec 32) : Fin 5 → Nat :=
  let c0_2111 : Index := 0#32
  let c1_2112 : Index := 1#32
  let c2_i32_1337 : BitVec 32 := 2#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1764 : BitVec 32 := Scalar.muli c2_i32_1337 v1758
  let c2_i32_2106 : BitVec 32 := 2#32
  let v2497 : BitVec 32 := Scalar.addi v1764 c2_i32_2106
  let v2498 : BitVec 32 := Scalar.addi v2497 c0_i32_2107
  let c0_i32_2108 : BitVec 32 := 0#32
  let v2499 : BitVec 1 := Scalar.cmpi .eq v2498 c0_i32_2108
  let c1_i32_2109 : BitVec 32 := 1#32
  let v2500 : BitVec 32 := Scalar.subi v2498 c1_i32_2109
  let v2501 : BitVec 32 := Scalar.select v2499 arg2 v2500
  let c31_i32_2110 : BitVec 32 := 31#32
  let v2502 : BitVec 32 := Scalar.minsi v2501 c31_i32_2110
  let v2503 : Index := Scalar.indexCast v2502
  let c0_2113 : Index := 0#32
  let c0_2114 : Index := 0#32
  ![0, 1, v2503.toNat, 0, 0]
def k0_off59 (i : grid0.Coords) (c0_i32_2155 : BitVec 32) : Fin 5 → Nat :=
  let c0_2159 : Index := 0#32
  let c2_2160 : Index := 2#32
  let c2_i32_1337 : BitVec 32 := 2#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1764 : BitVec 32 := Scalar.muli c2_i32_1337 v1758
  let c2_i32_2154 : BitVec 32 := 2#32
  let v2541 : BitVec 32 := Scalar.addi v1764 c2_i32_2154
  let v2542 : BitVec 32 := Scalar.addi v2541 c0_i32_2155
  let c0_i32_2156 : BitVec 32 := 0#32
  let v2543 : BitVec 1 := Scalar.cmpi .eq v2542 c0_i32_2156
  let c1_i32_2157 : BitVec 32 := 1#32
  let v2544 : BitVec 32 := Scalar.subi v2542 c1_i32_2157
  let v2545 : BitVec 32 := Scalar.select v2543 arg2 v2544
  let c31_i32_2158 : BitVec 32 := 31#32
  let v2546 : BitVec 32 := Scalar.minsi v2545 c31_i32_2158
  let v2547 : Index := Scalar.indexCast v2546
  let c0_2161 : Index := 0#32
  let c0_2162 : Index := 0#32
  ![0, 2, v2547.toNat, 0, 0]
def k0_off60 (i : grid0.Coords) (c0_i32_2203 : BitVec 32) : Fin 5 → Nat :=
  let c0_2207 : Index := 0#32
  let c3_2208 : Index := 3#32
  let c2_i32_1337 : BitVec 32 := 2#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1764 : BitVec 32 := Scalar.muli c2_i32_1337 v1758
  let c2_i32_2202 : BitVec 32 := 2#32
  let v2585 : BitVec 32 := Scalar.addi v1764 c2_i32_2202
  let v2586 : BitVec 32 := Scalar.addi v2585 c0_i32_2203
  let c0_i32_2204 : BitVec 32 := 0#32
  let v2587 : BitVec 1 := Scalar.cmpi .eq v2586 c0_i32_2204
  let c1_i32_2205 : BitVec 32 := 1#32
  let v2588 : BitVec 32 := Scalar.subi v2586 c1_i32_2205
  let v2589 : BitVec 32 := Scalar.select v2587 arg2 v2588
  let c31_i32_2206 : BitVec 32 := 31#32
  let v2590 : BitVec 32 := Scalar.minsi v2589 c31_i32_2206
  let v2591 : Index := Scalar.indexCast v2590
  let c0_2209 : Index := 0#32
  let c0_2210 : Index := 0#32
  ![0, 3, v2591.toNat, 0, 0]
def k0_off61 (i : grid0.Coords) (c0_i32_2251 : BitVec 32) : Fin 5 → Nat :=
  let c0_2255 : Index := 0#32
  let c4_2256 : Index := 4#32
  let c2_i32_1337 : BitVec 32 := 2#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1764 : BitVec 32 := Scalar.muli c2_i32_1337 v1758
  let c2_i32_2250 : BitVec 32 := 2#32
  let v2629 : BitVec 32 := Scalar.addi v1764 c2_i32_2250
  let v2630 : BitVec 32 := Scalar.addi v2629 c0_i32_2251
  let c0_i32_2252 : BitVec 32 := 0#32
  let v2631 : BitVec 1 := Scalar.cmpi .eq v2630 c0_i32_2252
  let c1_i32_2253 : BitVec 32 := 1#32
  let v2632 : BitVec 32 := Scalar.subi v2630 c1_i32_2253
  let v2633 : BitVec 32 := Scalar.select v2631 arg2 v2632
  let c31_i32_2254 : BitVec 32 := 31#32
  let v2634 : BitVec 32 := Scalar.minsi v2633 c31_i32_2254
  let v2635 : Index := Scalar.indexCast v2634
  let c0_2257 : Index := 0#32
  let c0_2258 : Index := 0#32
  ![0, 4, v2635.toNat, 0, 0]
def k0_off62 (i : grid0.Coords) (c0_i32_2299 : BitVec 32) : Fin 5 → Nat :=
  let c0_2303 : Index := 0#32
  let c5_2304 : Index := 5#32
  let c2_i32_1337 : BitVec 32 := 2#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1764 : BitVec 32 := Scalar.muli c2_i32_1337 v1758
  let c2_i32_2298 : BitVec 32 := 2#32
  let v2673 : BitVec 32 := Scalar.addi v1764 c2_i32_2298
  let v2674 : BitVec 32 := Scalar.addi v2673 c0_i32_2299
  let c0_i32_2300 : BitVec 32 := 0#32
  let v2675 : BitVec 1 := Scalar.cmpi .eq v2674 c0_i32_2300
  let c1_i32_2301 : BitVec 32 := 1#32
  let v2676 : BitVec 32 := Scalar.subi v2674 c1_i32_2301
  let v2677 : BitVec 32 := Scalar.select v2675 arg2 v2676
  let c31_i32_2302 : BitVec 32 := 31#32
  let v2678 : BitVec 32 := Scalar.minsi v2677 c31_i32_2302
  let v2679 : Index := Scalar.indexCast v2678
  let c0_2305 : Index := 0#32
  let c0_2306 : Index := 0#32
  ![0, 5, v2679.toNat, 0, 0]
def k0_off63 (i : grid0.Coords) (c0_i32_2347 : BitVec 32) : Fin 5 → Nat :=
  let c0_2351 : Index := 0#32
  let c6_2352 : Index := 6#32
  let c2_i32_1337 : BitVec 32 := 2#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1764 : BitVec 32 := Scalar.muli c2_i32_1337 v1758
  let c2_i32_2346 : BitVec 32 := 2#32
  let v2717 : BitVec 32 := Scalar.addi v1764 c2_i32_2346
  let v2718 : BitVec 32 := Scalar.addi v2717 c0_i32_2347
  let c0_i32_2348 : BitVec 32 := 0#32
  let v2719 : BitVec 1 := Scalar.cmpi .eq v2718 c0_i32_2348
  let c1_i32_2349 : BitVec 32 := 1#32
  let v2720 : BitVec 32 := Scalar.subi v2718 c1_i32_2349
  let v2721 : BitVec 32 := Scalar.select v2719 arg2 v2720
  let c31_i32_2350 : BitVec 32 := 31#32
  let v2722 : BitVec 32 := Scalar.minsi v2721 c31_i32_2350
  let v2723 : Index := Scalar.indexCast v2722
  let c0_2353 : Index := 0#32
  let c0_2354 : Index := 0#32
  ![0, 6, v2723.toNat, 0, 0]
def k0_off64 (i : grid0.Coords) (c0_i32_2395 : BitVec 32) : Fin 5 → Nat :=
  let c0_2399 : Index := 0#32
  let c7_2400 : Index := 7#32
  let c2_i32_1337 : BitVec 32 := 2#32
  let arg2 : BitVec 32 := BitVec.ofNat 32 (i 2).val
  let c2_i32_1322 : BitVec 32 := 2#32
  let v1739 : BitVec 32 := Scalar.addi arg2 c2_i32_1322
  let c0_i32_1324 : BitVec 32 := 0#32
  let v1741 : BitVec 1 := Scalar.cmpi .sgt v1739 c0_i32_1324
  let v1742 : BitVec 32 := Scalar.extui v1741
  let c0_i32_1325 : BitVec 32 := 0#32
  let v1743 : BitVec 1 := Scalar.cmpi .slt v1739 c0_i32_1325
  let v1744 : BitVec 32 := Scalar.extui v1743
  let v1745 : BitVec 32 := Scalar.subi v1742 v1744
  let c2_i32_1323 : BitVec 32 := 2#32
  let c0_i32_1326 : BitVec 32 := 0#32
  let v1746 : BitVec 1 := Scalar.cmpi .sgt c2_i32_1323 c0_i32_1326
  let v1747 : BitVec 32 := Scalar.extui v1746
  let c0_i32_1327 : BitVec 32 := 0#32
  let v1748 : BitVec 1 := Scalar.cmpi .slt c2_i32_1323 c0_i32_1327
  let v1749 : BitVec 32 := Scalar.extui v1748
  let v1750 : BitVec 32 := Scalar.subi v1747 v1749
  let v1751 : BitVec 1 := Scalar.cmpi .ne v1745 v1750
  let v1752 : BitVec 32 := Scalar.remsi v1739 c2_i32_1323
  let c0_i32_1328 : BitVec 32 := 0#32
  let v1753 : BitVec 1 := Scalar.cmpi .ne v1752 c0_i32_1328
  let v1754 : BitVec 1 := Scalar.andi v1751 v1753
  let v1740 : BitVec 32 := Scalar.divsi v1739 c2_i32_1323
  let c1_i32_1329 : BitVec 32 := 1#32
  let v1755 : BitVec 32 := Scalar.subi v1740 c1_i32_1329
  let v1756 : BitVec 32 := Scalar.select v1754 v1755 v1740
  let c2_i32_1330 : BitVec 32 := 2#32
  let v1757 : BitVec 32 := Scalar.subi v1756 c2_i32_1330
  let c0_i32_1331 : BitVec 32 := 0#32
  let v1758 : BitVec 32 := Scalar.maxsi v1757 c0_i32_1331
  let v1764 : BitVec 32 := Scalar.muli c2_i32_1337 v1758
  let c2_i32_2394 : BitVec 32 := 2#32
  let v2761 : BitVec 32 := Scalar.addi v1764 c2_i32_2394
  let v2762 : BitVec 32 := Scalar.addi v2761 c0_i32_2395
  let c0_i32_2396 : BitVec 32 := 0#32
  let v2763 : BitVec 1 := Scalar.cmpi .eq v2762 c0_i32_2396
  let c1_i32_2397 : BitVec 32 := 1#32
  let v2764 : BitVec 32 := Scalar.subi v2762 c1_i32_2397
  let v2765 : BitVec 32 := Scalar.select v2763 arg2 v2764
  let c31_i32_2398 : BitVec 32 := 31#32
  let v2766 : BitVec 32 := Scalar.minsi v2765 c31_i32_2398
  let v2767 : Index := Scalar.indexCast v2766
  let c0_2401 : Index := 0#32
  let c0_2402 : Index := 0#32
  ![0, 7, v2767.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x8x8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x8x32x144x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== OutFfn.lean ====
abbrev S2x8192x1024 : Shape := ⟨3, ![2, 8192, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S1x1024 : Shape := ⟨2, ![1, 1024]⟩
abbrev S1x2816 : Shape := ⟨2, ![1, 2816]⟩
abbrev S1x512x1024 : Shape := ⟨3, ![1, 512, 1024]⟩
abbrev S8x2816 : Shape := ⟨2, ![8, 2816]⟩
abbrev S512x1024 : Shape := ⟨2, ![512, 1024]⟩
abbrev S512 : Shape := ⟨1, ![512]⟩
abbrev S512x1 : Shape := ⟨2, ![512, 1]⟩
abbrev S1024x2816 : Shape := ⟨2, ![1024, 2816]⟩
abbrev S512x2816 : Shape := ⟨2, ![512, 2816]⟩
abbrev S520x2816 : Shape := ⟨2, ![520, 2816]⟩

abbrev nBuf : Space → Nat
  | .hbm => 27
  | .vmem => 22
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S2x8192x1024, .f32⟩
  | .hbm, ⟨4, _⟩ => ⟨S2x8192x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x5632, .f32⟩
  | .hbm, ⟨10, _⟩ => ⟨S3x2816, .f32⟩
  | .hbm, ⟨11, _⟩ => ⟨S2816, .f32⟩
  | .hbm, ⟨12, _⟩ => ⟨S2816x1024, .f32⟩
  | .hbm, ⟨13, _⟩ => ⟨S1024, .f32⟩
  | .hbm, ⟨14, _⟩ => ⟨S2x8192x1024, .bf16⟩
  | .hbm, ⟨15, _⟩ => ⟨S2x8192x1024, .bf16⟩
  | .hbm, ⟨16, _⟩ => ⟨S2x8192x1024, .bf16⟩
  | .hbm, ⟨17, _⟩ => ⟨S2x8192x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S1024x5632, .bf16⟩
  | .hbm, ⟨22, _⟩ => ⟨S2816x1024, .bf16⟩
  | .hbm, ⟨23, _⟩ => ⟨S1x1024, .f32⟩
  | .hbm, ⟨24, _⟩ => ⟨S1x2816, .f32⟩
  | .hbm, ⟨25, _⟩ => ⟨S1x1024, .f32⟩
  | .hbm, ⟨26, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1024x5632, .bf16⟩
  | .local _ .vmem, ⟨15, _⟩ => ⟨S3x2816, .f32⟩
  | .local _ .vmem, ⟨16, _⟩ => ⟨S1x2816, .f32⟩
  | .local _ .vmem, ⟨17, _⟩ => ⟨S2816x1024, .bf16⟩
  | .local _ .vmem, ⟨18, _⟩ => ⟨S1x1024, .f32⟩
  | .local _ .vmem, ⟨19, _⟩ => ⟨S1x512x1024, .f32⟩
  | .local _ .vmem, ⟨20, _⟩ => ⟨S1x512x1024, .f32⟩
  | .local _ .vmem, ⟨21, _⟩ => ⟨S8x2816, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x5632 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S3x2816 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== OutFfnReferenceIdeal.lean ====
abbrev S2x8192x1024 : Shape := ⟨3, ![2, 8192, 1024]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩
abbrev S2x8194x2816 : Shape := ⟨3, ![2, 8194, 2816]⟩
abbrev S1x2816 : Shape := ⟨2, ![1, 2816]⟩
abbrev S1x1x2816 : Shape := ⟨3, ![1, 1, 2816]⟩

abbrev nBuf : Space → Nat
  | .hbm => 97
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x1024, .f32⟩
  | .hbm, ⟨2, _⟩ => ⟨S2x8192x1024, .f32⟩
  | .hbm, ⟨3, _⟩ => ⟨S2x8192x1024, .f32⟩
  | .hbm, ⟨4, _⟩ => ⟨S2x8192x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x5632, .f32⟩
  | .hbm, ⟨10, _⟩ => ⟨S3x2816, .f32⟩
  | .hbm, ⟨11, _⟩ => ⟨S2816, .f32⟩
  | .hbm, ⟨12, _⟩ => ⟨S2816x1024, .f32⟩
  | .hbm, ⟨13, _⟩ => ⟨S1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S2x8192x1024, .f32⟩
  | .hbm, ⟨19, _⟩ => ⟨S2x8192x1024, .f32⟩
  | .hbm, ⟨20, _⟩ => ⟨S2x8192x1024, .f32⟩
  | .hbm, ⟨21, _⟩ => ⟨S2x8192x1024, .f32⟩
  | .hbm, ⟨22, _⟩ => ⟨S_, .f32⟩
  | .hbm, ⟨23, _⟩ => ⟨S2x8192, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S_, .f32⟩
  | .hbm, ⟨29, _⟩ => ⟨S2x8192x1, .f32⟩
  | .hbm, ⟨30, _⟩ => ⟨S2x8192x1, .f32⟩
  | .hbm, ⟨31, _⟩ => ⟨S2x8192x1, .f32⟩
  | .hbm, ⟨32, _⟩ => ⟨S2x8192x1024, .f32⟩
  | .hbm, ⟨33, _⟩ => ⟨S2x8192x1024, .f32⟩
  | .hbm, ⟨34, _⟩ => ⟨S1x1x1024, .f32⟩
  | .hbm, ⟨35, _⟩ => ⟨S2x8192x1024, .f32⟩
  | .hbm, ⟨36, _⟩ => ⟨S2x8192x1024, .f32⟩
  | .hbm, ⟨37, _⟩ => ⟨S2x8192x5632, .f32⟩
  | .hbm, ⟨38, _⟩ => ⟨S2x8192x2816, .f32⟩
  | .hbm, ⟨39, _⟩ => ⟨S2x8192x2816, .f32⟩
  | .hbm, ⟨40, _⟩ => ⟨S_, .i32⟩
  | .hbm, ⟨41, _⟩ => ⟨S_, .f32⟩
  | .hbm, ⟨42, _⟩ => ⟨S2x8194x2816, .f32⟩
  | .hbm, ⟨43, _⟩ => ⟨S2x8192x2816, .f32⟩
  | .hbm, ⟨44, _⟩ => ⟨S1x2816, .f32⟩
  | .hbm, ⟨45, _⟩ => ⟨S2816, .f32⟩
  | .hbm, ⟨46, _⟩ => ⟨S1x1x2816, .f32⟩
  | .hbm, ⟨47, _⟩ => ⟨S2x8192x2816, .f32⟩
  | .hbm, ⟨48, _⟩ => ⟨S2x8192x2816, .f32⟩
  | .hbm, ⟨49, _⟩ => ⟨S_, .f32⟩
  | .hbm, ⟨50, _⟩ => ⟨S2x8192x2816, .f32⟩
  | .hbm, ⟨51, _⟩ => ⟨S2x8192x2816, .f32⟩
  | .hbm, ⟨52, _⟩ => ⟨S2x8192x2816, .f32⟩
  | .hbm, ⟨53, _⟩ => ⟨S1x2816, .f32⟩
  | .hbm, ⟨54, _⟩ => ⟨S2816, .f32⟩
  | .hbm, ⟨55, _⟩ => ⟨S1x1x2816, .f32⟩
  | .hbm, ⟨56, _⟩ => ⟨S2x8192x2816, .f32⟩
  | .hbm, ⟨57, _⟩ => ⟨S2x8192x2816, .f32⟩
  | .hbm, ⟨58, _⟩ => ⟨S2x8192x2816, .f32⟩
  | .hbm, ⟨59, _⟩ => ⟨S2x8192x2816, .f32⟩
  | .hbm, ⟨60, _⟩ => ⟨S1x2816, .f32⟩
  | .hbm, ⟨61, _⟩ => ⟨S2816, .f32⟩
  | .hbm, ⟨62, _⟩ => ⟨S1x1x2816, .f32⟩
  | .hbm, ⟨63, _⟩ => ⟨S2x8192x2816, .f32⟩
  | .hbm, ⟨64, _⟩ => ⟨S2x8192x2816, .f32⟩
  | .hbm, ⟨65, _⟩ => ⟨S2x8192x2816, .f32⟩
  | .hbm, ⟨66, _⟩ => ⟨S1x1x2816, .f32⟩
  | .hbm, ⟨67, _⟩ => ⟨S2x8192x2816, .f32⟩
  | .hbm, ⟨68, _⟩ => ⟨S2x8192x2816, .f32⟩
  | .hbm, ⟨69, _⟩ => ⟨S2x8192x2816, .f32⟩
  | .hbm, ⟨70, _⟩ => ⟨S2x8192x2816, .f32⟩
  | .hbm, ⟨71, _⟩ => ⟨S_, .f32⟩
  | .hbm, ⟨72, _⟩ => ⟨S2x8192x2816, .f32⟩
  | .hbm, ⟨73, _⟩ => ⟨S2x8192x2816, .f32⟩
  | .hbm, ⟨74, _⟩ => ⟨S_, .f32⟩
  | .hbm, ⟨75, _⟩ => ⟨S2x8192x2816, .f32⟩
  | .hbm, ⟨76, _⟩ => ⟨S2x8192x2816, .f32⟩
  | .hbm, ⟨77, _⟩ => ⟨S2x8192x2816, .f32⟩
  | .hbm, ⟨78, _⟩ => ⟨S2x8192x2816, .f32⟩
  | .hbm, ⟨79, _⟩ => ⟨S2x8192x1024, .f32⟩
  | .hbm, ⟨80, _⟩ => ⟨S2x8192x1024, .f32⟩
  | .hbm, ⟨81, _⟩ => ⟨S2x8192x1024, .f32⟩
  | .hbm, ⟨82, _⟩ => ⟨S_, .f32⟩
  | .hbm, ⟨83, _⟩ => ⟨S2x8192, .f32⟩
  | .hbm, ⟨84, _⟩ => ⟨S2x8192x1, .f32⟩
  | .hbm, ⟨85, _⟩ => ⟨S_, .f32⟩
  | .hbm, ⟨86, _⟩ => ⟨S2x8192x1, .f32⟩
  | .hbm, ⟨87, _⟩ => ⟨S2x8192x1, .f32⟩
  | .hbm, ⟨88, _⟩ => ⟨S_, .f32⟩
  | .hbm, ⟨89, _⟩ => ⟨S2x8192x1, .f32⟩
  | .hbm, ⟨90, _⟩ => ⟨S2x8192x1, .f32⟩
  | .hbm, ⟨91, _⟩ => ⟨S2x8192x1, .f32⟩
  | .hbm, ⟨92, _⟩ => ⟨S2x8192x1024, .f32⟩
  | .hbm, ⟨93, _⟩ => ⟨S2x8192x1024, .f32⟩
  | .hbm, ⟨94, _⟩ => ⟨S1x1x1024, .f32⟩
  | .hbm, ⟨95, _⟩ => ⟨S2x8192x1024, .f32⟩
  | .hbm, ⟨96, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c : Ref sig .tc := ⟨.hbm, 40, rfl⟩
abbrev main_call0_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_3 : Ref sig .tc := ⟨.hbm, 82, rfl⟩
abbrev main_v54 : Ref sig .tc := ⟨.hbm, 83, rfl⟩
abbrev main_v55 : Ref sig .tc := ⟨.hbm, 84, rfl⟩
abbrev main_cst_4 : Ref sig .tc := ⟨.hbm, 85, rfl⟩
abbrev main_v56 : Ref sig .tc := ⟨.hbm, 86, rfl⟩
abbrev main_v57 : Ref sig .tc := ⟨.hbm, 87, rfl⟩
abbrev main_cst_5 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩

abbrev nD : Nat := 1
abbrev τ : Topo := Topo.v7x

variable {F : FTy → Type} [FloatOps F]
-- ==== InProj.lean ====
abbrev S2x8192x1024 : Shape := ⟨3, ![2, 8192, 1024]⟩
abbrev S2x8192 : Shape := ⟨2, ![2, 8192]⟩
abbrev S1024 : Shape := ⟨1, ![1024]⟩
abbrev S1024x8192 : Shape := ⟨2, ![1024, 8192]⟩
abbrev S3x1024 : Shape := ⟨2, ![3, 1024]⟩
abbrev S1024x1024 : Shape := ⟨2, ![1024, 1024]⟩
abbrev S1024x5632 : Shape := ⟨2, ![1024, 5632]⟩
abbrev S2816x1024 : Shape := ⟨2, ![2816, 1024]⟩
abbrev S64 : Shape := ⟨1, ![64]⟩
abbrev S_ : Shape := ⟨0, ![]⟩
abbrev S128 : Shape := ⟨1, ![128]⟩
abbrev S1x128 : Shape := ⟨2, ![1, 128]⟩
abbrev S2x8192x1 : Shape := ⟨3, ![2, 8192, 1]⟩
abbrev S1x1024 : Shape := ⟨2, ![1, 1024]⟩
abbrev S2x1024x8192 : Shape := ⟨3, ![2, 1024, 8192]⟩
abbrev S2x8x8192x128 : Shape := ⟨4, ![2, 8, 8192, 128]⟩
abbrev S2x8x32x144x256 : Shape := ⟨5, ![2, 8, 32, 144, 256]⟩
abbrev S1x512x1024 : Shape := ⟨3, ![1, 512, 1024]⟩
abbrev S1x512x1 : Shape := ⟨3, ![1, 512, 1]⟩
abbrev S32x1024 : Shape := ⟨2, ![32, 1024]⟩
abbrev S32x5632 : Shape := ⟨2, ![32, 5632]⟩
abbrev S176x1024 : Shape := ⟨2, ![176, 1024]⟩
abbrev S1x1024x512 : Shape := ⟨3, ![1, 1024, 512]⟩
abbrev S1x8x512x128 : Shape := ⟨4, ![1, 8, 512, 128]⟩
abbrev S1x8x2x144x256 : Shape := ⟨5, ![1, 8, 2, 144, 256]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S520x1024 : Shape := ⟨2, ![520, 1024]⟩
abbrev S128x512 : Shape := ⟨2, ![128, 512]⟩
abbrev S1x128x512 : Shape := ⟨3, ![1, 128, 512]⟩
abbrev S1x1x512x128 : Shape := ⟨4, ![1, 1, 512, 128]⟩
abbrev S1024x512 : Shape := ⟨2, ![1024, 512]⟩
abbrev S128x256 : Shape := ⟨2, ![128, 256]⟩
abbrev S1x1x1x128x256 : Shape := ⟨5, ![1, 1, 1, 128, 256]⟩
abbrev S16x256 : Shape := ⟨2, ![16, 256]⟩
abbrev S1x1x1x16x256 : Shape := ⟨5, ![1, 1, 1, 16, 256]⟩

abbrev nBuf : Space → Nat
  | .hbm => 41
  | .vmem => 42
  | .smem => 0
  | _ => 0

abbrev bufTy : (tb : Table) → Fin (tcTables nBuf tb) → BufTy
  | .hbm, ⟨0, _⟩ => ⟨S2x8192x1024, .f32⟩
  | .hbm, ⟨1, _⟩ => ⟨S2x8192, .i32⟩
  | .hbm, ⟨2, _⟩ => ⟨S1024, .f32⟩
  | .hbm, ⟨3, _⟩ => ⟨S1024x8192, .f32⟩
  | .hbm, ⟨4, _⟩ => ⟨S3x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x5632, .f32⟩
  | .hbm, ⟨9, _⟩ => ⟨S2816x1024, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S128, .f32⟩
  | .hbm, ⟨19, _⟩ => ⟨S1x128, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S128, .f32⟩
  | .hbm, ⟨26, _⟩ => ⟨S1x128, .f32⟩
  | .hbm, ⟨27, _⟩ => ⟨S2x8192x1, .i32⟩
  | .hbm, ⟨28, _⟩ => ⟨S1x1024, .f32⟩
  | .hbm, ⟨29, _⟩ => ⟨S1024x8192, .bf16⟩
  | .hbm, ⟨30, _⟩ => ⟨S2x8192x1024, .bf16⟩
  | .hbm, ⟨31, _⟩ => ⟨S2x1024x8192, .bf16⟩
  | .hbm, ⟨32, _⟩ => ⟨S2x8x8192x128, .bf16⟩
  | .hbm, ⟨33, _⟩ => ⟨S2x8x32x144x256, .bf16⟩
  | .hbm, ⟨34, _⟩ => ⟨S2x8192x1024, .bf16⟩
  | .hbm, ⟨35, _⟩ => ⟨S2x8192x1024, .bf16⟩
  | .hbm, ⟨36, _⟩ => ⟨S1024x1024, .bf16⟩
  | .hbm, ⟨37, _⟩ => ⟨S1024x1024, .bf16⟩
  | .hbm, ⟨38, _⟩ => ⟨S1024x1024, .bf16⟩
  | .hbm, ⟨39, _⟩ => ⟨S1024x5632, .bf16⟩
  | .hbm, ⟨40, _⟩ => ⟨S2816x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x512x1, .i32⟩
  | .local _ .vmem, ⟨3, _⟩ => ⟨S1x512x1, .i32⟩
  | .local _ .vmem, ⟨4, _⟩ => ⟨S1x1024, .f32⟩
  | .local _ .vmem, ⟨5, _⟩ => ⟨S1x128, .f32⟩
  | .local _ .vmem, ⟨6, _⟩ => ⟨S1x128, .f32⟩
  | .local _ .vmem, ⟨7, _⟩ => ⟨S1024x8192, .bf16⟩
  | .local _ .vmem, ⟨8, _⟩ => ⟨S3x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x5632, .f32⟩
  | .local _ .vmem, ⟨16, _⟩ => ⟨S32x5632, .f32⟩
  | .local _ .vmem, ⟨17, _⟩ => ⟨S176x1024, .f32⟩
  | .local _ .vmem, ⟨18, _⟩ => ⟨S176x1024, .f32⟩
  | .local _ .vmem, ⟨19, _⟩ => ⟨S1x512x1024, .bf16⟩
  | .local _ .vmem, ⟨20, _⟩ => ⟨S1x512x1024, .bf16⟩
  | .local _ .vmem, ⟨21, _⟩ => ⟨S1x1024x512, .bf16⟩
  | .local _ .vmem, ⟨22, _⟩ => ⟨S1x1024x512, .bf16⟩
  | .local _ .vmem, ⟨23, _⟩ => ⟨S1x8x512x128, .bf16⟩
  | .local _ .vmem, ⟨24, _⟩ => ⟨S1x8x512x128, .bf16⟩
  | .local _ .vmem, ⟨25, _⟩ => ⟨S1x8x2x144x256, .bf16⟩
  | .local _ .vmem, ⟨26, _⟩ => ⟨S1x8x2x144x256, .bf16⟩
  | .local _ .vmem, ⟨27, _⟩ => ⟨S1x512x1024, .bf16⟩
  | .local _ .vmem, ⟨28, _⟩ => ⟨S1x512x1024, .bf16⟩
  | .local _ .vmem, ⟨29, _⟩ => ⟨S1x512x1024, .bf16⟩
  | .local _ .vmem, ⟨30, _⟩ => ⟨S1x512x1024, .bf16⟩
  | .local _ .vmem, ⟨31, _⟩ => ⟨S32x1024, .bf16⟩
  | .local _ .vmem, ⟨32, _⟩ => ⟨S32x1024, .bf16⟩
  | .local _ .vmem, ⟨33, _⟩ => ⟨S32x1024, .bf16⟩
  | .local _ .vmem, ⟨34, _⟩ => ⟨S32x1024, .bf16⟩
  | .local _ .vmem, ⟨35, _⟩ => ⟨S32x1024, .bf16⟩
  | .local _ .vmem, ⟨36, _⟩ => ⟨S32x1024, .bf16⟩
  | .local _ .vmem, ⟨37, _⟩ => ⟨S32x5632, .bf16⟩
  | .local _ .vmem, ⟨38, _⟩ => ⟨S32x5632, .bf16⟩
  | .local _ .vmem, ⟨39, _⟩ => ⟨S176x1024, .bf16⟩
  | .local _ .vmem, ⟨40, _⟩ => ⟨S176x1024, .bf16⟩
  | .local _ .vmem, ⟨41, _⟩ => ⟨S8x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16_0 : Ref sig .tc := ⟨.hbm, 30, rfl⟩
abbrev main_v16_1 : Ref sig .tc := ⟨.hbm, 31, rfl⟩
abbrev main_v16_2 : Ref sig .tc := ⟨.hbm, 32, rfl⟩
abbrev main_v16_3 : Ref sig .tc := ⟨.hbm, 33, rfl⟩
abbrev main_v16_4 : Ref sig .tc := ⟨.hbm, 34, rfl⟩
abbrev main_v16_5 : Ref sig .tc := ⟨.hbm, 35, rfl⟩
abbrev main_v16_6 : Ref sig .tc := ⟨.hbm, 36, rfl⟩
abbrev main_v16_7 : Ref sig .tc := ⟨.hbm, 37, rfl⟩
abbrev main_v16_8 : Ref sig .tc := ⟨.hbm, 38, rfl⟩
abbrev main_v16_9 : Ref sig .tc := ⟨.hbm, 39, rfl⟩
abbrev main_v16_10 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_20 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_21 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_22 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c15_i32 : BitVec 32 := 15#32
  let v2 : BitVec 32 := Scalar.minsi v1 c15_i32
  let c0_i32 : BitVec 32 := 0#32
  let c0_i32_0 : BitVec 32 := 0#32
  ![v2.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S32x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S176x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x2x144x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S32x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S32x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S32x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S32x5632 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S176x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== InProjReferenceIdeal.lean ====
abbrev S2x8192x1024 : Shape := ⟨3, ![2, 8192, 1024]⟩
abbrev S2x8192 : Shape := ⟨2, ![2, 8192]⟩
abbrev S1024 : Shape := ⟨1, ![1024]⟩
abbrev S1024x8192 : Shape := ⟨2, ![1024, 8192]⟩
abbrev S3x1024 : Shape := ⟨2, ![3, 1024]⟩
abbrev S1024x1024 : Shape := ⟨2, ![1024, 1024]⟩
abbrev S1024x5632 : Shape := ⟨2, ![1024, 5632]⟩
abbrev S2816x1024 : Shape := ⟨2, ![2816, 1024]⟩
abbrev S_ : Shape := ⟨0, ![]⟩
abbrev S2x8192x1 : Shape := ⟨3, ![2, 8192, 1]⟩
abbrev S1x1x1024 : Shape := ⟨3, ![1, 1, 1024]⟩
abbrev S2x8192x8192 : Shape := ⟨3, ![2, 8192, 8192]⟩
abbrev S2x8194x1024 : Shape := ⟨3, ![2, 8194, 1024]⟩
abbrev S1x1024 : Shape := ⟨2, ![1, 1024]⟩
abbrev S2x8192x8x128 : Shape := ⟨4, ![2, 8192, 8, 128]⟩
abbrev S2x8x8192x128 : Shape := ⟨4, ![2, 8, 8192, 128]⟩
abbrev S64 : Shape := ⟨1, ![64]⟩
abbrev S2x1x8192x1 : Shape := ⟨4, ![2, 1, 8192, 1]⟩
abbrev S1x1x1x64 : Shape := ⟨4, ![1, 1, 1, 64]⟩
abbrev S2x1x8192x64 : Shape := ⟨4, ![2, 1, 8192, 64]⟩
abbrev S2x8x8192x64 : Shape := ⟨4, ![2, 8, 8192, 64]⟩
abbrev S2x8x128x8192 : Shape := ⟨4, ![2, 8, 128, 8192]⟩
abbrev S2x1024x8192 : Shape := ⟨3, ![2, 1024, 8192]⟩
abbrev S2x8x32x256x128 : Shape := ⟨5, ![2, 8, 32, 256, 128]⟩
abbrev S2x8x32x128x256 : Shape := ⟨5, ![2, 8, 32, 128, 256]⟩
abbrev S2x8x32x16x256 : Shape := ⟨5, ![2, 8, 32, 16, 256]⟩
abbrev S2x8x32x144x256 : Shape := ⟨5, ![2, 8, 32, 144, 256]⟩

abbrev nBuf : Space → Nat
  | .hbm => 164
  | .vmem => 0
  | .smem => 0
  | _ => 0

abbrev hbmTy0_0 (i : Nat) : BufTy := match i % 128 with
  | 0 => ⟨S2x8192x1024, .f32⟩
  | 1 => ⟨S2x8192, .i32⟩
  | 2 => ⟨S1024, .f32⟩
  | 3 => ⟨S1024x8192, .f32⟩
  | 4 => ⟨S3x1024, .f32⟩
  | 5 => ⟨S1024x1024, .f32⟩
  | 6 => ⟨S1024x1024, .f32⟩
  | 7 => ⟨S1024x1024, .f32⟩
  | 8 => ⟨S1024x5632, .f32⟩
  | 9 => ⟨S2816x1024, .f32⟩
  | 10 => ⟨S2x8192x1024, .f32⟩
  | 11 => ⟨S_, .f32⟩
  | 12 => ⟨S2x8192, .f32⟩
  | 13 => ⟨S2x8192x1, .f32⟩
  | 14 => ⟨S_, .f32⟩
  | 15 => ⟨S2x8192x1, .f32⟩
  | 16 => ⟨S2x8192x1, .f32⟩
  | 17 => ⟨S_, .f32⟩
  | 18 => ⟨S2x8192x1, .f32⟩
  | 19 => ⟨S2x8192x1, .f32⟩
  | 20 => ⟨S2x8192x1, .f32⟩
  | 21 => ⟨S2x8192x1024, .f32⟩
  | 22 => ⟨S2x8192x1024, .f32⟩
  | 23 => ⟨S1x1x1024, .f32⟩
  | 24 => ⟨S2x8192x1024, .f32⟩
  | 25 => ⟨S2x8192x1024, .f32⟩
  | 26 => ⟨S2x8192x8192, .f32⟩
  | 27 => ⟨S2x8192x1024, .f32⟩
  | 28 => ⟨S2x8192x1024, .f32⟩
  | 29 => ⟨S2x8192x1024, .f32⟩
  | 30 => ⟨S2x8192x1024, .f32⟩
  | 31 => ⟨S2x8192x1024, .f32⟩
  | 32 => ⟨S2x8192x1024, .f32⟩
  | 33 => ⟨S2x8192x1024, .f32⟩
  | 34 => ⟨S2x8192x1024, .f32⟩
  | 35 => ⟨S2x8192x1024, .f32⟩
  | 36 => ⟨S_, .i32⟩
  | 37 => ⟨S_, .f32⟩
  | 38 => ⟨S2x8194x1024, .f32⟩
  | 39 => ⟨S2x8192x1024, .f32⟩
  | 40 => ⟨S1x1024, .f32⟩
  | 41 => ⟨S1024, .f32⟩
  | 42 => ⟨S1x1x1024, .f32⟩
  | 43 => ⟨S2x8192x1024, .f32⟩
  | 44 => ⟨S2x8192x1024, .f32⟩
  | 45 => ⟨S_, .f32⟩
  | 46 => ⟨S2x8192x1024, .f32⟩
  | 47 => ⟨S2x8192x1024, .f32⟩
  | 48 => ⟨S2x8192x1024, .f32⟩
  | 49 => ⟨S1x1024, .f32⟩
  | 50 => ⟨S1024, .f32⟩
  | 51 => ⟨S1x1x1024, .f32⟩
  | 52 => ⟨S2x8192x1024, .f32⟩
  | 53 => ⟨S2x8192x1024, .f32⟩
  | 54 => ⟨S2x8192x1024, .f32⟩
  | 55 => ⟨S2x8192x1024, .f32⟩
  | 56 => ⟨S1x1024, .f32⟩
  | 57 => ⟨S1024, .f32⟩
  | 58 => ⟨S1x1x1024, .f32⟩
  | 59 => ⟨S2x8192x1024, .f32⟩
  | 60 => ⟨S2x8192x1024, .f32⟩
  | 61 => ⟨S2x8192x1024, .f32⟩
  | 62 => ⟨S2x8192x1024, .f32⟩
  | 63 => ⟨S2x8192x8x128, .f32⟩
  | 64 => ⟨S2x8x8192x128, .f32⟩
  | 65 => ⟨S64, .f32⟩
  | 66 => ⟨S_, .f32⟩
  | 67 => ⟨S64, .f32⟩
  | 68 => ⟨S64, .f32⟩
  | 69 => ⟨S_, .f32⟩
  | 70 => ⟨S64, .f32⟩
  | 71 => ⟨S64, .f32⟩
  | 72 => ⟨S64, .f32⟩
  | 73 => ⟨S2x8192, .f32⟩
  | 74 => ⟨S2x1x8192x1, .f32⟩
  | 75 => ⟨S1x1x1x64, .f32⟩
  | 76 => ⟨S2x1x8192x64, .f32⟩
  | 77 => ⟨S2x1x8192x64, .f32⟩
  | 78 => ⟨S2x1x8192x64, .f32⟩
  | 79 => ⟨S2x1x8192x64, .f32⟩
  | 80 => ⟨S2x1x8192x64, .f32⟩
  | 81 => ⟨S2x8x8192x64, .f32⟩
  | 82 => ⟨S2x8x8192x64, .f32⟩
  | 83 => ⟨S2x8x8192x64, .f32⟩
  | 84 => ⟨S2x8x8192x64, .f32⟩
  | 85 => ⟨S2x8x8192x64, .f32⟩
  | 86 => ⟨S2x8x8192x64, .f32⟩
  | 87 => ⟨S2x8x8192x64, .f32⟩
  | 88 => ⟨S2x8x8192x64, .f32⟩
  | 89 => ⟨S2x8x8192x64, .f32⟩
  | 90 => ⟨S2x8x8192x64, .f32⟩
  | 91 => ⟨S2x8x8192x64, .f32⟩
  | 92 => ⟨S2x8x8192x64, .f32⟩
  | 93 => ⟨S2x8x8192x128, .f32⟩
  | 94 => ⟨S_, .f32⟩
  | 95 => ⟨S2x8x8192x128, .f32⟩
  | 96 => ⟨S2x8x8192x128, .f32⟩
  | 97 => ⟨S2x8192x8x128, .f32⟩
  | 98 => ⟨S2x8x8192x128, .f32⟩
  | 99 => ⟨S64, .f32⟩
  | 100 => ⟨S_, .f32⟩
  | 101 => ⟨S64, .f32⟩
  | 102 => ⟨S64, .f32⟩
  | 103 => ⟨S_, .f32⟩
  | 104 => ⟨S64, .f32⟩
  | 105 => ⟨S64, .f32⟩
  | 106 => ⟨S64, .f32⟩
  | 107 => ⟨S2x8192, .f32⟩
  | 108 => ⟨S2x1x8192x1, .f32⟩
  | 109 => ⟨S1x1x1x64, .f32⟩
  | 110 => ⟨S2x1x8192x64, .f32⟩
  | 111 => ⟨S2x1x8192x64, .f32⟩
  | 112 => ⟨S2x1x8192x64, .f32⟩
  | 113 => ⟨S2x1x8192x64, .f32⟩
  | 114 => ⟨S2x1x8192x64, .f32⟩
  | 115 => ⟨S2x8x8192x64, .f32⟩
  | 116 => ⟨S2x8x8192x64, .f32⟩
  | 117 => ⟨S2x8x8192x64, .f32⟩
  | 118 => ⟨S2x8x8192x64, .f32⟩
  | 119 => ⟨S2x8x8192x64, .f32⟩
  | 120 => ⟨S2x8x8192x64, .f32⟩
  | 121 => ⟨S2x8x8192x64, .f32⟩
  | 122 => ⟨S2x8x8192x64, .f32⟩
  | 123 => ⟨S2x8x8192x64, .f32⟩
  | 124 => ⟨S2x8x8192x64, .f32⟩
  | 125 => ⟨S2x8x8192x64, .f32⟩
  | 126 => ⟨S2x8x8192x64, .f32⟩
  | 127 => ⟨S2x8x8192x128, .f32⟩
  | _ => ⟨S2x8192x1024, .f32⟩

abbrev hbmTy0_1 (i : Nat) : BufTy := match i % 128 with
  | 0 => ⟨S2x8x128x8192, .f32⟩
  | 1 => ⟨S2x1024x8192, .f32⟩
  | 2 => ⟨S2x8192x8x128, .f32⟩
  | 3 => ⟨S2x8x8192x128, .f32⟩
  | 4 => ⟨S2x8x32x256x128, .f32⟩
  | 5 => ⟨S2x8x32x128x256, .f32⟩
  | 6 => ⟨S_, .f32⟩
  | 7 => ⟨S2x8x32x16x256, .f32⟩
  | 8 => ⟨S2x8x32x144x256, .f32⟩
  | 9 => ⟨S2x8192x1024, .f32⟩
  | 10 => ⟨S2x8192x1024, .f32⟩
  | 11 => ⟨S_, .f32⟩
  | 12 => ⟨S2x8192x1024, .f32⟩
  | 13 => ⟨S2x8192x1024, .f32⟩
  | 14 => ⟨S_, .f32⟩
  | 15 => ⟨S2x8192x1024, .f32⟩
  | 16 => ⟨S2x8192x1024, .f32⟩
  | 17 => ⟨S2x8192x1024, .f32⟩
  | 18 => ⟨S2x8192x1024, .f32⟩
  | 19 => ⟨S_, .f32⟩
  | 20 => ⟨S2x8192x1024, .f32⟩
  | 21 => ⟨S2x8192x1024, .f32⟩
  | 22 => ⟨S_, .f32⟩
  | 23 => ⟨S2x8192x1024, .f32⟩
  | 24 => ⟨S2x8192x1024, .f32⟩
  | 25 => ⟨S2x8192x1024, .bf16⟩
  | 26 => ⟨S2x1024x8192, .bf16⟩
  | 27 => ⟨S2x8x8192x128, .bf16⟩
  | 28 => ⟨S2x8x32x144x256, .bf16⟩
  | 29 => ⟨S2x8192x1024, .bf16⟩
  | 30 => ⟨S2x8192x1024, .bf16⟩
  | 31 => ⟨S1024x1024, .bf16⟩
  | 32 => ⟨S1024x1024, .bf16⟩
  | 33 => ⟨S1024x1024, .bf16⟩
  | 34 => ⟨S1024x5632, .bf16⟩
  | 35 => ⟨S2816x1024, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_2 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_3 : Ref sig .tc := ⟨.hbm, 66, rfl⟩
abbrev main_v50 : Ref sig .tc := ⟨.hbm, 67, rfl⟩
abbrev main_v51 : Ref sig .tc := ⟨.hbm, 68, rfl⟩
abbrev main_cst_4 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_cst_5 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_6 : Ref sig .tc := ⟨.hbm, 100, rfl⟩
abbrev main_v81 : Ref sig .tc := ⟨.hbm, 101, rfl⟩
abbrev main_v82 : Ref sig .tc := ⟨.hbm, 102, rfl⟩
abbrev main_cst_7 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_cst_8 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_cst_9 : Ref sig .tc := ⟨.hbm, 139, rfl⟩
abbrev main_v117 : Ref sig .tc := ⟨.hbm, 140, rfl⟩
abbrev main_v118 : Ref sig .tc := ⟨.hbm, 141, rfl⟩
abbrev main_cst_10 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_cst_11 : Ref sig .tc := ⟨.hbm, 147, rfl⟩
abbrev main_v123 : Ref sig .tc := ⟨.hbm, 148, rfl⟩
abbrev main_v124 : Ref sig .tc := ⟨.hbm, 149, rfl⟩
abbrev main_cst_12 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩

abbrev nD : Nat := 1
abbrev τ : Topo := Topo.v7x

variable {F : FTy → Type} [FloatOps F]
-- ==== Proof.Held.lean ====
/-
  The MoBA attention kernel never gets stuck and never writes its operands: every load and store of its
  body falls on a buffer the body holds, whatever values flow. `Safe I P` says that `P` keeps what `I`
  holds; the body is gone through statement by statement with `I` the twelve buffers, the three operands at
  fixed contents and the rest at any.
-/
module

public import proofs.«01_k».proof.Proof.Gen.KernelIdeal.Frame

@[expose] public section

set_option maxRecDepth 16384

noncomputable section

namespace Cert.KernelIdeal.Held

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resources a proof about one TensorCore's body speaks of. -/
abbrev Res (F : FTy → Type) := MT nD τ sig Unit (Elt F) ℕ (UR sig nD τ) ℕ

/-- A program of one TensorCore. -/
abbrev Code (F : FTy → Type) [FloatOps F] (α : Type) := Prog (TpuEff nD τ sig (Elt F) Λ₀ .tc) α

variable (c : Dev nD)

/-- `P` runs with what `I` holds, and leaves it holding. -/
def Safe (I : sProp (Res F)) {α : Type} (P : Code F α) : Prop :=
  I ⊢ wp frame (wpE (defs₀ (F := F)) Variants.none (c : Thread nD τ) none) Set.univ P (fun _ => I)

/-- `I` holds memref `a` at some share, to be given back as it was. -/
class Readable (I : sProp (Res F)) {s : Shape} {e : EltTy} (a : Memref sig .tc .vmem s e) : Prop where
  out : I ⊢ iprop(∃ q f, (a.view.loc (c : Thread nD τ) ↦[a.view.set]{q} f) ∗ ((a.view.loc (c : Thread nD τ) ↦[a.view.set]{q} f) -∗ I))

/-- `I` holds memref `a` whole, to be given back at any contents. -/
class Writable (I : sProp (Res F)) {s : Shape} {e : EltTy} (a : Memref sig .tc .vmem s e) : Prop where
  out : I ⊢ iprop(∃ f, (a.view.loc (c : Thread nD τ) ↦[a.view.set]{fullShare} f) ∗ (∀ g, (a.view.loc (c : Thread nD τ) ↦[a.view.set]{fullShare} g) -∗ I))

/-- What may be written may be read. -/
instance (I : sProp (Res F)) {s : Shape} {e : EltTy} (a : Memref sig .tc .vmem s e) [h : Writable c I a] : Readable c I a where
  out := by
    refine h.out.trans ?_
    iintro ⟨%f, H, K⟩
    iexists fullShare, f
    isplitl [H]; · iexact H
    iapply K

variable {c}
variable {I : sProp (Res F)}

/-- Stopping keeps what is held. -/
theorem safe_pure {α : Type} (a : α) : Safe c I (pure a : Code F α) := by
  unfold Safe
  show _ ⊢ wp _ _ _ (.ret a) _
  rw [wp_ret]
  exact BI.fupd_intro

/-- One program after another. -/
theorem safe_bind {α β : Type} {P : Code F α} {k : α → Code F β} (hP : Safe c I P) (hk : ∀ a, Safe c I (k a)) :
    Safe c I (P >>= k) := by
  unfold Safe
  rw [wp_bind]
  exact hP.trans (wp_mono _ _ _ hk)

/-- A load from a buffer that is held. -/
theorem safe_load {s : Shape} {e : EltTy} {a : Memref sig .tc .vmem s e} [h : Readable c I a] {r : LoadRect s} {hl : a.view.LoadsAt r} :
    Safe c I (Prog.lift (.load a r hl) : Code F _) := by
  unfold Safe
  refine h.out.trans ?_
  iintro ⟨%q, %f, H, K⟩
  iapply (wp_load Variants.none (c : Thread nD τ) none Set.univ (Q := fun _ => I) (View.setOn_subset_set _ _)) $$ H
  iintro H
  rw [wp_ret]
  imodintro
  iapply K
  iexact H

/-- A store to a buffer that is held whole. -/
theorem safe_store {s : Shape} {e : EltTy} {a : Memref sig .tc .vmem s e} [h : Writable c I a] {r : Rect s} {w : r.shape.Idx → Elt F e}
    {M : Finset r.shape.Idx} {hx : (a.access r).Stores M} {hm : M = Finset.univ ∨ ∀ b, r.stride b = 1} :
    Safe c I (Prog.lift (.store a r w M hx hm) : Code F _) := by
  unfold Safe
  refine h.out.trans ?_
  iintro ⟨%f, H, K⟩
  iapply (wp_store Variants.none (c : Thread nD τ) none Set.univ (Q := fun _ => I)
    ((a.setOn_access_subset_setOn r M).trans (View.setOn_subset_set _ _))) $$ H
  iintro H
  rw [wp_ret]
  imodintro
  iapply K
  iexact H

/-- A counted loop whose trips are all safe. -/
theorem safe_for {σ : Type} {l : Scf.Loop 32} {hok : l.OK} {init : σ} {body : Fin l.trips → σ → Code F σ}
    (h : ∀ k acc, Safe c I (body k acc)) : Safe c I (Scf.Loop.for l hok init body) := by
  unfold Safe
  iintro H
  iapply (Scf.wp_for _ _ _ l.lb l.ub l.st hok init body (fun _ _ => I) h)
  isplitl [H]; · iexact H
  iintro %acc H
  iexact H

/-- A branch, whichever way it goes. -/
theorem safe_dite {α : Type} {p : Prop} [Decidable p] {P : p → Code F α} {Q : ¬p → Code F α} (hP : ∀ h, Safe c I (P h))
    (hQ : ∀ h, Safe c I (Q h)) : Safe c I (if h : p then P h else Q h) := by
  split
  · exact hP _
  · exact hQ _

variable (c)
variable (i : grid0.Coords) (arg3 : Memref sig .tc .vmem S1x1024x256 .bf16) (arg4 : Memref sig .tc .vmem S1x8x8192x128 .bf16) (arg5 : Memref sig .tc .vmem S1x8x32x144x256 .bf16) (arg6 : Memref sig .tc .vmem S1x256x1024 .bf16) (arg7 : Memref sig .tc .vmem S8x64x128 .bf16) (arg8 : Memref sig .tc .vmem S8x256x256 .bf16) (arg9 : Memref sig .tc .vmem S8x1x256 .f32) (arg10 : Memref sig .tc .vmem S8x144x256 .f32) (arg11 : Memref sig .tc .vmem S2x8x256x256 .f32) (arg12 : Memref sig .tc .vmem S2x8x1x256 .f32) (arg13 : Memref sig .tc .vmem S2x8x256x256 .bf16) (arg14 : Memref sig .tc .vmem S2x8x1x256 .f32)
  (harg3 : arg3.IsWhole) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole)
  (x3 : Vec F S1x1024x256 .bf16) (x4 : Vec F S1x8x8192x128 .bf16) (x5 : Vec F S1x8x32x144x256 .bf16)

/-- The twelve buffers of the body: its operands at fixed contents, its result and its scratch at any. -/
def Bufs : sProp (Res F) :=
  iprop(owns (c : Thread nD τ) arg3 fullShare x3
    ∗ owns (c : Thread nD τ) arg4 fullShare x4
    ∗ owns (c : Thread nD τ) arg5 fullShare x5
    ∗ (∃ d : Vec F S1x256x1024 .bf16, owns (c : Thread nD τ) arg6 fullShare d)
    ∗ (∃ d : Vec F S8x64x128 .bf16, owns (c : Thread nD τ) arg7 fullShare d)
    ∗ (∃ d : Vec F S8x256x256 .bf16, owns (c : Thread nD τ) arg8 fullShare d)
    ∗ (∃ d : Vec F S8x1x256 .f32, owns (c : Thread nD τ) arg9 fullShare d)
    ∗ (∃ d : Vec F S8x144x256 .f32, owns (c : Thread nD τ) arg10 fullShare d)
    ∗ (∃ d : Vec F S2x8x256x256 .f32, owns (c : Thread nD τ) arg11 fullShare d)
    ∗ (∃ d : Vec F S2x8x1x256 .f32, owns (c : Thread nD τ) arg12 fullShare d)
    ∗ (∃ d : Vec F S2x8x256x256 .bf16, owns (c : Thread nD τ) arg13 fullShare d)
    ∗ (∃ d : Vec F S2x8x1x256 .f32, owns (c : Thread nD τ) arg14 fullShare d))

/-- Operand 3 may be read. -/
instance : Readable c (Bufs c arg3 arg4 arg5 arg6 arg7 arg8 arg9 arg10 arg11 arg12 arg13 arg14 x3 x4 x5) arg3 where
  out := by
    unfold Bufs owns
    iintro ⟨⟨%f3, %hf3, H3⟩, H4, H5, H6, H7, H8, H9, H10, H11, H12, H13, H14⟩
    iexists fullShare, f3
    isplitl [H3]; · iexact H3
    iintro H3
    isplitl [H3]
    · iexists f3; isplitr; · ipureintro; exact hf3
      iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    iexact H14

/-- Operand 4 may be read. -/
instance : Readable c (Bufs c arg3 arg4 arg5 arg6 arg7 arg8 arg9 arg10 arg11 arg12 arg13 arg14 x3 x4 x5) arg4 where
  out := by
    unfold Bufs owns
    iintro ⟨H3, ⟨%f4, %hf4, H4⟩, H5, H6, H7, H8, H9, H10, H11, H12, H13, H14⟩
    iexists fullShare, f4
    isplitl [H4]; · iexact H4
    iintro H4
    isplitl [H3]
    · iexact H3
    isplitl [H4]
    · iexists f4; isplitr; · ipureintro; exact hf4
      iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    iexact H14

/-- Operand 5 may be read. -/
instance : Readable c (Bufs c arg3 arg4 arg5 arg6 arg7 arg8 arg9 arg10 arg11 arg12 arg13 arg14 x3 x4 x5) arg5 where
  out := by
    unfold Bufs owns
    iintro ⟨H3, H4, ⟨%f5, %hf5, H5⟩, H6, H7, H8, H9, H10, H11, H12, H13, H14⟩
    iexists fullShare, f5
    isplitl [H5]; · iexact H5
    iintro H5
    isplitl [H3]
    · iexact H3
    isplitl [H4]
    · iexact H4
    isplitl [H5]
    · iexists f5; isplitr; · ipureintro; exact hf5
      iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    iexact H14

/-- Buffer 6 may be written. -/
instance : Writable c (Bufs c arg3 arg4 arg5 arg6 arg7 arg8 arg9 arg10 arg11 arg12 arg13 arg14 x3 x4 x5) arg6 where
  out := by
    unfold Bufs owns
    iintro ⟨H3, H4, H5, ⟨%d6, %f6, -, H6⟩, H7, H8, H9, H10, H11, H12, H13, H14⟩
    iexists f6
    isplitl [H6]; · iexact H6
    iintro %g H6
    isplitl [H3]
    · iexact H3
    isplitl [H4]
    · iexact H4
    isplitl [H5]
    · iexact H5
    isplitl [H6]
    · iexists _; iexists g; isplitr; · ipureintro; rfl
      iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    iexact H14

/-- Buffer 7 may be written. -/
instance : Writable c (Bufs c arg3 arg4 arg5 arg6 arg7 arg8 arg9 arg10 arg11 arg12 arg13 arg14 x3 x4 x5) arg7 where
  out := by
    unfold Bufs owns
    iintro ⟨H3, H4, H5, H6, ⟨%d7, %f7, -, H7⟩, H8, H9, H10, H11, H12, H13, H14⟩
    iexists f7
    isplitl [H7]; · iexact H7
    iintro %g H7
    isplitl [H3]
    · iexact H3
    isplitl [H4]
    · iexact H4
    isplitl [H5]
    · iexact H5
    isplitl [H6]
    · iexact H6
    isplitl [H7]
    · iexists _; iexists g; isplitr; · ipureintro; rfl
      iexact H7
    isplitl [H8]
    · iexact H8
    isplitl [H9]
    · iexact H9
    isplitl [H10]
    · iexact H10
    isplitl [H11]
    · iexact H11
    isplitl [H12]
    · iexact H12
    isplitl [H13]
    · iexact H13
    iexact H14

/-- Buffer 8 may be written. -/
instance : Writable c (Bufs c arg3 arg4 arg5 arg6 arg7 arg8 arg9 arg10 arg11 arg12 arg13 arg14 x3 x4 x5) arg8 where
  out := by
    unfold Bufs owns
    iintro ⟨H3, H4, H5, H6, H7, ⟨%d8, %f8, -, H8⟩, H9, H10, H11, H12, H13, H14⟩
    iexists f8
    isplitl [H8]; · iexact H8
    iintro %g H8
    isplitl [H3]
    · iexact H3
    isplitl [H4]
    · iexact H4
    isplitl [H5]
    · iexact H5
    isplitl [H6]
    · iexact H6
    isplitl [H7]
    · iexact H7
    isplitl [H8]
    · iexists _; iexists g; isplitr; · ipureintro; rfl
      iexact H8
    isplitl [H9]
    · iexact H9
    isplitl [H10]
    · iexact H10
    isplitl [H11]
    · iexact H11
    isplitl [H12]
    · iexact H12
    isplitl [H13]
    · iexact H13
    iexact H14

/-- Buffer 9 may be written. -/
instance : Writable c (Bufs c arg3 arg4 arg5 arg6 arg7 arg8 arg9 arg10 arg11 arg12 arg13 arg14 x3 x4 x5) arg9 where
  out := by
    unfold Bufs owns
    iintro ⟨H3, H4, H5, H6, H7, H8, ⟨%d9, %f9, -, H9⟩, H10, H11, H12, H13, H14⟩
    iexists f9
    isplitl [H9]; · iexact H9
    iintro %g H9
    isplitl [H3]
    · iexact H3
    isplitl [H4]
    · iexact H4
    isplitl [H5]
    · iexact H5
    isplitl [H6]
    · iexact H6
    isplitl [H7]
    · iexact H7
    isplitl [H8]
    · iexact H8
    isplitl [H9]
    · iexists _; iexists g; isplitr; · ipureintro; rfl
      iexact H9
    isplitl [H10]
    · iexact H10
    isplitl [H11]
    · iexact H11
    isplitl [H12]
    · iexact H12
    isplitl [H13]
    · iexact H13
    iexact H14

/-- Buffer 10 may be written. -/
instance : Writable c (Bufs c arg3 arg4 arg5 arg6 arg7 arg8 arg9 arg10 arg11 arg12 arg13 arg14 x3 x4 x5) arg10 where
  out := by
    unfold Bufs owns
    iintro ⟨H3, H4, H5, H6, H7, H8, H9, ⟨%d10, %f10, -, H10⟩, H11, H12, H13, H14⟩
    iexists f10
    isplitl [H10]; · iexact H10
    iintro %g H10
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexists _; iexists g; isplitr; · ipureintro; rfl
      iexact H10
    isplitl [H11]
    · iexact H11
    isplitl [H12]
    · iexact H12
    isplitl [H13]
    · iexact H13
    iexact H14

/-- Buffer 11 may be written. -/
instance : Writable c (Bufs c arg3 arg4 arg5 arg6 arg7 arg8 arg9 arg10 arg11 arg12 arg13 arg14 x3 x4 x5) arg11 where
  out := by
    unfold Bufs owns
    iintro ⟨H3, H4, H5, H6, H7, H8, H9, H10, ⟨%d11, %f11, -, H11⟩, H12, H13, H14⟩
    iexists f11
    isplitl [H11]; · iexact H11
    iintro %g H11
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexists _; iexists g; isplitr; · ipureintro; rfl
      iexact H11
    isplitl [H12]
    · iexact H12
    isplitl [H13]
    · iexact H13
    iexact H14

/-- Buffer 12 may be written. -/
instance : Writable c (Bufs c arg3 arg4 arg5 arg6 arg7 arg8 arg9 arg10 arg11 arg12 arg13 arg14 x3 x4 x5) arg12 where
  out := by
    unfold Bufs owns
    iintro ⟨H3, H4, H5, H6, H7, H8, H9, H10, H11, ⟨%d12, %f12, -, H12⟩, H13, H14⟩
    iexists f12
    isplitl [H12]; · iexact H12
    iintro %g H12
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexists _; iexists g; isplitr; · ipureintro; rfl
      iexact H12
    isplitl [H13]
    · iexact H13
    iexact H14

/-- Buffer 13 may be written. -/
instance : Writable c (Bufs c arg3 arg4 arg5 arg6 arg7 arg8 arg9 arg10 arg11 arg12 arg13 arg14 x3 x4 x5) arg13 where
  out := by
    unfold Bufs owns
    iintro ⟨H3, H4, H5, H6, H7, H8, H9, H10, H11, H12, ⟨%d13, %f13, -, H13⟩, H14⟩
    iexists f13
    isplitl [H13]; · iexact H13
    iintro %g H13
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexists _; iexists g; isplitr; · ipureintro; rfl
      iexact H13
    iexact H14

/-- Buffer 14 may be written. -/
instance : Writable c (Bufs c arg3 arg4 arg5 arg6 arg7 arg8 arg9 arg10 arg11 arg12 arg13 arg14 x3 x4 x5) arg14 where
  out := by
    unfold Bufs owns
    iintro ⟨H3, H4, H5, H6, H7, H8, H9, H10, H11, H12, H13, ⟨%d14, %f14, -, H14⟩⟩
    iexists f14
    isplitl [H14]; · iexact H14
    iintro %g H14
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H11]
    · iexact H11
    isplitl [H12]
    · iexact H12
    isplitl [H13]
    · iexact H13
    iexists _; iexists g; isplitr; · ipureintro; rfl
    iexact H14

variable {c}
set_option maxHeartbeats 4000000 in
/-- The whole body keeps its twelve buffers. -/
theorem safe_body : Safe c (Bufs c arg3 arg4 arg5 arg6 arg7 arg8 arg9 arg10 arg11 arg12 arg13 arg14 x3 x4 x5) (cc0_moba_attn i arg3 harg3 arg4 harg4 arg5 harg5 arg6 harg6 arg7 harg7 arg8 harg8 arg9 harg9 arg10 harg10 arg11 harg11 arg12 harg12 arg13 harg13 arg14 harg14) := by
  delta cc0_moba_attn
  repeat' (first
    | (with_reducible refine safe_bind ?_ fun _ => ?_)
    | with_reducible exact safe_pure _
    | with_reducible exact safe_load
    | with_reducible exact safe_store
    | (with_reducible refine safe_dite (fun _ => ?_) fun _ => ?_)
    | (with_reducible refine safe_for fun _ _ => ?_)
    | delta k0_part1
    | delta k0_part2
    | delta k0_part3
    | delta k0_part4
    | delta k0_part5
    | delta k0_part6
    | delta k0_part7
    | delta k0_part8
    | delta k0_part9
    | delta k0_part10
    | delta k0_part11
    | delta k0_part12
    | delta k0_part13
    | delta k0_part14
    | delta k0_part15
    | delta k0_part16
    | delta k0_part17
    | delta k0_part18
    | delta k0_part19
    | delta k0_part20
    | delta k0_part21
    | delta k0_part22
    | delta k0_part23
    | delta k0_part24
    | delta k0_part25
    | delta k0_part26
    | delta k0_part27
    | delta k0_part28
    | delta k0_part29
    | delta k0_part30
    | delta k0_part31
    | delta k0_part32
    | delta k0_part33
    | delta k0_part34
    | delta k0_part35
    | delta k0_part36
    | delta k0_part37
    | delta k0_part38
    | delta k0_part39
    | delta k0_part40
    | delta k0_part41
    | delta k0_part42
    | delta k0_part43
    | delta k0_part44
    | delta k0_part45
    | delta k0_part46
    | delta k0_part47
    | delta k0_part48
    | delta k0_part49
    | delta k0_part50
    | delta k0_part51
    | delta k0_part52
    | delta k0_part53
    | delta k0_part54
    | delta k0_part55
    | delta k0_part56
    | delta k0_part57
    | delta k0_part58
    | delta k0_part59
    | delta k0_part60
    | delta k0_part61
    | delta k0_part62
    | delta k0_part63
    | delta k0_part64
    | delta k0_part65
    | delta k0_part66
    | delta k0_part67
    | delta k0_part68
    | delta k0_part69
    | delta k0_part70
    | delta k0_part71
    | delta k0_part72
    | delta k0_part73
    | delta k0_part74
    | delta k0_part75
    | delta k0_part76
    | delta k0_part77
    | delta k0_part78
    | delta k0_part79
    | delta k0_part80
    | delta k0_part81
    | delta k0_part82
    | delta k0_part83
    | delta k0_part84
    | delta k0_part85
    | delta k0_part86
    | delta k0_part87
    | delta k0_part88
    | delta k0_part89
    | delta k0_part90
    | delta k0_part91
    | delta k0_part92
    | delta k0_part93
    | delta k0_part94
    | delta k0_part95
    | delta k0_part96
    | delta k0_part97
    | delta k0_part98
    | delta k0_part99
    | delta k0_part100
    | delta k0_part101
    | delta k0_part102
    | delta k0_part103
    | delta k0_part104
    | delta k0_part105
    | delta k0_part106
    | delta k0_part107
    | delta k0_part108
    | delta k0_part109
    | delta k0_part110
    | delta k0_part111
    | delta k0_part112
    | delta k0_part113
    | delta k0_part114
    | delta k0_part115
    | delta k0_part116
    | delta k0_part117
    | delta k0_part118
    | delta k0_part119
    | delta k0_part120
    | delta k0_part121
    | delta k0_part122
    | delta k0_part123
    | delta k0_part124
    | delta k0_part125
    | delta k0_part126
    | delta k0_part127
    | delta k0_part128
    | delta k0_part129
    | delta k0_part130
    | delta k0_part131
    | delta k0_part132
    | delta k0_part133
    | delta k0_part134
    | delta k0_part135
    | delta k0_part136
    | delta k0_part137
    | delta k0_part138
    | delta k0_part139
    | delta k0_part140
    | delta k0_part141
    | delta k0_part142
    | delta k0_part143
    | delta k0_part144
    | delta k0_part145
    | delta k0_part146
    | delta k0_part147
    | delta k0_part148
    | delta k0_part149
    | delta k0_part150
    | delta k0_part151
    | delta k0_part152
    | delta k0_part153
    | delta k0_part154
    | delta k0_part155
    | delta k0_part156
    | delta k0_part157
    | delta k0_part158
    | delta k0_part159
    | delta k0_part160
    | delta k0_part161
    | delta k0_part162
    | delta k0_part163
    | delta k0_part164
    | delta k0_part165
    | delta k0_part166
    | delta k0_part167
    | delta k0_part168
    | delta k0_part169
    | delta k0_part170
    | delta k0_part171
    | delta k0_part172
    | delta k0_part173
    | delta k0_part174
    | delta k0_part175
    | delta k0_part176
    | delta k0_part177
    | delta k0_part178
    | delta k0_part179
    | delta k0_part180)

end Cert.KernelIdeal.Held
-- ==== Proof.Moba.lean ====
/-
  The MoBA attention program runs to the end, leaves its operands as they were and every semaphore at zero. Nothing
  is said of what the attention leaves in its result: the body is only known to keep its buffers (`safe_body`).
  Stated at any arithmetic, so that the rounded program and the exact one both take it from here.
-/
module

public import proofs.«01_k».proof.Proof.Held
public import Idealize.ShloMosaic.Lib.Claim

@[expose] public section

set_option maxRecDepth 16384

noncomputable section

namespace Cert.KernelIdeal.Moba

open Cert.KernelIdeal Cert.KernelIdeal.Gen Cert.KernelIdeal.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- Only the result, window 3, is left unnamed. -/
def unnamed : Fin 4 → Bool := fun w => w.val == 3

/-- What the grid's points find and leave: each operand's block where it was, the result at anything. -/
def points (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

/-- The arrays are those of the region's entry. -/
theorem points_A (c : Dev nD) (w : Fin cfg0.W) : (points m 0 c).A w = V m c (Pipeline.arrRef spec0 w) := by
  dsimp only [points]

/-- Every point leaves the queries' block as it found it. -/
theorem after_q (c : Dev nD) (t : Fin cfg0.N) : (points m 0 c).after 0 t = iblk m c 0 t := by dsimp only [points]
/-- Every point leaves the keys' block as it found it. -/
theorem after_k (c : Dev nD) (t : Fin cfg0.N) : (points m 0 c).after 1 t = iblk m c 1 t := by dsimp only [points]
/-- Every point leaves the values' block as it found it. -/
theorem after_v (c : Dev nD) (t : Fin cfg0.N) : (points m 0 c).after 2 t = iblk m c 2 t := by dsimp only [points]

/-- Every point finds the queries' block. -/
theorem before_q (c : Dev nD) (t : Fin cfg0.N) (d) : (points m 0 c).before 0 t d = iblk m c 0 t :=
  before0_0_of m (points m 0 c) (points_A m c 0) (after_q m c) t d
/-- Every point finds the keys' block. -/
theorem before_k (c : Dev nD) (t : Fin cfg0.N) (d) : (points m 0 c).before 1 t d = iblk m c 1 t :=
  before0_1_of m (points m 0 c) (points_A m c 1) (after_k m c) t d
/-- Every point finds the values' block. -/
theorem before_v (c : Dev nD) (t : Fin cfg0.N) (d) : (points m 0 c).before 2 t d = iblk m c 2 t :=
  before0_2_of m (points m 0 c) (points_A m c 2) (after_v m c) t d

/-- The grid's invariant is the eight scratch buffers at some contents, and the generator's register. -/
theorem inv_eq (c : Dev nD) :
    (Pipeline.ΦA spec0 c : sProp (Res F))
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

set_option maxHeartbeats 1600000 in
/-- One point of the grid: from its blocks and the invariant back to them, the result at some contents. -/
theorem point (c : Dev nD) (t : Fin cfg0.N) :
    iprop(Pipeline.ΦA spec0 c ∗ (points m 0 c).owesAt () t.castSucc
      ∗ (∃ d, owns (c : Thread nD τ) (st0_0 t) fullShare ((points m 0 c).before 0 t d))
      ∗ (∃ d, owns (c : Thread nD τ) (st0_1 t) fullShare ((points m 0 c).before 1 t d))
      ∗ (∃ d, owns (c : Thread nD τ) (st0_2 t) fullShare ((points m 0 c).before 2 t d))
      ∗ (∃ d, owns (c : Thread nD τ) (st0_3 t) fullShare d))
    ⊢ wp frame (wpE (defs₀ (F := F)) Variants.none c none) Set.univ (bodyAt0 t) (fun _ =>
      iprop(Pipeline.ΦA spec0 c ∗ (points m 0 c).owesAt () t.castSucc
      ∗ owns (c : Thread nD τ) (st0_0 t) fullShare ((points m 0 c).after 0 t)
      ∗ owns (c : Thread nD τ) (st0_1 t) fullShare ((points m 0 c).after 1 t)
      ∗ owns (c : Thread nD τ) (st0_2 t) fullShare ((points m 0 c).after 2 t)
      ∗ (∃ d, owns (c : Thread nD τ) (st0_3 t) fullShare d))) := by
  simp only [before_q, before_k, before_v]
  rw [after_q, after_k, after_v, inv_eq]
  have hb := safe_body (c := c) (grid0.coords t) (st0_0 t) (st0_1 t) (st0_2 t) (st0_3 t) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (Memref.isWhole_whole _) (Memref.isWhole_whole _) (Memref.isWhole_whole _) (Memref.isWhole_whole _) (Memref.isWhole_whole _) (Memref.isWhole_whole _) (Memref.isWhole_whole _) (Memref.isWhole_whole _)
    (iblk m c 0 t) (iblk m c 1 t) (iblk m c 2 t)
  unfold Safe Bufs at hb
  iintro ⟨⟨⟨H7, H8, H9, H10, H11, H12, H13, H14⟩, Hg⟩, Ho, ⟨%d0, H3⟩, ⟨%d1, H4⟩, ⟨%d2, H5⟩, ⟨%d3, H6⟩⟩
  iapply (wp_wand_r _ _ _)
  isplitl [H3 H4 H5 H6 H7 H8 H9 H10 H11 H12 H13 H14]
  · iapply hb
    isplitl [H3]; · iexact H3
    isplitl [H4]; · iexact H4
    isplitl [H5]; · iexact H5
    isplitl [H6]; · iexists d3; iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro %u ⟨H3, H4, H5, H6, H7, H8, H9, H10, H11, H12, H13, H14⟩
  isplitl [H7 H8 H9 H10 H11 H12 H13 H14 Hg]
  · isplitl [H7 H8 H9 H10 H11 H12 H13 H14]
    · isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    iexact Hg
  isplitl [Ho]; · iexact Ho
  isplitl [H3]; · iexact H3
  isplitl [H4]; · iexact H4
  isplitl [H5]; · iexact H5
  iexact H6

/-- The table's row at a point's slots is the kernel's body. -/
theorem row (t : Fin cfg0.N) : defs₀ (F := F) .tc cfg0.body (cfg0.bodyArgs t (cfg0.slots t)) = bodyAt0 t := by
  unfold defs₀; rw [Defs.onTc_tc]

/-- Every point of the grid meets its obligation. -/
theorem obligation (c : Dev nD) : BodyObligation (points (F := F) m 0 c) (defs₀ (F := F)) Variants.none () Set.univ unnamed := fun t => by
  rw [bigSep_W0, bigSep_W0, row]
  exact triple_restated (point m c t) rfl .rfl fun _ => .rfl

-- the launch theorem's arguments are found by unifying its statement with this one
set_option backward.isDefEq.respectTransparency.types false in
/-- The program's run: it ends, with everything but the result known and every semaphore at zero. -/
theorem run : θ_run defs (onTc (τ := τ) (main (F := F))) (s₀ m ρ)
    (fun r => (Pipeline.RDat.FramePost (cfgs 0) (fun c => (points m 0 c).toRForget unnamed) (V m)) r ∧ r.2.sem = fun _ => 0) :=
  Pipeline.θ_run_frame_forget (Q' := _) cfgs (points m) (0 : Fin 1) launch0 defs₀ Variants.none unnamed m ρ main
    (hbody := fun c => (obligation m c).loose) (hshare := fun c => (points m 0 c).share_full fun _ => rfl)
    (howed := fun _ _ => rfl) (V := V m) (hmain := hmain m Variants.none) (hA := points_A m) (hΦ := fun _ _ => rfl)

/-- The queries, keys and values end as they began, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩, h.2⟩) (run m ρ)

end Cert.KernelIdeal.Moba

end
-- ==== Proof.FfnBody.lean ====
/-
  One point of the layer's last kernel — the merge of the two branches, the gated feed-forward, the final norm — with
  the values it leaves: the block of the result, and the last eight rows of the gate kept for the next point.
-/
module

public import proofs.«01_k».proof.Proof.Gen.OutFfnIdeal.Skeleton
public import proofs.«01_k».proof.Proof.Gen.OutFfnIdeal.Frame
public import Idealize.ShloMosaic.Lib.VecWindow
public import Idealize.ShloMosaic.Lib.Pipeline.Value

@[expose] public section

set_option maxRecDepth 16384

noncomputable section

namespace Cert.OutFfnIdeal.Ffn

open Cert.OutFfnIdeal Cert.OutFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- An access of the whole of a two-axis buffer starts at its first entry. -/
theorem zero2 : (![0, 0] : Fin 2 → Nat) = fun _ => 0 := by decide
/-- The same on three axes. -/
theorem zero3 : (![0, 0, 0] : Fin 3 → Nat) = fun _ => 0 := by decide

/-- The columns of the joint feed-forward weights that make the up branch. -/
def upCols (x9 : Vec F S1024x5632 .bf16) : Vec F S1024x2816 .bf16 :=
  View.ld x9 (Rect.unit (s := S1024x5632) ![0, 0] S1024x2816.size inb_S1024x5632_S1024x2816_0_0)
/-- The columns that make the gate. -/
def gateCols (x9 : Vec F S1024x5632 .bf16) : Vec F S1024x2816 .bf16 :=
  View.ld x9 (Rect.unit (s := S1024x5632) ![0, 2816] S1024x2816.size inb_S1024x5632_S1024x2816_0_2816)
/-- The convolution's tap on the row itself. -/
def tap2 (x10 : Vec F S3x2816 .f32) : Vec F S1x2816 .f32 :=
  View.ld x10 (Rect.unit (s := S3x2816) ![2, 0] S1x2816.size inb_S3x2816_S1x2816_2_0)
/-- The tap on the row before. -/
def tap1 (x10 : Vec F S3x2816 .f32) : Vec F S1x2816 .f32 :=
  View.ld x10 (Rect.unit (s := S3x2816) ![1, 0] S1x2816.size inb_S3x2816_S1x2816_1_0)
/-- The tap on the row two before. -/
def tap0 (x10 : Vec F S3x2816 .f32) : Vec F S1x2816 .f32 :=
  View.ld x10 (Rect.unit (s := S3x2816) ![0, 0] S1x2816.size inb_S3x2816_S1x2816_0_0)

/-- The last eight rows of the gate, which the next point's convolution reaches back to. -/
def tailOut (x0 : Vec F S1x512x1024 .f32) (x1 : Vec F S1x512x1024 .bf16) (x2 : Vec F S1x512x1024 .bf16) (x3 : Vec F S1x512x1024 .bf16) (x4 : Vec F S1x512x1024 .bf16) (x5 : Vec F S1024x1024 .bf16) (x6 : Vec F S1024x1024 .bf16) (x7 : Vec F S1024x1024 .bf16) (x8 : Vec F S1x1024 .f32) (x9 : Vec F S1024x5632 .bf16) : Vec F S8x2816 .f32 :=
  k0_pay1 (k0_pay10 (k0_pay3 x1 x5 x2 x6 x3 x4 x0 x7) (k0_pay4 x8) (k0_pay5 x1 x5 x2 x6 x3 x4 x0 x7) (gateCols x9))

/-- The block of the result, from the point's second coordinate, its blocks and the tail `s` it finds. -/
def blockOut (a : BitVec 32) (x0 : Vec F S1x512x1024 .f32) (x1 : Vec F S1x512x1024 .bf16) (x2 : Vec F S1x512x1024 .bf16) (x3 : Vec F S1x512x1024 .bf16) (x4 : Vec F S1x512x1024 .bf16) (x5 : Vec F S1024x1024 .bf16) (x6 : Vec F S1024x1024 .bf16) (x7 : Vec F S1024x1024 .bf16) (x8 : Vec F S1x1024 .f32) (x9 : Vec F S1024x5632 .bf16) (x10 : Vec F S3x2816 .f32) (x11 : Vec F S1x2816 .f32) (x12 : Vec F S2816x1024 .bf16) (x13 : Vec F S1x1024 .f32) (s : Vec F S8x2816 .f32) : Vec F S1x512x1024 .f32 :=
  k0_pay2 (k0_pay3 x1 x5 x2 x6 x3 x4 x0 x7) (k0_pay7 (k0_pay3 x1 x5 x2 x6 x3 x4 x0 x7) (k0_pay4 x8) (k0_pay5 x1 x5 x2 x6 x3 x4 x0 x7) (upCols x9))
    (k0_pay9 a (k0_pay3 x1 x5 x2 x6 x3 x4 x0 x7) (k0_pay4 x8) (k0_pay5 x1 x5 x2 x6 x3 x4 x0 x7) (gateCols x9) s (tap2 x10) (tap1 x10) (tap0 x10) x11) x12 x13

set_option maxHeartbeats 2000000 in
/-- The body's run: its blocks are kept, the result's block and the tail end at the values named above. -/
theorem body_run (c : Dev nD) (i : grid0.Coords) (arg2 : Memref sig .tc .vmem S1x512x1024 .f32) (harg2 : arg2.IsWhole) (arg3 : Memref sig .tc .vmem S1x512x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1024x5632 .bf16) (harg11 : arg11.IsWhole) (arg12 : Memref sig .tc .vmem S3x2816 .f32) (harg12 : arg12.IsWhole) (arg13 : Memref sig .tc .vmem S1x2816 .f32) (harg13 : arg13.IsWhole) (arg14 : Memref sig .tc .vmem S2816x1024 .bf16) (harg14 : arg14.IsWhole) (arg15 : Memref sig .tc .vmem S1x1024 .f32) (harg15 : arg15.IsWhole) (arg16 : Memref sig .tc .vmem S1x512x1024 .f32) (harg16 : arg16.IsWhole) (arg17 : Memref sig .tc .vmem S8x2816 .f32) (harg17 : arg17.IsWhole)
    (x0 : Vec F S1x512x1024 .f32) (x1 : Vec F S1x512x1024 .bf16) (x2 : Vec F S1x512x1024 .bf16) (x3 : Vec F S1x512x1024 .bf16) (x4 : Vec F S1x512x1024 .bf16) (x5 : Vec F S1024x1024 .bf16) (x6 : Vec F S1024x1024 .bf16) (x7 : Vec F S1024x1024 .bf16) (x8 : Vec F S1x1024 .f32) (x9 : Vec F S1024x5632 .bf16) (x10 : Vec F S3x2816 .f32) (x11 : Vec F S1x2816 .f32) (x12 : Vec F S2816x1024 .bf16) (x13 : Vec F S1x1024 .f32) (s : Vec F S8x2816 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg17 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (blockOut (BitVec.ofNat 32 (i 1).val) x0 x1 x2 x3 x4 x5 x6 x7 x8 x9 x10 x11 x12 x13 s) ∗ owns (c : Thread nD τ) arg17 fullShare (tailOut x0 x1 x2 x3 x4 x5 x6 x7 x8 x9)) -∗ K ⟨⟩))
      ⊢ wp frame (wpE (defs₀ (F := F)) Variants.none c none) E (cc0_out_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_out_ffn_eq_skeleton]; unfold cc0_out_ffn_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hfs0
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; · ipureintro; exact harg14.read_unread _
    iexact H12
  isplitl [H13]
  · iexists _; isplitr; · ipureintro; exact harg15.read_unread _
    iexact H13
  isplitl [H14]
  · iexists _; isplitr; swap; · iexact H14
    ipureintro
    refine (View.read_writes_full _ _ _ _ _).trans ?_
    sl_unfold_words
    unfold blockOut upCols gateCols tap2 tap1 tap0
    simp only [View.readAt_eq_ld, Memref.IsWhole.read_unread, View.ld_unit_zero (S := S1x512x1024) zero3, View.ld_unit_zero (S := S1024x1024) zero2, View.ld_unit_zero (S := S1x1024) zero2, View.ld_unit_zero (S := S8x2816) zero2, View.ld_unit_zero (S := S1x2816) zero2, View.ld_unit_zero (S := S2816x1024) zero2]
  iexists _; isplitr; swap; · iexact HS0
  ipureintro
  refine (View.read_writes_full _ _ _ _ _).trans ?_
  sl_unfold_words
  unfold tailOut gateCols
  simp only [View.readAt_eq_ld, Memref.IsWhole.read_unread, View.ld_unit_zero (S := S1x512x1024) zero3, View.ld_unit_zero (S := S1024x1024) zero2, View.ld_unit_zero (S := S1x1024) zero2, View.ld_unit_zero (S := S8x2816) zero2, View.ld_unit_zero (S := S1x2816) zero2, View.ld_unit_zero (S := S2816x1024) zero2]

end Cert.OutFfnIdeal.Ffn

end
-- ==== Proof.FfnRun.lean ====
/-
  The whole run of the layer's last kernel: point after point over the grid, the tail of the gate carried from each
  point to the next in the scratch buffer, and so the array the result ends at. Stated at any arithmetic.
-/
module

public import proofs.«01_k».proof.Proof.FfnBody
public import Idealize.ShloMosaic.Lib.Claim

@[expose] public section

set_option maxRecDepth 16384

noncomputable section

namespace Cert.OutFfnIdeal.Ffn

open Cert.OutFfnIdeal Cert.OutFfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- At the first point of a sequence the tail found is not looked at: the rows before it are zero. -/
theorem tail_unused (x0 : Vec F S1x512x1024 .f32) (x1 : Vec F S1x512x1024 .bf16) (x2 : Vec F S1x512x1024 .bf16) (x3 : Vec F S1x512x1024 .bf16) (x4 : Vec F S1x512x1024 .bf16) (x5 : Vec F S1024x1024 .bf16) (x6 : Vec F S1024x1024 .bf16) (x7 : Vec F S1024x1024 .bf16) (x8 : Vec F S1x1024 .f32) (x9 : Vec F S1024x5632 .bf16) (x10 : Vec F S3x2816 .f32) (x11 : Vec F S1x2816 .f32) (x12 : Vec F S2816x1024 .bf16) (x13 : Vec F S1x1024 .f32) (s s' : Vec F S8x2816 .f32) :
    blockOut (BitVec.ofNat 32 0) x0 x1 x2 x3 x4 x5 x6 x7 x8 x9 x10 x11 x12 x13 s = blockOut (BitVec.ofNat 32 0) x0 x1 x2 x3 x4 x5 x6 x7 x8 x9 x10 x11 x12 x13 s' := rfl

local notation "𝕄" => MT nD τ sig Unit (Elt F) ℕ (UR sig nD τ) ℕ

variable (m : (ℓ : Loc nD τ sig) → Buf (Elt F) ℓ) (ρ : Dev nD → PrngReg)

/-- The tail point `t` leaves. -/
def tailAt (c : Dev nD) (t : Fin cfg0.N) : Vec F S8x2816 .f32 :=
  tailOut (iblk m c 0 t) (iblk m c 1 t) (iblk m c 2 t) (iblk m c 3 t) (iblk m c 4 t) (iblk m c 5 t) (iblk m c 6 t) (iblk m c 7 t) (iblk m c 8 t) (iblk m c 9 t)

/-- The tail point `t` finds: the one the point before left (at the first point, which looks at none, any will do). -/
def tailBefore (c : Dev nD) (t : Fin cfg0.N) : Vec F S8x2816 .f32 :=
  tailAt m c ⟨t.val - 1, (Nat.sub_le _ _).trans_lt t.isLt⟩

/-- The block of the result point `t` leaves. -/
def blockAt (c : Dev nD) (t : Fin cfg0.N) : Vec F S1x512x1024 .f32 :=
  blockOut (BitVec.ofNat 32 ((grid0.coords t) 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (tailBefore m c t)

/-- What is kept between points: the scratch buffer, at the last point's tail once there has been one, and the
    generator's register. -/
def carried (c : Dev nD) (k : Fin (cfg0.N + 1)) : sProp 𝕄 :=
  iprop(∃ s, ⌜∀ h : k.val ≠ 0, s = tailAt m c ⟨k.val - 1, by omega⟩⌝
    ∗ owns (c : Thread nD τ) (Memref.whole cc0_scratch0) fullShare s ∗ (∃ r, prngReg c r))

/-- What the grid's points find and leave. -/
def points (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => blockAt m c t
  Φ k := carried m c k
  q _ := fullShare
  owed _ := 0

/-- The arrays are those of the region's entry. -/
theorem points_A (c : Dev nD) (w : Fin cfg0.W) : (points m 0 c).A w = V m c (Pipeline.arrRef spec0 w) := by
  dsimp only [points]

/-- Every point leaves window 0's block as it found it. -/
theorem after_0 (c : Dev nD) (t : Fin cfg0.N) : (points m 0 c).after 0 t = iblk m c 0 t := by dsimp only [points]
/-- Every point finds window 0's block. -/
theorem before_0 (c : Dev nD) (t : Fin cfg0.N) (d) : (points m 0 c).before 0 t d = iblk m c 0 t :=
  before0_0_of m (points m 0 c) (points_A m c 0) (after_0 m c) t d
/-- Every point leaves window 1's block as it found it. -/
theorem after_1 (c : Dev nD) (t : Fin cfg0.N) : (points m 0 c).after 1 t = iblk m c 1 t := by dsimp only [points]
/-- Every point finds window 1's block. -/
theorem before_1 (c : Dev nD) (t : Fin cfg0.N) (d) : (points m 0 c).before 1 t d = iblk m c 1 t :=
  before0_1_of m (points m 0 c) (points_A m c 1) (after_1 m c) t d
/-- Every point leaves window 2's block as it found it. -/
theorem after_2 (c : Dev nD) (t : Fin cfg0.N) : (points m 0 c).after 2 t = iblk m c 2 t := by dsimp only [points]
/-- Every point finds window 2's block. -/
theorem before_2 (c : Dev nD) (t : Fin cfg0.N) (d) : (points m 0 c).before 2 t d = iblk m c 2 t :=
  before0_2_of m (points m 0 c) (points_A m c 2) (after_2 m c) t d
/-- Every point leaves window 3's block as it found it. -/
theorem after_3 (c : Dev nD) (t : Fin cfg0.N) : (points m 0 c).after 3 t = iblk m c 3 t := by dsimp only [points]
/-- Every point finds window 3's block. -/
theorem before_3 (c : Dev nD) (t : Fin cfg0.N) (d) : (points m 0 c).before 3 t d = iblk m c 3 t :=
  before0_3_of m (points m 0 c) (points_A m c 3) (after_3 m c) t d
/-- Every point leaves window 4's block as it found it. -/
theorem after_4 (c : Dev nD) (t : Fin cfg0.N) : (points m 0 c).after 4 t = iblk m c 4 t := by dsimp only [points]
/-- Every point finds window 4's block. -/
theorem before_4 (c : Dev nD) (t : Fin cfg0.N) (d) : (points m 0 c).before 4 t d = iblk m c 4 t :=
  before0_4_of m (points m 0 c) (points_A m c 4) (after_4 m c) t d
/-- Every point leaves window 5's block as it found it. -/
theorem after_5 (c : Dev nD) (t : Fin cfg0.N) : (points m 0 c).after 5 t = iblk m c 5 t := by dsimp only [points]
/-- Every point finds window 5's block. -/
theorem before_5 (c : Dev nD) (t : Fin cfg0.N) (d) : (points m 0 c).before 5 t d = iblk m c 5 t :=
  before0_5_of m (points m 0 c) (points_A m c 5) (after_5 m c) t d
/-- Every point leaves window 6's block as it found it. -/
theorem after_6 (c : Dev nD) (t : Fin cfg0.N) : (points m 0 c).after 6 t = iblk m c 6 t := by dsimp only [points]
/-- Every point finds window 6's block. -/
theorem before_6 (c : Dev nD) (t : Fin cfg0.N) (d) : (points m 0 c).before 6 t d = iblk m c 6 t :=
  before0_6_of m (points m 0 c) (points_A m c 6) (after_6 m c) t d
/-- Every point leaves window 7's block as it found it. -/
theorem after_7 (c : Dev nD) (t : Fin cfg0.N) : (points m 0 c).after 7 t = iblk m c 7 t := by dsimp only [points]
/-- Every point finds window 7's block. -/
theorem before_7 (c : Dev nD) (t : Fin cfg0.N) (d) : (points m 0 c).before 7 t d = iblk m c 7 t :=
  before0_7_of m (points m 0 c) (points_A m c 7) (after_7 m c) t d
/-- Every point leaves window 8's block as it found it. -/
theorem after_8 (c : Dev nD) (t : Fin cfg0.N) : (points m 0 c).after 8 t = iblk m c 8 t := by dsimp only [points]
/-- Every point finds window 8's block. -/
theorem before_8 (c : Dev nD) (t : Fin cfg0.N) (d) : (points m 0 c).before 8 t d = iblk m c 8 t :=
  before0_8_of m (points m 0 c) (points_A m c 8) (after_8 m c) t d
/-- Every point leaves window 9's block as it found it. -/
theorem after_9 (c : Dev nD) (t : Fin cfg0.N) : (points m 0 c).after 9 t = iblk m c 9 t := by dsimp only [points]
/-- Every point finds window 9's block. -/
theorem before_9 (c : Dev nD) (t : Fin cfg0.N) (d) : (points m 0 c).before 9 t d = iblk m c 9 t :=
  before0_9_of m (points m 0 c) (points_A m c 9) (after_9 m c) t d
/-- Every point leaves window 10's block as it found it. -/
theorem after_10 (c : Dev nD) (t : Fin cfg0.N) : (points m 0 c).after 10 t = iblk m c 10 t := by dsimp only [points]
/-- Every point finds window 10's block. -/
theorem before_10 (c : Dev nD) (t : Fin cfg0.N) (d) : (points m 0 c).before 10 t d = iblk m c 10 t :=
  before0_10_of m (points m 0 c) (points_A m c 10) (after_10 m c) t d
/-- Every point leaves window 11's block as it found it. -/
theorem after_11 (c : Dev nD) (t : Fin cfg0.N) : (points m 0 c).after 11 t = iblk m c 11 t := by dsimp only [points]
/-- Every point finds window 11's block. -/
theorem before_11 (c : Dev nD) (t : Fin cfg0.N) (d) : (points m 0 c).before 11 t d = iblk m c 11 t :=
  before0_11_of m (points m 0 c) (points_A m c 11) (after_11 m c) t d
/-- Every point leaves window 12's block as it found it. -/
theorem after_12 (c : Dev nD) (t : Fin cfg0.N) : (points m 0 c).after 12 t = iblk m c 12 t := by dsimp only [points]
/-- Every point finds window 12's block. -/
theorem before_12 (c : Dev nD) (t : Fin cfg0.N) (d) : (points m 0 c).before 12 t d = iblk m c 12 t :=
  before0_12_of m (points m 0 c) (points_A m c 12) (after_12 m c) t d
/-- Every point leaves window 13's block as it found it. -/
theorem after_13 (c : Dev nD) (t : Fin cfg0.N) : (points m 0 c).after 13 t = iblk m c 13 t := by dsimp only [points]
/-- Every point finds window 13's block. -/
theorem before_13 (c : Dev nD) (t : Fin cfg0.N) (d) : (points m 0 c).before 13 t d = iblk m c 13 t :=
  before0_13_of m (points m 0 c) (points_A m c 13) (after_13 m c) t d
/-- Every point leaves its block of the result. -/
theorem after_14 (c : Dev nD) (t : Fin cfg0.N) : (points m 0 c).after 14 t = blockAt m c t := by dsimp only [points]
/-- What is kept between points. -/
theorem kept (c : Dev nD) (k : Fin (cfg0.N + 1)) : (points m 0 c).Φ k = carried m c k := by dsimp only [points]

/-- The grid's free invariant is the scratch buffer at some contents, and the generator's register. -/
theorem inv_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- At the start nothing is asked of the scratch buffer. -/
theorem start (c : Dev nD) : Pipeline.ΦA spec0 c ⊢ (points m 0 c).Φ 0 := by
  rw [kept, inv_eq]; unfold carried
  iintro ⟨⟨%s, H⟩, Hg⟩
  iexists s
  isplitr; · ipureintro; exact fun h => absurd rfl h
  isplitl [H]; · iexact H
  iexact Hg

/-- At the end the scratch buffer is given back at what it holds. -/
theorem finish (c : Dev nD) : (points m 0 c).Φ (Fin.last cfg0.N) ⊢ Pipeline.ΦA spec0 c := by
  rw [kept, inv_eq]; unfold carried
  iintro ⟨%s, -, H, Hg⟩
  isplitl [H]; · iexists s; iexact H
  iexact Hg

/-- The grid's first point is at the start of a sequence. -/
theorem coords_zero : ∀ t : Fin cfg0.N, t.val = 0 → ((grid0.coords t) 1).val = 0 :=
  (by decide +kernel : ∀ t : Fin grid0.N, t.val = 0 → ((grid0.coords t) 1).val = 0)

/-- The block a point leaves is the one named, whatever tail the invariant lets it find. -/
theorem block_eq (c : Dev nD) (t : Fin cfg0.N) (s : Vec F S8x2816 .f32)
    (hs : ∀ h : t.val ≠ 0, s = tailAt m c ⟨t.val - 1, by omega⟩) :
    blockOut (BitVec.ofNat 32 ((grid0.coords t) 1).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) s = blockAt m c t := by
  unfold blockAt
  by_cases h : t.val = 0
  · rw [coords_zero t h]; exact tail_unused _ _ _ _ _ _ _ _ _ _ _ _ _ _ s _
  · rw [hs h]; rfl

set_option maxHeartbeats 1600000 in
/-- One point of the grid. -/
theorem point (c : Dev nD) (t : Fin cfg0.N) :
    iprop((points m 0 c).Φ t.castSucc ∗ (points m 0 c).owesAt () t.castSucc
      ∗ (∃ d, owns (c : Thread nD τ) (st0_0 t) fullShare ((points m 0 c).before 0 t d))
      ∗ (∃ d, owns (c : Thread nD τ) (st0_1 t) fullShare ((points m 0 c).before 1 t d))
      ∗ (∃ d, owns (c : Thread nD τ) (st0_2 t) fullShare ((points m 0 c).before 2 t d))
      ∗ (∃ d, owns (c : Thread nD τ) (st0_3 t) fullShare ((points m 0 c).before 3 t d))
      ∗ (∃ d, owns (c : Thread nD τ) (st0_4 t) fullShare ((points m 0 c).before 4 t d))
      ∗ (∃ d, owns (c : Thread nD τ) (st0_5 t) fullShare ((points m 0 c).before 5 t d))
      ∗ (∃ d, owns (c : Thread nD τ) (st0_6 t) fullShare ((points m 0 c).before 6 t d))
      ∗ (∃ d, owns (c : Thread nD τ) (st0_7 t) fullShare ((points m 0 c).before 7 t d))
      ∗ (∃ d, owns (c : Thread nD τ) (st0_8 t) fullShare ((points m 0 c).before 8 t d))
      ∗ (∃ d, owns (c : Thread nD τ) (st0_9 t) fullShare ((points m 0 c).before 9 t d))
      ∗ (∃ d, owns (c : Thread nD τ) (st0_10 t) fullShare ((points m 0 c).before 10 t d))
      ∗ (∃ d, owns (c : Thread nD τ) (st0_11 t) fullShare ((points m 0 c).before 11 t d))
      ∗ (∃ d, owns (c : Thread nD τ) (st0_12 t) fullShare ((points m 0 c).before 12 t d))
      ∗ (∃ d, owns (c : Thread nD τ) (st0_13 t) fullShare ((points m 0 c).before 13 t d))
      ∗ (∃ d, owns (c : Thread nD τ) (st0_14 t) fullShare ((points m 0 c).before 14 t d)))
    ⊢ wp frame (wpE (defs₀ (F := F)) Variants.none c none) Set.univ (bodyAt0 t) (fun _ =>
      iprop((points m 0 c).Φ t.succ ∗ (points m 0 c).owesAt () t.castSucc
      ∗ owns (c : Thread nD τ) (st0_0 t) fullShare ((points m 0 c).after 0 t)
      ∗ owns (c : Thread nD τ) (st0_1 t) fullShare ((points m 0 c).after 1 t)
      ∗ owns (c : Thread nD τ) (st0_2 t) fullShare ((points m 0 c).after 2 t)
      ∗ owns (c : Thread nD τ) (st0_3 t) fullShare ((points m 0 c).after 3 t)
      ∗ owns (c : Thread nD τ) (st0_4 t) fullShare ((points m 0 c).after 4 t)
      ∗ owns (c : Thread nD τ) (st0_5 t) fullShare ((points m 0 c).after 5 t)
      ∗ owns (c : Thread nD τ) (st0_6 t) fullShare ((points m 0 c).after 6 t)
      ∗ owns (c : Thread nD τ) (st0_7 t) fullShare ((points m 0 c).after 7 t)
      ∗ owns (c : Thread nD τ) (st0_8 t) fullShare ((points m 0 c).after 8 t)
      ∗ owns (c : Thread nD τ) (st0_9 t) fullShare ((points m 0 c).after 9 t)
      ∗ owns (c : Thread nD τ) (st0_10 t) fullShare ((points m 0 c).after 10 t)
      ∗ owns (c : Thread nD τ) (st0_11 t) fullShare ((points m 0 c).after 11 t)
      ∗ owns (c : Thread nD τ) (st0_12 t) fullShare ((points m 0 c).after 12 t)
      ∗ owns (c : Thread nD τ) (st0_13 t) fullShare ((points m 0 c).after 13 t)
      ∗ owns (c : Thread nD τ) (st0_14 t) fullShare ((points m 0 c).after 14 t))) := by
  simp only [before_0, before_1, before_2, before_3, before_4, before_5, before_6, before_7, before_8, before_9, before_10, before_11, before_12, before_13]
  rw [after_0, after_1, after_2, after_3, after_4, after_5, after_6, after_7, after_8, after_9, after_10, after_11, after_12, after_13, after_14, kept, kept]
  unfold carried
  iintro ⟨⟨%s, %hs, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (Memref.whole cc0_scratch0) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [HS]; · iexact HS
  rw [block_eq m c t s hs]
  iintro ⟨H0, H1, H2, H3, H4, H5, H6, H7, H8, H9, H10, H11, H12, H13, H14, HS⟩
  isplitl [HS Hg]
  · iexists (tailAt m c t)
    isplitr; · ipureintro; exact fun _ => rfl
    isplitl [HS]; · unfold tailAt; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The table's row at a point's slots is the kernel's body. -/
theorem row (t : Fin cfg0.N) : defs₀ (F := F) .tc cfg0.body (cfg0.bodyArgs t (cfg0.slots t)) = bodyAt0 t := by
  unfold defs₀; rw [Defs.onTc_tc]

/-- Every point of the grid meets its obligation. -/
theorem obligation (c : Dev nD) : BodyObligation (points (F := F) m 0 c) (defs₀ (F := F)) Variants.none () Set.univ := fun t => by
  rw [bigSep_W0, bigSep_W0, row]
  exact triple_restated (point m c t) rfl .rfl fun _ => .rfl

-- the launch theorem's arguments are found by unifying its statement with this one
set_option backward.isDefEq.respectTransparency.types false in
/-- The program's run: it ends, every array at what the points leave and every semaphore at zero. -/
theorem run : θ_run defs (onTc (τ := τ) (main (F := F))) (s₀ m ρ)
    (fun r => Pipeline.FramePost cfgs (points m) 0 (V m) r ∧ r.2.sem = fun _ => 0) :=
  Pipeline.θ_run_frame_track (Q' := _) cfgs (points m) (0 : Fin 1) launch0 defs₀ Variants.none m ρ main
    (hbody := fun c => (obligation m c).loose) (hshare := fun c => (points m 0 c).share_full fun _ => rfl)
    (howed := fun _ _ => rfl) (V := V m) (hmain := hmain m Variants.none) (hA := points_A m)
    (hin := start m) (hout := finish m)

end Cert.OutFfnIdeal.Ffn

end
-- ==== Proof.FfnSpec.lean ====
/-
  The layer's last stage, row by row: the merge of the two branches, the gated feed-forward and the final rmsRow, each as
  a function of the rows it reads. Only the gate's convolution reads more than one row.
-/
module

public import Idealize.ShloMosaic.Lib.Pointwise

@[expose] public section

noncomputable section

namespace Cert.FfnRow

open Idealize.ShloMosaic

/-- A choice by a word's being zero. -/
theorem choose_zero {α : Type} (a : BitVec 32) (x y : α) :
    Scalar.select (Scalar.cmpi .eq a 0#32) x y = if a = 0#32 then x else y := by
  by_cases h : a = 0#32
  · subst h; rfl
  · rw [if_neg h]
    show Scalar.select (BitVec.ofBool (a == 0#32)) x y = y
    rw [beq_eq_false_iff_ne.mpr h]; rfl

/-- The norm's divisor, the number of features as the programs write it. -/
def width : EReal := Ideal.ofBits .f32 0x44800000#32
/-- The norm's small addend. -/
def tiny : EReal := Ideal.ofBits .f32 0x358637BD#32
/-- The one of the gate's activation. -/
def unit : EReal := Ideal.ofBits .f32 0x3F800000#32

/-- The merge: the residual row plus the gated sum of the two branches through the output weights. -/
def merge (x a att sgc sga : Fin 1024 → EReal) (wc wa wo : Fin 1024 → Fin 1024 → EReal) (d : Fin 1024) : EReal :=
  x d + ∑ k, (sgc k * (∑ j, a j * wc j k) + sga k * (∑ j, att j * wa j k)) * wo k d

/-- The norm of a row by its root mean square, then the gain. -/
def rmsRow (h g : Fin 1024 → EReal) (d : Fin 1024) : EReal :=
  h d * Ideal.rsqrt (Ideal.div (∑ k, h k * h k) width + tiny) * g d

/-- A row through one half of the joint feed-forward weights. -/
def through (n : Fin 1024 → EReal) (w : Fin 1024 → Fin 2816 → EReal) (q : Fin 2816) : EReal :=
  ∑ k, n k * w k q

/-- The gate's three-tap convolution, from its row, the row before and the row two before. -/
def taps (g g1 g2 w0 w1 w2 b : Fin 2816 → EReal) (q : Fin 2816) : EReal :=
  w2 q * g q + w1 q * g1 q + w0 q * g2 q + b q

/-- The gate's activation. -/
def silu (v : EReal) : EReal := v * Ideal.div unit (unit + Ideal.exp (0 - v))

/-- The down projection of the gated row, added to the merged row, then the final norm. -/
def final (h : Fin 1024 → EReal) (v up : Fin 2816 → EReal) (wd : Fin 2816 → Fin 1024 → EReal) (g : Fin 1024 → EReal) :
    Fin 1024 → EReal :=
  rmsRow (fun d => h d + ∑ k, silu (v k) * up k * wd k d) g

variable (x0 x1 x2 x3 x4 : (⟨3, ![2, 8192, 1024]⟩ : Shape).Idx → EReal) (x5 x6 x7 : (⟨2, ![1024, 1024]⟩ : Shape).Idx → EReal)
  (x8 : (⟨1, ![1024]⟩ : Shape).Idx → EReal) (x9 : (⟨2, ![1024, 5632]⟩ : Shape).Idx → EReal)
  (x10 : (⟨2, ![3, 2816]⟩ : Shape).Idx → EReal) (x11 : (⟨1, ![2816]⟩ : Shape).Idx → EReal)
  (x12 : (⟨2, ![2816, 1024]⟩ : Shape).Idx → EReal) (x13 : (⟨1, ![1024]⟩ : Shape).Idx → EReal)

/-- The merged row of sequence `b` at position `s`. -/
def mergeAt (b : Fin 2) (s : Fin 8192) : Fin 1024 → EReal :=
  merge (fun k => x0 (ix3 b s k)) (fun k => x1 (ix3 b s k)) (fun k => x2 (ix3 b s k)) (fun k => x3 (ix3 b s k))
    (fun k => x4 (ix3 b s k)) (fun j k => x5 (ix2 j k)) (fun j k => x6 (ix2 j k)) (fun j k => x7 (ix2 j k))

/-- Its up branch. -/
def upAt (b : Fin 2) (s : Fin 8192) : Fin 2816 → EReal :=
  through (rmsRow (mergeAt x0 x1 x2 x3 x4 x5 x6 x7 b s) (fun k => x8 (ix1 k))) (fun j q => x9 (ix2 j ⟨q.val, by omega⟩))

/-- Its gate. -/
def gateAt (b : Fin 2) (s : Fin 8192) : Fin 2816 → EReal :=
  through (rmsRow (mergeAt x0 x1 x2 x3 x4 x5 x6 x7 b s) (fun k => x8 (ix1 k)))
    (fun j q => x9 (ix2 j ⟨2816 + q.val, by omega⟩))

/-- The gate `n` positions before, which is zero before the sequence's start. -/
def gateBefore (n : Nat) (b : Fin 2) (s : Fin 8192) (q : Fin 2816) : EReal :=
  if n ≤ s.val then gateAt x0 x1 x2 x3 x4 x5 x6 x7 x8 x9 b ⟨s.val - n, by omega⟩ q else 0

/-- The gate after its convolution. -/
def tapsAt (b : Fin 2) (s : Fin 8192) : Fin 2816 → EReal :=
  taps (gateAt x0 x1 x2 x3 x4 x5 x6 x7 x8 x9 b s) (gateBefore x0 x1 x2 x3 x4 x5 x6 x7 x8 x9 1 b s)
    (gateBefore x0 x1 x2 x3 x4 x5 x6 x7 x8 x9 2 b s)
    (fun q => x10 (ix2 0 q)) (fun q => x10 (ix2 1 q)) (fun q => x10 (ix2 2 q)) (fun q => x11 (ix1 q))

/-- The result's row. -/
def outAt (b : Fin 2) (s : Fin 8192) : Fin 1024 → EReal :=
  final (mergeAt x0 x1 x2 x3 x4 x5 x6 x7 b s) (tapsAt x0 x1 x2 x3 x4 x5 x6 x7 x8 x9 x10 x11 b s)
    (upAt x0 x1 x2 x3 x4 x5 x6 x7 x8 x9 b s) (fun j k => x12 (ix2 j k)) (fun k => x13 (ix1 k))

/-- The whole result. -/
def outArr (i : (⟨3, ![2, 8192, 1024]⟩ : Shape).Idx) : EReal :=
  outAt x0 x1 x2 x3 x4 x5 x6 x7 x8 x9 x10 x11 x12 x13 (i 0) (i 1) (i 2)

end Cert.FfnRow
-- ==== Proof.FfnPay.lean ====
/-
  What one point of the last kernel computes, read at an entry with numbers in place of roundings: each row of its
  block is the row function of the specification.
-/
module

public import proofs.«01_k».proof.Proof.FfnBody
public import proofs.«01_k».proof.Proof.FfnSpec

@[expose] public section

set_option maxRecDepth 16384

noncomputable section

namespace Cert.OutFfnIdeal.Ffn

open Cert.OutFfnIdeal Cert.OutFfnIdeal.Gen Cert.FfnRow
open Idealize.ShloMosaic

/-- The merged block, a row at a time. -/
theorem pay3_at (x1 x2 x3 x4 : Vec Ideal S1x512x1024 .bf16) (x0 : Vec Ideal S1x512x1024 .f32) (x5 x6 x7 : Vec Ideal S1024x1024 .bf16)
    (r : Fin 512) (d : Fin 1024) :
    k0_pay3 x1 x5 x2 x6 x3 x4 x0 x7 (ix2 r d)
      = merge (fun k => x0 (ix3 0 r k)) (fun k => x1 (ix3 0 r k)) (fun k => x2 (ix3 0 r k)) (fun k => x3 (ix3 0 r k))
          (fun k => x4 (ix3 0 r k)) (fun j k => x5 (ix2 j k)) (fun j k => x6 (ix2 j k)) (fun j k => x7 (ix2 j k)) d := by
  pointwise [k0_pay3, merge]

/-- The normed block. -/
theorem pay6_at (h : FVec Ideal S512x1024 .f32) (g : FVec Ideal S1x1024 .f32) (p : FVec Ideal S512x1 .f32)
    (r : Fin 512) (d : Fin 1024) (hp : p (ix2 r 0) = ∑ k : Fin 1024, h (ix2 r k) * h (ix2 r k)) :
    k0_pay6 h g p (ix2 r d) = rmsRow (fun k => h (ix2 r k)) (fun k => g (ix2 0 k)) d := by
  pointwise [k0_pay6, rmsRow, width, tiny]
  rw [hp]

/-- The sum of squares along each row. -/
theorem pay5_at (x1 x2 x3 x4 : Vec Ideal S1x512x1024 .bf16) (x0 : Vec Ideal S1x512x1024 .f32) (x5 x6 x7 : Vec Ideal S1024x1024 .bf16)
    (r : Fin 512) :
    k0_pay5 x1 x5 x2 x6 x3 x4 x0 x7 (ix2 r 0)
      = ∑ k : Fin 1024, k0_pay3 x1 x5 x2 x6 x3 x4 x0 x7 (ix2 r k) * k0_pay3 x1 x5 x2 x6 x3 x4 x0 x7 (ix2 r k) := by
  pointwise [k0_pay5]

/-- A half of the feed-forward's first product. -/
theorem pay7_at (h : FVec Ideal S512x1024 .f32) (g : FVec Ideal S1x1024 .f32) (p : FVec Ideal S512x1 .f32)
    (w : Vec Ideal S1024x2816 .bf16) (r : Fin 512) (q : Fin 2816)
    (hp : p (ix2 r 0) = ∑ k : Fin 1024, h (ix2 r k) * h (ix2 r k)) :
    k0_pay7 h g p w (ix2 r q)
      = through (rmsRow (fun k => h (ix2 r k)) (fun k => g (ix2 0 k))) (fun j k => w (ix2 j k)) q := by
  pointwise [k0_pay7, through]
  exact Finset.sum_congr rfl fun k _ => by rw [pay6_at h g p r k hp]

/-- The other half. -/
theorem pay8_at (h : FVec Ideal S512x1024 .f32) (g : FVec Ideal S1x1024 .f32) (p : FVec Ideal S512x1 .f32)
    (w : Vec Ideal S1024x2816 .bf16) (r : Fin 512) (q : Fin 2816)
    (hp : p (ix2 r 0) = ∑ k : Fin 1024, h (ix2 r k) * h (ix2 r k)) :
    k0_pay8 h g p w (ix2 r q)
      = through (rmsRow (fun k => h (ix2 r k)) (fun k => g (ix2 0 k))) (fun j k => w (ix2 j k)) q := by
  pointwise [k0_pay8, through]
  exact Finset.sum_congr rfl fun k _ => by rw [pay6_at h g p r k hp]

/-- The rows kept for the next point. -/
theorem pay10_at (h : FVec Ideal S512x1024 .f32) (g : FVec Ideal S1x1024 .f32) (p : FVec Ideal S512x1 .f32)
    (w : Vec Ideal S1024x2816 .bf16) (r : Fin 8) (q : Fin 2816) :
    k0_pay1 (k0_pay10 h g p w) (ix2 r q) = k0_pay8 h g p w (ix2 (⟨504 + r.val, by omega⟩ : Fin 512) q) := by
  pointwise [k0_pay1, k0_pay10]

/-- The result's block from the merged block, the up branch and the convolved gate. -/
theorem pay2_at (h : FVec Ideal S512x1024 .f32) (u v : FVec Ideal S512x2816 .f32) (w : Vec Ideal S2816x1024 .bf16)
    (g : Vec Ideal S1x1024 .f32) (r : Fin 512) (d : Fin 1024) :
    k0_pay2 h u v w g (ix3 0 r d)
      = final (fun k => h (ix2 r k)) (fun k => v (ix2 r k)) (fun k => u (ix2 r k)) (fun j k => w (ix2 j k))
          (fun k => g (ix2 0 k)) d := by
  pointwise [k0_pay2, final, rmsRow, silu, width, tiny, FfnRow.unit]

/-- The convolved gate, where the point finds the rows before its block in `s` unless it is a sequence's first. -/
theorem pay9_at (a : BitVec 32) (h : FVec Ideal S512x1024 .f32) (g : FVec Ideal S1x1024 .f32) (p : FVec Ideal S512x1 .f32)
    (w : Vec Ideal S1024x2816 .bf16) (s : Vec Ideal S8x2816 .f32) (w2 w1 w0 b : Vec Ideal S1x2816 .f32)
    (r : Fin 512) (q : Fin 2816) :
    k0_pay9 a h g p w s w2 w1 w0 b (ix2 r q)
      = taps (fun q => k0_pay8 h g p w (ix2 r q))
          (fun q => if r.val < 1 then (if a = 0#32 then 0 else s (ix2 7 q)) else k0_pay8 h g p w (ix2 ⟨r.val - 1, by omega⟩ q))
          (fun q => if hr : r.val < 2 then (if a = 0#32 then 0 else s (ix2 ⟨r.val + 6, by omega⟩ q)) else k0_pay8 h g p w (ix2 ⟨r.val - 2, by omega⟩ q))
          (fun q => w0 (ix2 0 q)) (fun q => w1 (ix2 0 q)) (fun q => w2 (ix2 0 q)) (fun q => b (ix2 0 q)) q := by
  pointwise [k0_pay9, taps, choose_zero]
  have i1 : 7 + r.val - 8 = r.val - 1 := by omega
  have i2 : 6 + r.val - 8 = r.val - 2 := by omega
  refine congrArg (· + b (ix2 0 q)) (congrArg₂ (· + w0 (ix2 0 q) * ·) (congrArg (w2 (ix2 0 q) * k0_pay8 h g p w (ix2 r q) + w1 (ix2 0 q) * ·) ?_) ?_)
  · by_cases hr : r.val < 1
    · have hi : (⟨7 + r.val, by omega⟩ : Fin 8) = 7 := Fin.ext (by show 7 + r.val = 7; omega)
      rw [dif_pos (by omega), if_pos hr, hi]; split <;> rfl
    · rw [dif_neg (by omega), if_neg hr]; simp only [i1]
  · by_cases hr : r.val < 2
    · rw [dif_pos (by omega), dif_pos hr]; simp only [Nat.add_comm]; split <;> rfl
    · rw [dif_neg (by omega), dif_neg hr]; simp only [i2]

variable (x0 : Vec Ideal S1x512x1024 .f32) (x1 x2 x3 x4 : Vec Ideal S1x512x1024 .bf16) (x5 x6 x7 : Vec Ideal S1024x1024 .bf16)
  (x8 : Vec Ideal S1x1024 .f32) (x9 : Vec Ideal S1024x5632 .bf16) (x10 : Vec Ideal S3x2816 .f32) (x11 : Vec Ideal S1x2816 .f32)
  (x12 : Vec Ideal S2816x1024 .bf16) (x13 : Vec Ideal S1x1024 .f32)

/-- Row `r` of the block after the merge. -/
def mergeRow (r : Fin 512) : Fin 1024 → EReal :=
  merge (fun k => x0 (ix3 0 r k)) (fun k => x1 (ix3 0 r k)) (fun k => x2 (ix3 0 r k)) (fun k => x3 (ix3 0 r k))
    (fun k => x4 (ix3 0 r k)) (fun j k => x5 (ix2 j k)) (fun j k => x6 (ix2 j k)) (fun j k => x7 (ix2 j k))

/-- Row `r` of the block's gate. -/
def gateRow (r : Fin 512) : Fin 2816 → EReal :=
  through (rmsRow (mergeRow x0 x1 x2 x3 x4 x5 x6 x7 r) (fun k => x8 (ix2 0 k)))
    (fun j q => x9 (ix2 j ⟨2816 + q.val, by omega⟩))

/-- Row `r` of the block's up branch. -/
def upRow (r : Fin 512) : Fin 2816 → EReal :=
  through (rmsRow (mergeRow x0 x1 x2 x3 x4 x5 x6 x7 r) (fun k => x8 (ix2 0 k)))
    (fun j q => x9 (ix2 j ⟨q.val, by omega⟩))

/-- The gate as the payloads compute it. -/
theorem gate_at (r : Fin 512) (q : Fin 2816) :
    k0_pay8 (k0_pay3 x1 x5 x2 x6 x3 x4 x0 x7) (k0_pay4 x8) (k0_pay5 x1 x5 x2 x6 x3 x4 x0 x7) (gateCols x9) (ix2 r q)
      = gateRow x0 x1 x2 x3 x4 x5 x6 x7 x8 x9 r q := by
  rw [pay8_at _ _ _ _ r q (pay5_at x1 x2 x3 x4 x0 x5 x6 x7 r)]
  simp only [pay3_at]
  pointwise [gateRow, mergeRow, k0_pay4, gateCols]

/-- The up branch as the payloads compute it. -/
theorem up_at (r : Fin 512) (q : Fin 2816) :
    k0_pay7 (k0_pay3 x1 x5 x2 x6 x3 x4 x0 x7) (k0_pay4 x8) (k0_pay5 x1 x5 x2 x6 x3 x4 x0 x7) (upCols x9) (ix2 r q)
      = upRow x0 x1 x2 x3 x4 x5 x6 x7 x8 x9 r q := by
  rw [pay7_at _ _ _ _ r q (pay5_at x1 x2 x3 x4 x0 x5 x6 x7 r)]
  simp only [pay3_at]
  pointwise [upRow, mergeRow, k0_pay4, upCols]

/-- The kept tail is the gate's last eight rows. -/
theorem tailOut_at (r : Fin 8) (q : Fin 2816) :
    tailOut x0 x1 x2 x3 x4 x5 x6 x7 x8 x9 (ix2 r q) = gateRow x0 x1 x2 x3 x4 x5 x6 x7 x8 x9 ⟨504 + r.val, by omega⟩ q := by
  unfold tailOut
  rw [pay10_at, gate_at]

/-- The result's block, a row at a time. -/
theorem blockOut_at (a : BitVec 32) (s : Vec Ideal S8x2816 .f32) (r : Fin 512) (d : Fin 1024) :
    blockOut a x0 x1 x2 x3 x4 x5 x6 x7 x8 x9 x10 x11 x12 x13 s (ix3 0 r d)
      = final (mergeRow x0 x1 x2 x3 x4 x5 x6 x7 r)
          (taps (gateRow x0 x1 x2 x3 x4 x5 x6 x7 x8 x9 r)
            (fun q => if r.val < 1 then (if a = 0#32 then 0 else s (ix2 7 q)) else gateRow x0 x1 x2 x3 x4 x5 x6 x7 x8 x9 ⟨r.val - 1, by omega⟩ q)
            (fun q => if hr : r.val < 2 then (if a = 0#32 then 0 else s (ix2 ⟨r.val + 6, by omega⟩ q)) else gateRow x0 x1 x2 x3 x4 x5 x6 x7 x8 x9 ⟨r.val - 2, by omega⟩ q)
            (fun q => x10 (ix2 0 q)) (fun q => x10 (ix2 1 q)) (fun q => x10 (ix2 2 q)) (fun q => x11 (ix2 0 q)))
          (upRow x0 x1 x2 x3 x4 x5 x6 x7 x8 x9 r) (fun j k => x12 (ix2 j k)) (fun k => x13 (ix2 0 k)) d := by
  unfold blockOut
  rw [pay2_at]
  simp only [pay3_at, pay9_at, gate_at, up_at]
  rw [show (fun q => tap0 x10 (ix2 0 q)) = fun q => x10 (ix2 0 q) from funext fun q => by pointwise [tap0],
    show (fun q => tap1 x10 (ix2 0 q)) = fun q => x10 (ix2 1 q) from funext fun q => by pointwise [tap1],
    show (fun q => tap2 x10 (ix2 0 q)) = fun q => x10 (ix2 2 q) from funext fun q => by pointwise [tap2]]
  rfl

end Cert.OutFfnIdeal.Ffn
-- ==== Proof.FfnVal.lean ====
/-
  The last kernel's result as one array of its arguments: every point's block is the specification's rows at the
  positions the point covers, the rows before the block being the last rows of the point before.
-/
module

public import proofs.«01_k».proof.Proof.FfnRun
public import proofs.«01_k».proof.Proof.FfnPay
public import Idealize.ShloMosaic.Lib.Pipeline.ValueKit

@[expose] public section

set_option maxRecDepth 16384

noncomputable section

namespace Cert.OutFfnIdeal.Ffn

open Cert.OutFfnIdeal Cert.OutFfnIdeal.Gen Cert.FfnRow
open Idealize.ShloMosaic Idealize.ShloMosaic.TcCoe Idealize.ShloMosaic.StableHlo
open Idealize.SL Idealize.SL.Sem

variable (m : (ℓ : Loc nD τ sig) → Buf (Elt Ideal) ℓ)

/-- The region finds argument 1 with its numbers unchanged: rounding is the identity on numbers. -/
theorem V_v0 (c : Dev nD) : V m c main_v0 = m (c, Proc.devRef .tc main_arg1) := by
  show StableHlo.after hostOps0 (fun b => m (c, b)) (Proc.devRef .tc main_v0) = _
  after_results
  rfl

/-- The region finds argument 2 with its numbers unchanged: rounding is the identity on numbers. -/
theorem V_v1 (c : Dev nD) : V m c main_v1 = m (c, Proc.devRef .tc main_arg2) := by
  show StableHlo.after hostOps0 (fun b => m (c, b)) (Proc.devRef .tc main_v1) = _
  after_results
  rfl

/-- The region finds argument 3 with its numbers unchanged: rounding is the identity on numbers. -/
theorem V_v2 (c : Dev nD) : V m c main_v2 = m (c, Proc.devRef .tc main_arg3) := by
  show StableHlo.after hostOps0 (fun b => m (c, b)) (Proc.devRef .tc main_v2) = _
  after_results
  rfl

/-- The region finds argument 4 with its numbers unchanged: rounding is the identity on numbers. -/
theorem V_v3 (c : Dev nD) : V m c main_v3 = m (c, Proc.devRef .tc main_arg4) := by
  show StableHlo.after hostOps0 (fun b => m (c, b)) (Proc.devRef .tc main_v3) = _
  after_results
  rfl

/-- The region finds argument 5 with its numbers unchanged: rounding is the identity on numbers. -/
theorem V_v4 (c : Dev nD) : V m c main_v4 = m (c, Proc.devRef .tc main_arg5) := by
  show StableHlo.after hostOps0 (fun b => m (c, b)) (Proc.devRef .tc main_v4) = _
  after_results
  rfl

/-- The region finds argument 6 with its numbers unchanged: rounding is the identity on numbers. -/
theorem V_v5 (c : Dev nD) : V m c main_v5 = m (c, Proc.devRef .tc main_arg6) := by
  show StableHlo.after hostOps0 (fun b => m (c, b)) (Proc.devRef .tc main_v5) = _
  after_results
  rfl

/-- The region finds argument 7 with its numbers unchanged: rounding is the identity on numbers. -/
theorem V_v6 (c : Dev nD) : V m c main_v6 = m (c, Proc.devRef .tc main_arg7) := by
  show StableHlo.after hostOps0 (fun b => m (c, b)) (Proc.devRef .tc main_v6) = _
  after_results
  rfl

/-- The region finds argument 9 with its numbers unchanged: rounding is the identity on numbers. -/
theorem V_v7 (c : Dev nD) : V m c main_v7 = m (c, Proc.devRef .tc main_arg9) := by
  show StableHlo.after hostOps0 (fun b => m (c, b)) (Proc.devRef .tc main_v7) = _
  after_results
  rfl

/-- The region finds argument 12 with its numbers unchanged: rounding is the identity on numbers. -/
theorem V_v8 (c : Dev nD) : V m c main_v8 = m (c, Proc.devRef .tc main_arg12) := by
  show StableHlo.after hostOps0 (fun b => m (c, b)) (Proc.devRef .tc main_v8) = _
  after_results
  rfl

/-- The region finds argument 8 as a single row. -/
theorem V_v9 (c : Dev nD) (k : Fin 1024) : V m c main_v9 (ix2 0 k) = m (c, Proc.devRef .tc main_arg8) (ix1 k) := by
  have e : V m c main_v9 = broadcastInDim S1x1024 ![1] bcast_S1024_S1x1024_1 (m (c, Proc.devRef .tc main_arg8)) := by
    show StableHlo.after hostOps0 (fun b => m (c, b)) (Proc.devRef .tc main_v9) = _
    after_results
  rw [e]
  pointwise []

/-- The region finds argument 11 as a single row. -/
theorem V_v10 (c : Dev nD) (k : Fin 2816) : V m c main_v10 (ix2 0 k) = m (c, Proc.devRef .tc main_arg11) (ix1 k) := by
  have e : V m c main_v10 = broadcastInDim S1x2816 ![1] bcast_S2816_S1x2816_1 (m (c, Proc.devRef .tc main_arg11)) := by
    show StableHlo.after hostOps0 (fun b => m (c, b)) (Proc.devRef .tc main_v10) = _
    after_results
  rw [e]
  pointwise []

/-- The region finds argument 13 as a single row. -/
theorem V_v11 (c : Dev nD) (k : Fin 1024) : V m c main_v11 (ix2 0 k) = m (c, Proc.devRef .tc main_arg13) (ix1 k) := by
  have e : V m c main_v11 = broadcastInDim S1x1024 ![1] bcast_S1024_S1x1024_1 (m (c, Proc.devRef .tc main_arg13)) := by
    show StableHlo.after hostOps0 (fun b => m (c, b)) (Proc.devRef .tc main_v11) = _
    after_results
  rw [e]
  pointwise []

/-- The grid's points. -/
theorem point_lt (t : Fin cfg0.N) : t.val < 32 := t.isLt

/-- Where window 0's block lies. -/
theorem index_0 : ∀ t : Fin cfg0.N, win0_0.index t = ![t.val / 16, t.val % 16, 0] :=
  (by decide +kernel : ∀ t : Fin grid0.N, win0_0.index t = ![t.val / 16, t.val % 16, 0])

/-- Window 0's block at an entry. -/
theorem iblk_0 (c : Dev nD) (t : Fin cfg0.N) (r : Fin 512) (k : Fin 1024) :
    iblk m c 0 t (ix3 0 r k) = m (c, Proc.devRef .tc main_arg0) (ix3 ⟨t.val / 16, by have := point_lt t; omega⟩ ⟨t.val % 16 * 512 + r.val, by omega⟩ k) := by
  blk_simp [iblk]
  refine (congrFun (V_main_arg0 m c) _).trans (congrArg (m (c, Proc.devRef .tc main_arg0)) ?_)
  blk_ext [index_0]

/-- Where window 1's block lies. -/
theorem index_1 : ∀ t : Fin cfg0.N, win0_1.index t = ![t.val / 16, t.val % 16, 0] :=
  (by decide +kernel : ∀ t : Fin grid0.N, win0_1.index t = ![t.val / 16, t.val % 16, 0])

/-- Window 1's block at an entry. -/
theorem iblk_1 (c : Dev nD) (t : Fin cfg0.N) (r : Fin 512) (k : Fin 1024) :
    iblk m c 1 t (ix3 0 r k) = m (c, Proc.devRef .tc main_arg1) (ix3 ⟨t.val / 16, by have := point_lt t; omega⟩ ⟨t.val % 16 * 512 + r.val, by omega⟩ k) := by
  blk_simp [iblk]
  refine (congrFun (V_v0 m c) _).trans (congrArg (m (c, Proc.devRef .tc main_arg1)) ?_)
  blk_ext [index_1]

/-- Where window 2's block lies. -/
theorem index_2 : ∀ t : Fin cfg0.N, win0_2.index t = ![t.val / 16, t.val % 16, 0] :=
  (by decide +kernel : ∀ t : Fin grid0.N, win0_2.index t = ![t.val / 16, t.val % 16, 0])

/-- Window 2's block at an entry. -/
theorem iblk_2 (c : Dev nD) (t : Fin cfg0.N) (r : Fin 512) (k : Fin 1024) :
    iblk m c 2 t (ix3 0 r k) = m (c, Proc.devRef .tc main_arg2) (ix3 ⟨t.val / 16, by have := point_lt t; omega⟩ ⟨t.val % 16 * 512 + r.val, by omega⟩ k) := by
  blk_simp [iblk]
  refine (congrFun (V_v1 m c) _).trans (congrArg (m (c, Proc.devRef .tc main_arg2)) ?_)
  blk_ext [index_2]

/-- Where window 3's block lies. -/
theorem index_3 : ∀ t : Fin cfg0.N, win0_3.index t = ![t.val / 16, t.val % 16, 0] :=
  (by decide +kernel : ∀ t : Fin grid0.N, win0_3.index t = ![t.val / 16, t.val % 16, 0])

/-- Window 3's block at an entry. -/
theorem iblk_3 (c : Dev nD) (t : Fin cfg0.N) (r : Fin 512) (k : Fin 1024) :
    iblk m c 3 t (ix3 0 r k) = m (c, Proc.devRef .tc main_arg3) (ix3 ⟨t.val / 16, by have := point_lt t; omega⟩ ⟨t.val % 16 * 512 + r.val, by omega⟩ k) := by
  blk_simp [iblk]
  refine (congrFun (V_v2 m c) _).trans (congrArg (m (c, Proc.devRef .tc main_arg3)) ?_)
  blk_ext [index_3]

/-- Where window 4's block lies. -/
theorem index_4 : ∀ t : Fin cfg0.N, win0_4.index t = ![t.val / 16, t.val % 16, 0] :=
  (by decide +kernel : ∀ t : Fin grid0.N, win0_4.index t = ![t.val / 16, t.val % 16, 0])

/-- Window 4's block at an entry. -/
theorem iblk_4 (c : Dev nD) (t : Fin cfg0.N) (r : Fin 512) (k : Fin 1024) :
    iblk m c 4 t (ix3 0 r k) = m (c, Proc.devRef .tc main_arg4) (ix3 ⟨t.val / 16, by have := point_lt t; omega⟩ ⟨t.val % 16 * 512 + r.val, by omega⟩ k) := by
  blk_simp [iblk]
  refine (congrFun (V_v3 m c) _).trans (congrArg (m (c, Proc.devRef .tc main_arg4)) ?_)
  blk_ext [index_4]

/-- Window 5's block lies at the array's start. -/
theorem index_5 : ∀ t : Fin cfg0.N, win0_5.index t = ![0, 0] :=
  (by decide +kernel : ∀ t : Fin grid0.N, win0_5.index t = ![0, 0])

/-- Window 5's block at an entry. -/
theorem iblk_5 (c : Dev nD) (t : Fin cfg0.N) (j : Fin 1024) (k : Fin 1024) :
    iblk m c 5 t (ix2 j k) = m (c, Proc.devRef .tc main_arg5) (ix2 j k) := by
  blk_simp [iblk]
  refine (congrFun (V_v4 m c) _).trans (congrArg (m (c, Proc.devRef .tc main_arg5)) ?_)
  blk_ext [index_5]

/-- Window 6's block lies at the array's start. -/
theorem index_6 : ∀ t : Fin cfg0.N, win0_6.index t = ![0, 0] :=
  (by decide +kernel : ∀ t : Fin grid0.N, win0_6.index t = ![0, 0])

/-- Window 6's block at an entry. -/
theorem iblk_6 (c : Dev nD) (t : Fin cfg0.N) (j : Fin 1024) (k : Fin 1024) :
    iblk m c 6 t (ix2 j k) = m (c, Proc.devRef .tc main_arg6) (ix2 j k) := by
  blk_simp [iblk]
  refine (congrFun (V_v5 m c) _).trans (congrArg (m (c, Proc.devRef .tc main_arg6)) ?_)
  blk_ext [index_6]

/-- Window 7's block lies at the array's start. -/
theorem index_7 : ∀ t : Fin cfg0.N, win0_7.index t = ![0, 0] :=
  (by decide +kernel : ∀ t : Fin grid0.N, win0_7.index t = ![0, 0])

/-- Window 7's block at an entry. -/
theorem iblk_7 (c : Dev nD) (t : Fin cfg0.N) (j : Fin 1024) (k : Fin 1024) :
    iblk m c 7 t (ix2 j k) = m (c, Proc.devRef .tc main_arg7) (ix2 j k) := by
  blk_simp [iblk]
  refine (congrFun (V_v6 m c) _).trans (congrArg (m (c, Proc.devRef .tc main_arg7)) ?_)
  blk_ext [index_7]

/-- Window 8's block lies at the array's start. -/
theorem index_8 : ∀ t : Fin cfg0.N, win0_8.index t = ![0, 0] :=
  (by decide +kernel : ∀ t : Fin grid0.N, win0_8.index t = ![0, 0])

/-- Window 8's block at an entry. -/
theorem iblk_8 (c : Dev nD) (t : Fin cfg0.N) (k : Fin 1024) :
    iblk m c 8 t (ix2 0 k) = m (c, Proc.devRef .tc main_arg8) (ix1 k) := by
  blk_simp [iblk]
  refine Eq.trans (congrArg (V m c main_v9) ?_) (V_v9 m c k)
  blk_ext [index_8]

/-- Window 9's block lies at the array's start. -/
theorem index_9 : ∀ t : Fin cfg0.N, win0_9.index t = ![0, 0] :=
  (by decide +kernel : ∀ t : Fin grid0.N, win0_9.index t = ![0, 0])

/-- Window 9's block at an entry. -/
theorem iblk_9 (c : Dev nD) (t : Fin cfg0.N) (j : Fin 1024) (k : Fin 5632) :
    iblk m c 9 t (ix2 j k) = m (c, Proc.devRef .tc main_arg9) (ix2 j k) := by
  blk_simp [iblk]
  refine (congrFun (V_v7 m c) _).trans (congrArg (m (c, Proc.devRef .tc main_arg9)) ?_)
  blk_ext [index_9]

/-- Window 10's block lies at the array's start. -/
theorem index_10 : ∀ t : Fin cfg0.N, win0_10.index t = ![0, 0] :=
  (by decide +kernel : ∀ t : Fin grid0.N, win0_10.index t = ![0, 0])

/-- Window 10's block at an entry. -/
theorem iblk_10 (c : Dev nD) (t : Fin cfg0.N) (j : Fin 3) (k : Fin 2816) :
    iblk m c 10 t (ix2 j k) = m (c, Proc.devRef .tc main_arg10) (ix2 j k) := by
  blk_simp [iblk]
  refine (congrFun (V_main_arg10 m c) _).trans (congrArg (m (c, Proc.devRef .tc main_arg10)) ?_)
  blk_ext [index_10]

/-- Window 11's block lies at the array's start. -/
theorem index_11 : ∀ t : Fin cfg0.N, win0_11.index t = ![0, 0] :=
  (by decide +kernel : ∀ t : Fin grid0.N, win0_11.index t = ![0, 0])

/-- Window 11's block at an entry. -/
theorem iblk_11 (c : Dev nD) (t : Fin cfg0.N) (k : Fin 2816) :
    iblk m c 11 t (ix2 0 k) = m (c, Proc.devRef .tc main_arg11) (ix1 k) := by
  blk_simp [iblk]
  refine Eq.trans (congrArg (V m c main_v10) ?_) (V_v10 m c k)
  blk_ext [index_11]

/-- Window 12's block lies at the array's start. -/
theorem index_12 : ∀ t : Fin cfg0.N, win0_12.index t = ![0, 0] :=
  (by decide +kernel : ∀ t : Fin grid0.N, win0_12.index t = ![0, 0])

/-- Window 12's block at an entry. -/
theorem iblk_12 (c : Dev nD) (t : Fin cfg0.N) (j : Fin 2816) (k : Fin 1024) :
    iblk m c 12 t (ix2 j k) = m (c, Proc.devRef .tc main_arg12) (ix2 j k) := by
  blk_simp [iblk]
  refine (congrFun (V_v8 m c) _).trans (congrArg (m (c, Proc.devRef .tc main_arg12)) ?_)
  blk_ext [index_12]

/-- Window 13's block lies at the array's start. -/
theorem index_13 : ∀ t : Fin cfg0.N, win0_13.index t = ![0, 0] :=
  (by decide +kernel : ∀ t : Fin grid0.N, win0_13.index t = ![0, 0])

/-- Window 13's block at an entry. -/
theorem iblk_13 (c : Dev nD) (t : Fin cfg0.N) (k : Fin 1024) :
    iblk m c 13 t (ix2 0 k) = m (c, Proc.devRef .tc main_arg13) (ix1 k) := by
  blk_simp [iblk]
  refine Eq.trans (congrArg (V m c main_v11) ?_) (V_v11 m c k)
  blk_ext [index_13]

/-- Argument 0 at launch. -/
abbrev arg0 (c : Dev nD) : (⟨3, ![2, 8192, 1024]⟩ : Shape).Idx → EReal := m (c, Proc.devRef .tc main_arg0)
/-- Argument 1 at launch. -/
abbrev arg1 (c : Dev nD) : (⟨3, ![2, 8192, 1024]⟩ : Shape).Idx → EReal := m (c, Proc.devRef .tc main_arg1)
/-- Argument 2 at launch. -/
abbrev arg2 (c : Dev nD) : (⟨3, ![2, 8192, 1024]⟩ : Shape).Idx → EReal := m (c, Proc.devRef .tc main_arg2)
/-- Argument 3 at launch. -/
abbrev arg3 (c : Dev nD) : (⟨3, ![2, 8192, 1024]⟩ : Shape).Idx → EReal := m (c, Proc.devRef .tc main_arg3)
/-- Argument 4 at launch. -/
abbrev arg4 (c : Dev nD) : (⟨3, ![2, 8192, 1024]⟩ : Shape).Idx → EReal := m (c, Proc.devRef .tc main_arg4)
/-- Argument 5 at launch. -/
abbrev arg5 (c : Dev nD) : (⟨2, ![1024, 1024]⟩ : Shape).Idx → EReal := m (c, Proc.devRef .tc main_arg5)
/-- Argument 6 at launch. -/
abbrev arg6 (c : Dev nD) : (⟨2, ![1024, 1024]⟩ : Shape).Idx → EReal := m (c, Proc.devRef .tc main_arg6)
/-- Argument 7 at launch. -/
abbrev arg7 (c : Dev nD) : (⟨2, ![1024, 1024]⟩ : Shape).Idx → EReal := m (c, Proc.devRef .tc main_arg7)
/-- Argument 8 at launch. -/
abbrev arg8 (c : Dev nD) : (⟨1, ![1024]⟩ : Shape).Idx → EReal := m (c, Proc.devRef .tc main_arg8)
/-- Argument 9 at launch. -/
abbrev arg9 (c : Dev nD) : (⟨2, ![1024, 5632]⟩ : Shape).Idx → EReal := m (c, Proc.devRef .tc main_arg9)
/-- Argument 10 at launch. -/
abbrev arg10 (c : Dev nD) : (⟨2, ![3, 2816]⟩ : Shape).Idx → EReal := m (c, Proc.devRef .tc main_arg10)
/-- Argument 11 at launch. -/
abbrev arg11 (c : Dev nD) : (⟨1, ![2816]⟩ : Shape).Idx → EReal := m (c, Proc.devRef .tc main_arg11)
/-- Argument 12 at launch. -/
abbrev arg12 (c : Dev nD) : (⟨2, ![2816, 1024]⟩ : Shape).Idx → EReal := m (c, Proc.devRef .tc main_arg12)
/-- Argument 13 at launch. -/
abbrev arg13 (c : Dev nD) : (⟨1, ![1024]⟩ : Shape).Idx → EReal := m (c, Proc.devRef .tc main_arg13)

/-- The sequence point `t` works on. -/
abbrev seqOf (t : Fin cfg0.N) : Fin 2 := ⟨t.val / 16, by have := point_lt t; omega⟩
/-- The position of row `r` of point `t`'s block. -/
abbrev posOf (t : Fin cfg0.N) (r : Fin 512) : Fin 8192 := ⟨t.val % 16 * 512 + r.val, by omega⟩

/-- The block's merged rows are the arrays'. -/
theorem mergeRow_eq (c : Dev nD) (t : Fin cfg0.N) (r : Fin 512) :
    mergeRow (iblk m c 0 t) (iblk m c 1 t) (iblk m c 2 t) (iblk m c 3 t) (iblk m c 4 t) (iblk m c 5 t) (iblk m c 6 t) (iblk m c 7 t) r = mergeAt (arg0 m c) (arg1 m c) (arg2 m c) (arg3 m c) (arg4 m c) (arg5 m c) (arg6 m c) (arg7 m c) (seqOf t) (posOf t r) := by
  unfold mergeRow mergeAt
  simp only [iblk_0, iblk_1, iblk_2, iblk_3, iblk_4, iblk_5, iblk_6, iblk_7]

/-- So are the gate's. -/
theorem gateRow_eq (c : Dev nD) (t : Fin cfg0.N) (r : Fin 512) :
    gateRow (iblk m c 0 t) (iblk m c 1 t) (iblk m c 2 t) (iblk m c 3 t) (iblk m c 4 t) (iblk m c 5 t) (iblk m c 6 t) (iblk m c 7 t) (iblk m c 8 t) (iblk m c 9 t) r = gateAt (arg0 m c) (arg1 m c) (arg2 m c) (arg3 m c) (arg4 m c) (arg5 m c) (arg6 m c) (arg7 m c) (arg8 m c) (arg9 m c) (seqOf t) (posOf t r) := by
  unfold gateRow gateAt
  simp only [mergeRow_eq, iblk_8, iblk_9]

/-- So are the up branch's. -/
theorem upRow_eq (c : Dev nD) (t : Fin cfg0.N) (r : Fin 512) :
    upRow (iblk m c 0 t) (iblk m c 1 t) (iblk m c 2 t) (iblk m c 3 t) (iblk m c 4 t) (iblk m c 5 t) (iblk m c 6 t) (iblk m c 7 t) (iblk m c 8 t) (iblk m c 9 t) r = upAt (arg0 m c) (arg1 m c) (arg2 m c) (arg3 m c) (arg4 m c) (arg5 m c) (arg6 m c) (arg7 m c) (arg8 m c) (arg9 m c) (seqOf t) (posOf t r) := by
  unfold upRow upAt
  simp only [mergeRow_eq, iblk_8, iblk_9]

/-- The grid's second coordinate. -/
theorem coord_one : ∀ t : Fin cfg0.N, ((grid0.coords t) 1).val = t.val % 16 :=
  (by decide +kernel : ∀ t : Fin grid0.N, ((grid0.coords t) 1).val = t.val % 16)

/-- A point is the first of its sequence exactly when its second coordinate's word is zero. -/
theorem word_zero (t : Fin cfg0.N) : BitVec.ofNat 32 ((grid0.coords t) 1).val = 0#32 ↔ t.val % 16 = 0 := by
  rw [coord_one]
  constructor
  · intro h
    have := congrArg BitVec.toNat h
    rw [BitVec.toNat_ofNat, Nat.mod_eq_of_lt (by omega)] at this
    exact this
  · intro h; rw [h]

/-- A row before the block: zero at a sequence's start, else among the rows the point before left. -/
theorem tail_row (c : Dev nD) (t : Fin cfg0.N) (r : Fin 512) (n : Nat) (hn : 1 ≤ n) (hn8 : n ≤ 8) (hr : r.val < n) (p : Fin 8)
    (hp : p.val = 8 + r.val - n) (q : Fin 2816) :
    (if BitVec.ofNat 32 ((grid0.coords t) 1).val = 0#32 then (0 : EReal) else tailBefore m c t (ix2 p q))
      = gateBefore (arg0 m c) (arg1 m c) (arg2 m c) (arg3 m c) (arg4 m c) (arg5 m c) (arg6 m c) (arg7 m c) (arg8 m c) (arg9 m c) n (seqOf t) (posOf t r) q := by
  unfold gateBefore
  have ht := point_lt t
  by_cases h : t.val % 16 = 0
  · rw [if_pos ((word_zero t).mpr h), if_neg (by show ¬ n ≤ t.val % 16 * 512 + r.val; omega)]
  · rw [if_neg (fun e => h ((word_zero t).mp e)), if_pos (by show n ≤ t.val % 16 * 512 + r.val; omega)]
    unfold tailBefore tailAt
    rw [tailOut_at, gateRow_eq]
    exact congrFun (congrArg₂ (gateAt (arg0 m c) (arg1 m c) (arg2 m c) (arg3 m c) (arg4 m c) (arg5 m c) (arg6 m c) (arg7 m c) (arg8 m c) (arg9 m c)) (Fin.ext (by show (t.val - 1) / 16 = t.val / 16; omega))
      (Fin.ext (by show (t.val - 1) % 16 * 512 + (504 + p.val) = t.val % 16 * 512 + r.val - n; omega))) q

/-- A row before, inside the block or not. -/
theorem before_row (c : Dev nD) (t : Fin cfg0.N) (r : Fin 512) (n : Nat) (hr : n ≤ r.val) (q : Fin 2816) :
    gateRow (iblk m c 0 t) (iblk m c 1 t) (iblk m c 2 t) (iblk m c 3 t) (iblk m c 4 t) (iblk m c 5 t) (iblk m c 6 t) (iblk m c 7 t) (iblk m c 8 t) (iblk m c 9 t) ⟨r.val - n, by omega⟩ q
      = gateBefore (arg0 m c) (arg1 m c) (arg2 m c) (arg3 m c) (arg4 m c) (arg5 m c) (arg6 m c) (arg7 m c) (arg8 m c) (arg9 m c) n (seqOf t) (posOf t r) q := by
  rw [gateRow_eq]
  unfold gateBefore
  rw [if_pos (by show n ≤ t.val % 16 * 512 + r.val; omega)]
  exact congrFun (congrArg (gateAt (arg0 m c) (arg1 m c) (arg2 m c) (arg3 m c) (arg4 m c) (arg5 m c) (arg6 m c) (arg7 m c) (arg8 m c) (arg9 m c) (seqOf t))
    (Fin.ext (by show t.val % 16 * 512 + (r.val - n) = t.val % 16 * 512 + r.val - n; omega))) q

/-- What point `t` leaves, at an entry. -/
theorem blockAt_at (c : Dev nD) (t : Fin cfg0.N) (r : Fin 512) (d : Fin 1024) :
    blockAt m c t (ix3 0 r d) = outAt (arg0 m c) (arg1 m c) (arg2 m c) (arg3 m c) (arg4 m c) (arg5 m c) (arg6 m c) (arg7 m c) (arg8 m c) (arg9 m c) (arg10 m c) (arg11 m c) (arg12 m c) (arg13 m c) (seqOf t) (posOf t r) d := by
  unfold blockAt
  rw [blockOut_at]
  unfold outAt tapsAt
  rw [mergeRow_eq, gateRow_eq, upRow_eq]
  have h1 : (fun q => if r.val < 1 then (if BitVec.ofNat 32 ((grid0.coords t) 1).val = 0#32 then (0 : EReal) else tailBefore m c t (ix2 7 q))
      else gateRow (iblk m c 0 t) (iblk m c 1 t) (iblk m c 2 t) (iblk m c 3 t) (iblk m c 4 t) (iblk m c 5 t) (iblk m c 6 t) (iblk m c 7 t) (iblk m c 8 t) (iblk m c 9 t) ⟨r.val - 1, by omega⟩ q) = gateBefore (arg0 m c) (arg1 m c) (arg2 m c) (arg3 m c) (arg4 m c) (arg5 m c) (arg6 m c) (arg7 m c) (arg8 m c) (arg9 m c) 1 (seqOf t) (posOf t r) := by
    funext q
    by_cases hr : r.val < 1
    · rw [if_pos hr]; exact tail_row m c t r 1 (by omega) (by omega) hr 7 (by show 7 = _; omega) q
    · rw [if_neg hr]; exact before_row m c t r 1 (by omega) q
  have h2 : (fun q => if hr : r.val < 2 then (if BitVec.ofNat 32 ((grid0.coords t) 1).val = 0#32 then (0 : EReal) else tailBefore m c t (ix2 ⟨r.val + 6, by omega⟩ q))
      else gateRow (iblk m c 0 t) (iblk m c 1 t) (iblk m c 2 t) (iblk m c 3 t) (iblk m c 4 t) (iblk m c 5 t) (iblk m c 6 t) (iblk m c 7 t) (iblk m c 8 t) (iblk m c 9 t) ⟨r.val - 2, by omega⟩ q) = gateBefore (arg0 m c) (arg1 m c) (arg2 m c) (arg3 m c) (arg4 m c) (arg5 m c) (arg6 m c) (arg7 m c) (arg8 m c) (arg9 m c) 2 (seqOf t) (posOf t r) := by
    funext q
    by_cases hr : r.val < 2
    · rw [dif_pos hr]; exact tail_row m c t r 2 (by omega) (by omega) hr _ (by show r.val + 6 = _; omega) q
    · rw [dif_neg hr]; exact before_row m c t r 2 (by omega) q
  rw [h1, h2]
  simp only [iblk_10, iblk_11, iblk_12, iblk_13]

/-- Where the result's block lies. -/
theorem index_14 : ∀ t : Fin cfg0.N, win0_14.index t = ![t.val / 16, t.val % 16, 0] :=
  (by decide +kernel : ∀ t : Fin grid0.N, win0_14.index t = ![t.val / 16, t.val % 16, 0])

/-- What point `t` leaves is the specification's array where the block lies. -/
theorem blockAt_eq (c : Dev nD) (t : Fin cfg0.N) (y : S1x512x1024.Idx) (i : S2x8192x1024.Idx)
    (h0 : (i 0).val = t.val / 16) (h1 : (i 1).val = t.val % 16 * 512 + (y 1).val) (h2 : (i 2).val = (y 2).val) :
    blockAt m c t y = outArr (arg0 m c) (arg1 m c) (arg2 m c) (arg3 m c) (arg4 m c) (arg5 m c) (arg6 m c) (arg7 m c) (arg8 m c) (arg9 m c) (arg10 m c) (arg11 m c) (arg12 m c) (arg13 m c) i := by
  have ey : y = ix3 0 (y 1) (y 2) := by
    funext a; fin_cases a
    · exact Fin.ext (by have := (y 0).isLt; show (y 0).val = 0; change (y 0).val < 1 at this; omega)
    · rfl
    · rfl
  have e0 : i 0 = seqOf t := Fin.ext h0
  have e1 : i 1 = posOf t (y 1) := Fin.ext h1
  have e2 : i 2 = y 2 := Fin.ext h2
  refine (congrArg (blockAt m c t) ey).trans ((blockAt_at m c t (y 1) (y 2)).trans ?_)
  show _ = outAt (arg0 m c) (arg1 m c) (arg2 m c) (arg3 m c) (arg4 m c) (arg5 m c) (arg6 m c) (arg7 m c) (arg8 m c) (arg9 m c) (arg10 m c) (arg11 m c) (arg12 m c) (arg13 m c) (i 0) (i 1) (i 2)
  rw [e0, e1, e2]

/-- The result array after the last point. -/
theorem result_arr (c : Dev nD) : (points m 0 c).arrAt 14 cfg0.N = outArr (arg0 m c) (arg1 m c) (arg2 m c) (arg3 m c) (arg4 m c) (arg5 m c) (arg6 m c) (arg7 m c) (arg8 m c) (arg9 m c) (arg10 m c) (arg11 m c) (arg12 m c) (arg13 m c) := by
  refine (points m 0 c).arrAt_eq_of_covers 14 _ (by decide +kernel) fun t hf y => ?_
  blk_simp
  rw [after_14]
  refine blockAt_eq m c t _ _ ?_ ?_ ?_ <;> blk_simp [index_14]

/-- The arguments end as they began, and every semaphore at zero, at any arithmetic. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨
    ((h.1 c).1 0).trans (((points m 0 c).arrAt_in 0 rfl _).trans ((points_A m c 0).trans (V_main_arg0 m c))),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c),
    ((h.1 c).1 10).trans (((points m 0 c).arrAt_in 10 rfl _).trans ((points_A m c 10).trans (V_main_arg10 m c))),
    ((h.1 c).2 main_arg11 (Pipeline.mem_restRefs_of main_arg11 (by decide) (by decide))).trans (V_main_arg11 m c),
    ((h.1 c).2 main_arg12 (Pipeline.mem_restRefs_of main_arg12 (by decide) (by decide))).trans (V_main_arg12 m c),
    ((h.1 c).2 main_arg13 (Pipeline.mem_restRefs_of main_arg13 (by decide) (by decide))).trans (V_main_arg13 m c)⟩, h.2⟩) (run m ρ)

/-- The result ends at the specification's array of the arguments, which end as they began. -/
theorem value (ρ : Dev nD → PrngReg) :
    θ_run defs (onTc (τ := τ) (main (F := Ideal))) ⟨m, fun _ => 0, ρ⟩ (fun r => ∀ c : Dev nD,
      r.2.mem ((c.tc : Thread nD τ).loc main_v12) = outArr (arg0 m c) (arg1 m c) (arg2 m c) (arg3 m c) (arg4 m c) (arg5 m c) (arg6 m c) (arg7 m c) (arg8 m c) (arg9 m c) (arg10 m c) (arg11 m c) (arg12 m c) (arg13 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h.1 c).1 14).trans (result_arr m c),
    ((h.1 c).1 0).trans (((points m 0 c).arrAt_in 0 rfl _).trans ((points_A m c 0).trans (V_main_arg0 m c))),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c),
    ((h.1 c).2 main_arg5 (Pipeline.mem_restRefs_of main_arg5 (by decide) (by decide))).trans (V_main_arg5 m c),
    ((h.1 c).2 main_arg6 (Pipeline.mem_restRefs_of main_arg6 (by decide) (by decide))).trans (V_main_arg6 m c),
    ((h.1 c).2 main_arg7 (Pipeline.mem_restRefs_of main_arg7 (by decide) (by decide))).trans (V_main_arg7 m c),
    ((h.1 c).2 main_arg8 (Pipeline.mem_restRefs_of main_arg8 (by decide) (by decide))).trans (V_main_arg8 m c),
    ((h.1 c).2 main_arg9 (Pipeline.mem_restRefs_of main_arg9 (by decide) (by decide))).trans (V_main_arg9 m c),
    ((h.1 c).1 10).trans (((points m 0 c).arrAt_in 10 rfl _).trans ((points_A m c 10).trans (V_main_arg10 m c))),
    ((h.1 c).2 main_arg11 (Pipeline.mem_restRefs_of main_arg11 (by decide) (by decide))).trans (V_main_arg11 m c),
    ((h.1 c).2 main_arg12 (Pipeline.mem_restRefs_of main_arg12 (by decide) (by decide))).trans (V_main_arg12 m c),
    ((h.1 c).2 main_arg13 (Pipeline.mem_restRefs_of main_arg13 (by decide) (by decide))).trans (V_main_arg13 m c)⟩) (run m ρ)

end Cert.OutFfnIdeal.Ffn
-- ==== Proof.FfnRefRun.lean ====
/-
  The last stage's reference: the values its operations write, in stages, and its run.
-/
module

public import proofs.«01_k».proof.Proof.Gen.OutFfnReferenceIdeal
public import Idealize.ShloMosaic.Lib.StableHlo.Run
public import Idealize.ShloMosaic.Lib.Pipeline.Frame

@[expose] public section

set_option Elab.async false

noncomputable section

namespace Cert.OutFfnReferenceIdeal.Stage

open Cert.OutFfnReferenceIdeal Cert.OutFfnReferenceIdeal.Gen Idealize.ShloMosaic Idealize.ShloMosaic.TcCoe Idealize.SL.Sem Idealize.ShloMosaic.StableHlo

variable {F : FTy → Type} [FloatOps F]

/-- @main's operations 1 … 30 of 83 (window `main_part0`). -/
abbrev ops_part0_0 : List (HloOp τ sig (Elt F)) :=
  [ binary main_arg1 main_arg5 main_v0 ((fun l r => Host.dotGeneral dot_S2x8192x1024_S1024x1024_S2x8192x1024_2_0_01_1_n_n none l r) : (⟨S2x8192x1024, .f32⟩ : BufTy).Contents (Elt F) → (⟨S1024x1024, .f32⟩ : BufTy).Contents (Elt F) → (⟨S2x8192x1024, .f32⟩ : BufTy).Contents (Elt F)),
    binary main_arg3 main_v0 main_v1 (mulf : (⟨S2x8192x1024, .f32⟩ : BufTy).Contents (Elt F) → (⟨S2x8192x1024, .f32⟩ : BufTy).Contents (Elt F) → (⟨S2x8192x1024, .f32⟩ : BufTy).Contents (Elt F)),
    binary main_arg2 main_arg6 main_v2 ((fun l r => Host.dotGeneral dot_S2x8192x1024_S1024x1024_S2x8192x1024_2_0_01_1_n_n none l r) : (⟨S2x8192x1024, .f32⟩ : BufTy).Contents (Elt F) → (⟨S1024x1024, .f32⟩ : BufTy).Contents (Elt F) → (⟨S2x8192x1024, .f32⟩ : BufTy).Contents (Elt F)),
    binary main_arg4 main_v2 main_v3 (mulf : (⟨S2x8192x1024, .f32⟩ : BufTy).Contents (Elt F) → (⟨S2x8192x1024, .f32⟩ : BufTy).Contents (Elt F) → (⟨S2x8192x1024, .f32⟩ : BufTy).Contents (Elt F)),
    binary main_v1 main_v3 main_v4 (addf : (⟨S2x8192x1024, .f32⟩ : BufTy).Contents (Elt F) → (⟨S2x8192x1024, .f32⟩ : BufTy).Contents (Elt F) → (⟨S2x8192x1024, .f32⟩ : BufTy).Contents (Elt F)),
    binary main_v4 main_arg7 main_v5 ((fun l r => Host.dotGeneral dot_S2x8192x1024_S1024x1024_S2x8192x1024_2_0_01_1_n_n none l r) : (⟨S2x8192x1024, .f32⟩ : BufTy).Contents (Elt F) → (⟨S1024x1024, .f32⟩ : BufTy).Contents (Elt F) → (⟨S2x8192x1024, .f32⟩ : BufTy).Contents (Elt F)),
    binary main_arg0 main_v5 main_v6 (addf : (⟨S2x8192x1024, .f32⟩ : BufTy).Contents (Elt F) → (⟨S2x8192x1024, .f32⟩ : BufTy).Contents (Elt F) → (⟨S2x8192x1024, .f32⟩ : BufTy).Contents (Elt F)),
    binary main_v6 main_v6 main_v7 (mulf : (⟨S2x8192x1024, .f32⟩ : BufTy).Contents (Elt F) → (⟨S2x8192x1024, .f32⟩ : BufTy).Contents (Elt F) → (⟨S2x8192x1024, .f32⟩ : BufTy).Contents (Elt F)),
    nullary main_cst (constant S_ .f32 0x00000000#32),
    binary main_v7 main_cst main_v8 ((fun x v => Host.reduceAdd x v reducesTo_S2x8192x1024_S2x8192_d2 h_S_) : (⟨S2x8192x1024, .f32⟩ : BufTy).Contents (Elt F) → (⟨S_, .f32⟩ : BufTy).Contents (Elt F) → (⟨S2x8192, .f32⟩ : BufTy).Contents (Elt F)),
    unary main_v8 main_v9 (broadcastInDim S2x8192x1 ![0, 1] bcast_S2x8192_S2x8192x1_0_1 : (⟨S2x8192, .f32⟩ : BufTy).Contents (Elt F) → (⟨S2x8192x1, .f32⟩ : BufTy).Contents (Elt F)),
    nullary main_cst_0 (constant S_ .f32 0x44800000#32),
    unary main_cst_0 main_v10 (broadcastInDim S2x8192x1 ![] bcast_S_S2x8192x1 : (⟨S_, .f32⟩ : BufTy).Contents (Elt F) → (⟨S2x8192x1, .f32⟩ : BufTy).Contents (Elt F)),
    binary main_v9 main_v10 main_v11 (Host.divf : (⟨S2x8192x1, .f32⟩ : BufTy).Contents (Elt F) → (⟨S2x8192x1, .f32⟩ : BufTy).Contents (Elt F) → (⟨S2x8192x1, .f32⟩ : BufTy).Contents (Elt F)),
    nullary main_cst_1 (constant S_ .f32 0x358637BD#32),
    unary main_cst_1 main_v12 (broadcastInDim S2x8192x1 ![] bcast_S_S2x8192x1 : (⟨S_, .f32⟩ : BufTy).Contents (Elt F) → (⟨S2x8192x1, .f32⟩ : BufTy).Contents (Elt F)),
    binary main_v11 main_v12 main_v13 (addf : (⟨S2x8192x1, .f32⟩ : BufTy).Contents (Elt F) → (⟨S2x8192x1, .f32⟩ : BufTy).Contents (Elt F) → (⟨S2x8192x1, .f32⟩ : BufTy).Contents (Elt F)),
    unary main_v13 main_v14 (Host.rsqrt : (⟨S2x8192x1, .f32⟩ : BufTy).Contents (Elt F) → (⟨S2x8192x1, .f32⟩ : BufTy).Contents (Elt F)),
    unary main_v14 main_v15 (broadcastInDim S2x8192x1024 ![0, 1, 2] bcast_S2x8192x1_S2x8192x1024_0_1_2 : (⟨S2x8192x1, .f32⟩ : BufTy).Contents (Elt F) → (⟨S2x8192x1024, .f32⟩ : BufTy).Contents (Elt F)),
    binary main_v6 main_v15 main_v16 (mulf : (⟨S2x8192x1024, .f32⟩ : BufTy).Contents (Elt F) → (⟨S2x8192x1024, .f32⟩ : BufTy).Contents (Elt F) → (⟨S2x8192x1024, .f32⟩ : BufTy).Contents (Elt F)),
    unary main_arg8 main_v17 (broadcastInDim S1x1x1024 ![2] bcast_S1024_S1x1x1024_2 : (⟨S1024, .f32⟩ : BufTy).Contents (Elt F) → (⟨S1x1x1024, .f32⟩ : BufTy).Contents (Elt F)),
    unary main_v17 main_v18 (broadcastInDim S2x8192x1024 ![0, 1, 2] bcast_S1x1x1024_S2x8192x1024_0_1_2 : (⟨S1x1x1024, .f32⟩ : BufTy).Contents (Elt F) → (⟨S2x8192x1024, .f32⟩ : BufTy).Contents (Elt F)),
    binary main_v16 main_v18 main_v19 (mulf : (⟨S2x8192x1024, .f32⟩ : BufTy).Contents (Elt F) → (⟨S2x8192x1024, .f32⟩ : BufTy).Contents (Elt F) → (⟨S2x8192x1024, .f32⟩ : BufTy).Contents (Elt F)),
    binary main_v19 main_arg9 main_v20 ((fun l r => Host.dotGeneral dot_S2x8192x1024_S1024x5632_S2x8192x5632_2_0_01_1_n_n none l r) : (⟨S2x8192x1024, .f32⟩ : BufTy).Contents (Elt F) → (⟨S1024x5632, .f32⟩ : BufTy).Contents (Elt F) → (⟨S2x8192x5632, .f32⟩ : BufTy).Contents (Elt F)),
    unary main_v20 main_v21 ((extractStridedSlice S2x8192x2816 ![0, 0, 0] · slices_S2x8192x5632_S2x8192x2816_0_0_0) : (⟨S2x8192x5632, .f32⟩ : BufTy).Contents (Elt F) → (⟨S2x8192x2816, .f32⟩ : BufTy).Contents (Elt F)),
    unary main_v20 main_v22 ((extractStridedSlice S2x8192x2816 ![0, 0, 2816] · slices_S2x8192x5632_S2x8192x2816_0_0_2816) : (⟨S2x8192x5632, .f32⟩ : BufTy).Contents (Elt F) → (⟨S2x8192x2816, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S2x8192x2816, .f32⟩) main_v22) (TRef.of (T := ⟨S_, .f32⟩) main_call0_v0) (TRef.of (T := ⟨S2x8194x2816, .f32⟩) main_v23) (fun x v => pad S2x8194x2816 ![0, 2, 0] ![0, 0, 0] ![0, 0, 0] x v pads_S2x8192x2816_S2x8194x2816_000_200_000 h_S_),
    unary main_v23 main_v24 ((extractStridedSlice S2x8192x2816 ![0, 0, 0] · slices_S2x8194x2816_S2x8192x2816_0_0_0) : (⟨S2x8194x2816, .f32⟩ : BufTy).Contents (Elt F) → (⟨S2x8192x2816, .f32⟩ : BufTy).Contents (Elt F)) ]

/-- @main's operations 31 … 60 of 83 (window `main_part0`). -/
abbrev ops_part0_1 : List (HloOp τ sig (Elt F)) :=
  [ unary main_arg10 main_v25 ((extractStridedSlice S1x2816 ![0, 0] · slices_S3x2816_S1x2816_0_0) : (⟨S3x2816, .f32⟩ : BufTy).Contents (Elt F) → (⟨S1x2816, .f32⟩ : BufTy).Contents (Elt F)),
    reshape main_v25 main_v26 (rfl : (.f32 : EltTy) = .f32) shapeCasts_S1x2816_S2816,
    unary main_v26 main_v27 (broadcastInDim S1x1x2816 ![2] bcast_S2816_S1x1x2816_2 : (⟨S2816, .f32⟩ : BufTy).Contents (Elt F) → (⟨S1x1x2816, .f32⟩ : BufTy).Contents (Elt F)),
    unary main_v27 main_v28 (broadcastInDim S2x8192x2816 ![0, 1, 2] bcast_S1x1x2816_S2x8192x2816_0_1_2 : (⟨S1x1x2816, .f32⟩ : BufTy).Contents (Elt F) → (⟨S2x8192x2816, .f32⟩ : BufTy).Contents (Elt F)),
    binary main_v24 main_v28 main_v29 (mulf : (⟨S2x8192x2816, .f32⟩ : BufTy).Contents (Elt F) → (⟨S2x8192x2816, .f32⟩ : BufTy).Contents (Elt F) → (⟨S2x8192x2816, .f32⟩ : BufTy).Contents (Elt F)),
    nullary main_cst_2 (constant S_ .f32 0x00000000#32),
    unary main_cst_2 main_v30 (broadcastInDim S2x8192x2816 ![] bcast_S_S2x8192x2816 : (⟨S_, .f32⟩ : BufTy).Contents (Elt F) → (⟨S2x8192x2816, .f32⟩ : BufTy).Contents (Elt F)),
    binary main_v30 main_v29 main_v31 (addf : (⟨S2x8192x2816, .f32⟩ : BufTy).Contents (Elt F) → (⟨S2x8192x2816, .f32⟩ : BufTy).Contents (Elt F) → (⟨S2x8192x2816, .f32⟩ : BufTy).Contents (Elt F)),
    unary main_v23 main_v32 ((extractStridedSlice S2x8192x2816 ![0, 1, 0] · slices_S2x8194x2816_S2x8192x2816_0_1_0) : (⟨S2x8194x2816, .f32⟩ : BufTy).Contents (Elt F) → (⟨S2x8192x2816, .f32⟩ : BufTy).Contents (Elt F)),
    unary main_arg10 main_v33 ((extractStridedSlice S1x2816 ![1, 0] · slices_S3x2816_S1x2816_1_0) : (⟨S3x2816, .f32⟩ : BufTy).Contents (Elt F) → (⟨S1x2816, .f32⟩ : BufTy).Contents (Elt F)),
    reshape main_v33 main_v34 (rfl : (.f32 : EltTy) = .f32) shapeCasts_S1x2816_S2816,
    unary main_v34 main_v35 (broadcastInDim S1x1x2816 ![2] bcast_S2816_S1x1x2816_2 : (⟨S2816, .f32⟩ : BufTy).Contents (Elt F) → (⟨S1x1x2816, .f32⟩ : BufTy).Contents (Elt F)),
    unary main_v35 main_v36 (broadcastInDim S2x8192x2816 ![0, 1, 2] bcast_S1x1x2816_S2x8192x2816_0_1_2 : (⟨S1x1x2816, .f32⟩ : BufTy).Contents (Elt F) → (⟨S2x8192x2816, .f32⟩ : BufTy).Contents (Elt F)),
    binary main_v32 main_v36 main_v37 (mulf : (⟨S2x8192x2816, .f32⟩ : BufTy).Contents (Elt F) → (⟨S2x8192x2816, .f32⟩ : BufTy).Contents (Elt F) → (⟨S2x8192x2816, .f32⟩ : BufTy).Contents (Elt F)),
    binary main_v31 main_v37 main_v38 (addf : (⟨S2x8192x2816, .f32⟩ : BufTy).Contents (Elt F) → (⟨S2x8192x2816, .f32⟩ : BufTy).Contents (Elt F) → (⟨S2x8192x2816, .f32⟩ : BufTy).Contents (Elt F)),
    unary main_v23 main_v39 ((extractStridedSlice S2x8192x2816 ![0, 2, 0] · slices_S2x8194x2816_S2x8192x2816_0_2_0) : (⟨S2x8194x2816, .f32⟩ : BufTy).Contents (Elt F) → (⟨S2x8192x2816, .f32⟩ : BufTy).Contents (Elt F)),
    unary main_arg10 main_v40 ((extractStridedSlice S1x2816 ![2, 0] · slices_S3x2816_S1x2816_2_0) : (⟨S3x2816, .f32⟩ : BufTy).Contents (Elt F) → (⟨S1x2816, .f32⟩ : BufTy).Contents (Elt F)),
    reshape main_v40 main_v41 (rfl : (.f32 : EltTy) = .f32) shapeCasts_S1x2816_S2816,
    unary main_v41 main_v42 (broadcastInDim S1x1x2816 ![2] bcast_S2816_S1x1x2816_2 : (⟨S2816, .f32⟩ : BufTy).Contents (Elt F) → (⟨S1x1x2816, .f32⟩ : BufTy).Contents (Elt F)),
    unary main_v42 main_v43 (broadcastInDim S2x8192x2816 ![0, 1, 2] bcast_S1x1x2816_S2x8192x2816_0_1_2 : (⟨S1x1x2816, .f32⟩ : BufTy).Contents (Elt F) → (⟨S2x8192x2816, .f32⟩ : BufTy).Contents (Elt F)),
    binary main_v39 main_v43 main_v44 (mulf : (⟨S2x8192x2816, .f32⟩ : BufTy).Contents (Elt F) → (⟨S2x8192x2816, .f32⟩ : BufTy).Contents (Elt F) → (⟨S2x8192x2816, .f32⟩ : BufTy).Contents (Elt F)),
    binary main_v38 main_v44 main_v45 (addf : (⟨S2x8192x2816, .f32⟩ : BufTy).Contents (Elt F) → (⟨S2x8192x2816, .f32⟩ : BufTy).Contents (Elt F) → (⟨S2x8192x2816, .f32⟩ : BufTy).Contents (Elt F)),
    unary main_arg11 main_v46 (broadcastInDim S1x1x2816 ![2] bcast_S2816_S1x1x2816_2 : (⟨S2816, .f32⟩ : BufTy).Contents (Elt F) → (⟨S1x1x2816, .f32⟩ : BufTy).Contents (Elt F)),
    unary main_v46 main_v47 (broadcastInDim S2x8192x2816 ![0, 1, 2] bcast_S1x1x2816_S2x8192x2816_0_1_2 : (⟨S1x1x2816, .f32⟩ : BufTy).Contents (Elt F) → (⟨S2x8192x2816, .f32⟩ : BufTy).Contents (Elt F)),
    binary main_v45 main_v47 main_v48 (addf : (⟨S2x8192x2816, .f32⟩ : BufTy).Contents (Elt F) → (⟨S2x8192x2816, .f32⟩ : BufTy).Contents (Elt F) → (⟨S2x8192x2816, .f32⟩ : BufTy).Contents (Elt F)),
    TRef.unary (TRef.of (T := ⟨S2x8192x2816, .f32⟩) main_v48) (TRef.of (T := ⟨S2x8192x2816, .f32⟩) main_call1_v0) Host.negf,
    TRef.unary (TRef.of (T := ⟨S2x8192x2816, .f32⟩) main_call1_v0) (TRef.of (T := ⟨S2x8192x2816, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S2x8192x2816, .f32⟩) main_call1_v2) (broadcastInDim S2x8192x2816 ![] bcast_S_S2x8192x2816),
    TRef.binary (TRef.of (T := ⟨S2x8192x2816, .f32⟩) main_call1_v2) (TRef.of (T := ⟨S2x8192x2816, .f32⟩) main_call1_v1) (TRef.of (T := ⟨S2x8192x2816, .f32⟩) main_call1_v3) addf ]

/-- @main's operations 61 … 69 of 83 (window `main_part0`). -/
abbrev ops_part0_2 : List (HloOp τ sig (Elt F)) :=
  [ TRef.nullary (TRef.of (T := ⟨S_, .f32⟩) main_call1_cst_0) (constant S_ .f32 0x3F800000#32),
    TRef.unary (TRef.of (T := ⟨S_, .f32⟩) main_call1_cst_0) (TRef.of (T := ⟨S2x8192x2816, .f32⟩) main_call1_v4) (broadcastInDim S2x8192x2816 ![] bcast_S_S2x8192x2816),
    TRef.binary (TRef.of (T := ⟨S2x8192x2816, .f32⟩) main_call1_v4) (TRef.of (T := ⟨S2x8192x2816, .f32⟩) main_call1_v3) (TRef.of (T := ⟨S2x8192x2816, .f32⟩) main_call1_v5) Host.divf,
    TRef.binary (TRef.of (T := ⟨S2x8192x2816, .f32⟩) main_v48) (TRef.of (T := ⟨S2x8192x2816, .f32⟩) main_call1_v5) (TRef.of (T := ⟨S2x8192x2816, .f32⟩) main_v49) mulf,
    binary main_v49 main_v21 main_v50 (mulf : (⟨S2x8192x2816, .f32⟩ : BufTy).Contents (Elt F) → (⟨S2x8192x2816, .f32⟩ : BufTy).Contents (Elt F) → (⟨S2x8192x2816, .f32⟩ : BufTy).Contents (Elt F)),
    binary main_v50 main_arg12 main_v51 ((fun l r => Host.dotGeneral dot_S2x8192x2816_S2816x1024_S2x8192x1024_2_0_01_1_n_n none l r) : (⟨S2x8192x2816, .f32⟩ : BufTy).Contents (Elt F) → (⟨S2816x1024, .f32⟩ : BufTy).Contents (Elt F) → (⟨S2x8192x1024, .f32⟩ : BufTy).Contents (Elt F)),
    binary main_v6 main_v51 main_v52 (addf : (⟨S2x8192x1024, .f32⟩ : BufTy).Contents (Elt F) → (⟨S2x8192x1024, .f32⟩ : BufTy).Contents (Elt F) → (⟨S2x8192x1024, .f32⟩ : BufTy).Contents (Elt F)),
    binary main_v52 main_v52 main_v53 (mulf : (⟨S2x8192x1024, .f32⟩ : BufTy).Contents (Elt F) → (⟨S2x8192x1024, .f32⟩ : BufTy).Contents (Elt F) → (⟨S2x8192x1024, .f32⟩ : BufTy).Contents (Elt F)),
    nullary main_cst_3 (constant S_ .f32 0x00000000#32) ]

/-- Window `main_part0`'s operations. Not an abbreviation: `main_eq` below splits `ops` into the windows and no further. -/
def ops_part0 : List (HloOp τ sig (Elt F)) :=
  ops_part0_0 ++ (ops_part0_1 ++ (ops_part0_2))

/-- @main's operations 70 … 83 of 83 (window `main_part1`). -/
abbrev ops_part1 : List (HloOp τ sig (Elt F)) :=
  [ binary main_v53 main_cst_3 main_v54 ((fun x v => Host.reduceAdd x v reducesTo_S2x8192x1024_S2x8192_d2 h_S_) : (⟨S2x8192x1024, .f32⟩ : BufTy).Contents (Elt F) → (⟨S_, .f32⟩ : BufTy).Contents (Elt F) → (⟨S2x8192, .f32⟩ : BufTy).Contents (Elt F)),
    unary main_v54 main_v55 (broadcastInDim S2x8192x1 ![0, 1] bcast_S2x8192_S2x8192x1_0_1 : (⟨S2x8192, .f32⟩ : BufTy).Contents (Elt F) → (⟨S2x8192x1, .f32⟩ : BufTy).Contents (Elt F)),
    nullary main_cst_4 (constant S_ .f32 0x44800000#32),
    unary main_cst_4 main_v56 (broadcastInDim S2x8192x1 ![] bcast_S_S2x8192x1 : (⟨S_, .f32⟩ : BufTy).Contents (Elt F) → (⟨S2x8192x1, .f32⟩ : BufTy).Contents (Elt F)),
    binary main_v55 main_v56 main_v57 (Host.divf : (⟨S2x8192x1, .f32⟩ : BufTy).Contents (Elt F) → (⟨S2x8192x1, .f32⟩ : BufTy).Contents (Elt F) → (⟨S2x8192x1, .f32⟩ : BufTy).Contents (Elt F)),
    nullary main_cst_5 (constant S_ .f32 0x358637BD#32),
    unary main_cst_5 main_v58 (broadcastInDim S2x8192x1 ![] bcast_S_S2x8192x1 : (⟨S_, .f32⟩ : BufTy).Contents (Elt F) → (⟨S2x8192x1, .f32⟩ : BufTy).Contents (Elt F)),
    binary main_v57 main_v58 main_v59 (addf : (⟨S2x8192x1, .f32⟩ : BufTy).Contents (Elt F) → (⟨S2x8192x1, .f32⟩ : BufTy).Contents (Elt F) → (⟨S2x8192x1, .f32⟩ : BufTy).Contents (Elt F)),
    unary main_v59 main_v60 (Host.rsqrt : (⟨S2x8192x1, .f32⟩ : BufTy).Contents (Elt F) → (⟨S2x8192x1, .f32⟩ : BufTy).Contents (Elt F)),
    unary main_v60 main_v61 (broadcastInDim S2x8192x1024 ![0, 1, 2] bcast_S2x8192x1_S2x8192x1024_0_1_2 : (⟨S2x8192x1, .f32⟩ : BufTy).Contents (Elt F) → (⟨S2x8192x1024, .f32⟩ : BufTy).Contents (Elt F)),
    binary main_v52 main_v61 main_v62 (mulf : (⟨S2x8192x1024, .f32⟩ : BufTy).Contents (Elt F) → (⟨S2x8192x1024, .f32⟩ : BufTy).Contents (Elt F) → (⟨S2x8192x1024, .f32⟩ : BufTy).Contents (Elt F)),
    unary main_arg13 main_v63 (broadcastInDim S1x1x1024 ![2] bcast_S1024_S1x1x1024_2 : (⟨S1024, .f32⟩ : BufTy).Contents (Elt F) → (⟨S1x1x1024, .f32⟩ : BufTy).Contents (Elt F)),
    unary main_v63 main_v64 (broadcastInDim S2x8192x1024 ![0, 1, 2] bcast_S1x1x1024_S2x8192x1024_0_1_2 : (⟨S1x1x1024, .f32⟩ : BufTy).Contents (Elt F) → (⟨S2x8192x1024, .f32⟩ : BufTy).Contents (Elt F)),
    binary main_v62 main_v64 main_v65 (mulf : (⟨S2x8192x1024, .f32⟩ : BufTy).Contents (Elt F) → (⟨S2x8192x1024, .f32⟩ : BufTy).Contents (Elt F) → (⟨S2x8192x1024, .f32⟩ : BufTy).Contents (Elt F)) ]

/-- @main's 83 operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨binary_bufs_sub .., binary_bufs_sub .., binary_bufs_sub .., binary_bufs_sub .., binary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨unary_bufs_sub .., reshape_bufs_sub .., unary_bufs_sub .., unary_bufs_sub .., binary_bufs_sub .., nullary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨nullary_bufs_sub .., unary_bufs_sub .., binary_bufs_sub .., binary_bufs_sub .., binary_bufs_sub .., binary_bufs_sub .., binary_bufs_sub .., binary_bufs_sub .., nullary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h
    exacts [List.forall_iff_forall_mem.mp ops_part0_0_sub op h, List.forall_iff_forall_mem.mp ops_part0_1_sub op h, List.forall_iff_forall_mem.mp ops_part0_2_sub op h, List.forall_iff_forall_mem.mp ops_part1_sub op h]
theorem ops_fresh : ∀ op ∈ (ops : List (HloOp τ sig (Elt F))), op.fresh = ∅ := fun op h => by
    simp only [ops, ops_part0, List.mem_append, or_assoc] at h
    rcases h with h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_fresh op h]

set_option maxRecDepth 8192 in
/-- `main_v6`'s composed term of the arguments (named: it is used 4 times). -/
def res_main_v6 (V0 : Valuation τ sig (Elt F)) : (Proc.devRef .tc main_v6 : DevRef τ sig).ty.Contents (Elt F) :=
  addf (V0 (Proc.devRef .tc main_arg0)) (Host.dotGeneral dot_S2x8192x1024_S1024x1024_S2x8192x1024_2_0_01_1_n_n none (addf (mulf (V0 (Proc.devRef .tc main_arg3)) (Host.dotGeneral dot_S2x8192x1024_S1024x1024_S2x8192x1024_2_0_01_1_n_n none (V0 (Proc.devRef .tc main_arg1)) (V0 (Proc.devRef .tc main_arg5)))) (mulf (V0 (Proc.devRef .tc main_arg4)) (Host.dotGeneral dot_S2x8192x1024_S1024x1024_S2x8192x1024_2_0_01_1_n_n none (V0 (Proc.devRef .tc main_arg2)) (V0 (Proc.devRef .tc main_arg6))))) (V0 (Proc.devRef .tc main_arg7)))

set_option maxRecDepth 8192 in
/-- `main_v20`'s composed term of the arguments (named: it is used 2 times). -/
def res_main_v20 (V0 : Valuation τ sig (Elt F)) : (Proc.devRef .tc main_v20 : DevRef τ sig).ty.Contents (Elt F) :=
  Host.dotGeneral dot_S2x8192x1024_S1024x5632_S2x8192x5632_2_0_01_1_n_n none (mulf (mulf (res_main_v6 V0) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (res_main_v6 V0) (res_main_v6 V0)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (V0 (Proc.devRef .tc main_arg8))))) (V0 (Proc.devRef .tc main_arg9))

set_option maxRecDepth 8192 in
/-- `main_v23`'s composed term of the arguments (named: it is used 3 times). -/
def res_main_v23 (V0 : Valuation τ sig (Elt F)) : (Proc.devRef .tc main_v23 : DevRef τ sig).ty.Contents (Elt F) :=
  pad S2x8194x2816 ![0, 2, 0] ![0, 0, 0] ![0, 0, 0] (extractStridedSlice S2x8192x2816 ![0, 0, 2816] (res_main_v20 V0) slices_S2x8192x5632_S2x8192x2816_0_0_2816) (sitofp .f32 (constantI S_ 32 0#32)) pads_S2x8192x2816_S2x8194x2816_000_200_000 h_S_

set_option maxRecDepth 8192 in
/-- `main_v48`'s composed term of the arguments (named: it is used 2 times). -/
def res_main_v48 (V0 : Valuation τ sig (Elt F)) : (Proc.devRef .tc main_v48 : DevRef τ sig).ty.Contents (Elt F) :=
  addf (addf (addf (addf (broadcastInDim S2x8192x2816 ![] bcast_S_S2x8192x2816 (constant S_ .f32 0x00000000#32)) (mulf (extractStridedSlice S2x8192x2816 ![0, 0, 0] (res_main_v23 V0) slices_S2x8194x2816_S2x8192x2816_0_0_0) (broadcastInDim S2x8192x2816 ![0, 1, 2] bcast_S1x1x2816_S2x8192x2816_0_1_2 (broadcastInDim S1x1x2816 ![2] bcast_S2816_S1x1x2816_2 (shapeCast _ (extractStridedSlice S1x2816 ![0, 0] (V0 (Proc.devRef .tc main_arg10)) slices_S3x2816_S1x2816_0_0) shapeCasts_S1x2816_S2816))))) (mulf (extractStridedSlice S2x8192x2816 ![0, 1, 0] (res_main_v23 V0) slices_S2x8194x2816_S2x8192x2816_0_1_0) (broadcastInDim S2x8192x2816 ![0, 1, 2] bcast_S1x1x2816_S2x8192x2816_0_1_2 (broadcastInDim S1x1x2816 ![2] bcast_S2816_S1x1x2816_2 (shapeCast _ (extractStridedSlice S1x2816 ![1, 0] (V0 (Proc.devRef .tc main_arg10)) slices_S3x2816_S1x2816_1_0) shapeCasts_S1x2816_S2816))))) (mulf (extractStridedSlice S2x8192x2816 ![0, 2, 0] (res_main_v23 V0) slices_S2x8194x2816_S2x8192x2816_0_2_0) (broadcastInDim S2x8192x2816 ![0, 1, 2] bcast_S1x1x2816_S2x8192x2816_0_1_2 (broadcastInDim S1x1x2816 ![2] bcast_S2816_S1x1x2816_2 (shapeCast _ (extractStridedSlice S1x2816 ![2, 0] (V0 (Proc.devRef .tc main_arg10)) slices_S3x2816_S1x2816_2_0) shapeCasts_S1x2816_S2816))))) (broadcastInDim S2x8192x2816 ![0, 1, 2] bcast_S1x1x2816_S2x8192x2816_0_1_2 (broadcastInDim S1x1x2816 ![2] bcast_S2816_S1x1x2816_2 (V0 (Proc.devRef .tc main_arg11))))

set_option maxRecDepth 8192 in
/-- `main_v52`'s composed term of the arguments (named: it is used 3 times). -/
def res_main_v52 (V0 : Valuation τ sig (Elt F)) : (Proc.devRef .tc main_v52 : DevRef τ sig).ty.Contents (Elt F) :=
  addf (res_main_v6 V0) (Host.dotGeneral dot_S2x8192x2816_S2816x1024_S2x8192x1024_2_0_01_1_n_n none (mulf (mulf (res_main_v48 V0) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (res_main_v48 V0)))))) (extractStridedSlice S2x8192x2816 ![0, 0, 0] (res_main_v20 V0) slices_S2x8192x5632_S2x8192x2816_0_0_0)) (V0 (Proc.devRef .tc main_arg12)))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl
theorem val0_main_arg8 (V0 : Valuation τ sig (Elt F)) : val0 V0 (no_index (Proc.devRef .tc main_arg8)) = V0 (Proc.devRef .tc main_arg8) := rfl
theorem val0_main_arg9 (V0 : Valuation τ sig (Elt F)) : val0 V0 (no_index (Proc.devRef .tc main_arg9)) = V0 (Proc.devRef .tc main_arg9) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_v5, main_v6, main_v7, main_cst, main_v8, main_v9, main_cst_0, main_v10, main_v11, main_cst_1, main_v12, main_v13, main_v14, main_v15, main_v16, main_v17, main_v18, main_v19, main_v20, main_v21, main_v22, main_c, main_call0_v0, main_v23, main_v24]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
/-- A buffer that nothing so far writes keeps its contents. -/
theorem val0_1_arg (V0 : Valuation τ sig (Elt F)) (r : Ref sig .tc) (h0 : r ∉ ops_part0_0_W) :
    val0_1 V0 (Proc.devRef .tc r) = V0 (Proc.devRef .tc r) :=
  (val0_1_keep V0 r h0).trans rfl
theorem val0_1_main_arg10 (V0 : Valuation τ sig (Elt F)) : val0_1 V0 (no_index (Proc.devRef .tc main_arg10)) = V0 (Proc.devRef .tc main_arg10) := val0_1_arg V0 main_arg10 (by decide)
theorem val0_1_main_arg11 (V0 : Valuation τ sig (Elt F)) : val0_1 V0 (no_index (Proc.devRef .tc main_arg11)) = V0 (Proc.devRef .tc main_arg11) := val0_1_arg V0 main_arg11 (by decide)
set_option maxRecDepth 8192 in
set_option maxHeartbeats 2000000 in
theorem val0_1_main_v6 (V0 : Valuation τ sig (Elt F)) : val0_1 V0 (no_index (Proc.devRef .tc main_v6)) = res_main_v6 V0 := by
  unfold val0_1
  simp only [ops_part0_0, TRef.binary, TRef.unary, TRef.toBuf, TRef.ofBuf, cast_eq]
  after_results_simp
  simp only [val0_main_arg7, val0_main_arg6, val0_main_arg2, val0_main_arg4, val0_main_arg5, val0_main_arg1, val0_main_arg3, val0_main_arg0] <;> rfl
set_option maxRecDepth 8192 in
set_option maxHeartbeats 2000000 in
theorem val0_1_main_v21 (V0 : Valuation τ sig (Elt F)) : val0_1 V0 (no_index (Proc.devRef .tc main_v21)) = extractStridedSlice S2x8192x2816 ![0, 0, 0] (res_main_v20 V0) slices_S2x8192x5632_S2x8192x2816_0_0_0 := by
  unfold val0_1
  simp only [ops_part0_0, TRef.binary, TRef.unary, TRef.toBuf, TRef.ofBuf, cast_eq]
  after_results_simp
  simp only [val0_main_arg9, val0_main_arg8, val0_main_arg7, val0_main_arg6, val0_main_arg2, val0_main_arg4, val0_main_arg5, val0_main_arg1, val0_main_arg3, val0_main_arg0] <;> rfl
set_option maxRecDepth 8192 in
set_option maxHeartbeats 2000000 in
theorem val0_1_main_v23 (V0 : Valuation τ sig (Elt F)) : val0_1 V0 (no_index (Proc.devRef .tc main_v23)) = res_main_v23 V0 := by
  unfold val0_1
  simp only [ops_part0_0, TRef.binary, TRef.unary, TRef.toBuf, TRef.ofBuf, cast_eq]
  after_results_simp
  simp only [val0_main_arg9, val0_main_arg8, val0_main_arg7, val0_main_arg6, val0_main_arg2, val0_main_arg4, val0_main_arg5, val0_main_arg1, val0_main_arg3, val0_main_arg0] <;> rfl
set_option maxRecDepth 8192 in
set_option maxHeartbeats 2000000 in
theorem val0_1_main_v24 (V0 : Valuation τ sig (Elt F)) : val0_1 V0 (no_index (Proc.devRef .tc main_v24)) = extractStridedSlice S2x8192x2816 ![0, 0, 0] (res_main_v23 V0) slices_S2x8194x2816_S2x8192x2816_0_0_0 := by
  unfold val0_1
  simp only [ops_part0_0, TRef.binary, TRef.unary, TRef.toBuf, TRef.ofBuf, cast_eq]
  after_results_simp
  simp only [val0_main_arg9, val0_main_arg8, val0_main_arg7, val0_main_arg6, val0_main_arg2, val0_main_arg4, val0_main_arg5, val0_main_arg1, val0_main_arg3, val0_main_arg0] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v25, main_v26, main_v27, main_v28, main_v29, main_cst_2, main_v30, main_v31, main_v32, main_v33, main_v34, main_v35, main_v36, main_v37, main_v38, main_v39, main_v40, main_v41, main_v42, main_v43, main_v44, main_v45, main_v46, main_v47, main_v48, main_call1_v0, main_call1_v1, main_call1_cst, main_call1_v2, main_call1_v3]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
/-- A buffer that nothing so far writes keeps its contents. -/
theorem val0_2_arg (V0 : Valuation τ sig (Elt F)) (r : Ref sig .tc) (h0 : r ∉ ops_part0_0_W) (h1 : r ∉ ops_part0_1_W) :
    val0_2 V0 (Proc.devRef .tc r) = V0 (Proc.devRef .tc r) :=
  (val0_2_keep V0 r h1).trans (val0_1_arg V0 r h0)
theorem val0_2_main_arg12 (V0 : Valuation τ sig (Elt F)) : val0_2 V0 (no_index (Proc.devRef .tc main_arg12)) = V0 (Proc.devRef .tc main_arg12) := val0_2_arg V0 main_arg12 (by decide) (by decide)
theorem val0_2_main_v6 (V0 : Valuation τ sig (Elt F)) : val0_2 V0 (no_index (Proc.devRef .tc main_v6)) = res_main_v6 V0 :=
  (val0_2_keep V0 main_v6 (by decide)).trans (val0_1_main_v6 V0)
theorem val0_2_main_v21 (V0 : Valuation τ sig (Elt F)) : val0_2 V0 (no_index (Proc.devRef .tc main_v21)) = extractStridedSlice S2x8192x2816 ![0, 0, 0] (res_main_v20 V0) slices_S2x8192x5632_S2x8192x2816_0_0_0 :=
  (val0_2_keep V0 main_v21 (by decide)).trans (val0_1_main_v21 V0)
set_option maxRecDepth 8192 in
set_option maxHeartbeats 2000000 in
theorem val0_2_main_v48 (V0 : Valuation τ sig (Elt F)) : val0_2 V0 (no_index (Proc.devRef .tc main_v48)) = res_main_v48 V0 := by
  unfold val0_2
  simp only [ops_part0_1, TRef.binary, TRef.nullary, TRef.unary, TRef.toBuf, TRef.ofBuf, cast_eq]
  after_results_simp
  simp only [val0_1_main_arg11, val0_1_main_arg10, val0_1_main_v23, val0_1_main_v24] <;> rfl
set_option maxRecDepth 8192 in
set_option maxHeartbeats 2000000 in
theorem val0_2_main_call1_v3 (V0 : Valuation τ sig (Elt F)) : val0_2 V0 (no_index (Proc.devRef .tc main_call1_v3)) = addf (broadcastInDim S2x8192x2816 ![] bcast_S_S2x8192x2816 (constant S_ .f32 0x3F800000#32)) (Host.exp (Host.negf (res_main_v48 V0))) := by
  unfold val0_2
  simp only [ops_part0_1, TRef.binary, TRef.nullary, TRef.unary, TRef.toBuf, TRef.ofBuf, cast_eq]
  after_results_simp
  simp only [val0_1_main_arg11, val0_1_main_arg10, val0_1_main_v23, val0_1_main_v24] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_call1_cst_0, main_call1_v4, main_call1_v5, main_v49, main_v50, main_v51, main_v52, main_v53, main_cst_3]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
/-- A buffer that nothing so far writes keeps its contents. -/
theorem val1_arg (V0 : Valuation τ sig (Elt F)) (r : Ref sig .tc) (h0 : r ∉ ops_part0_0_W) (h1 : r ∉ ops_part0_1_W) (h2 : r ∉ ops_part0_2_W) :
    val1 V0 (Proc.devRef .tc r) = V0 (Proc.devRef .tc r) :=
  (val1_keep V0 r h2).trans (val0_2_arg V0 r h0 h1)
theorem val1_main_arg13 (V0 : Valuation τ sig (Elt F)) : val1 V0 (no_index (Proc.devRef .tc main_arg13)) = V0 (Proc.devRef .tc main_arg13) := val1_arg V0 main_arg13 (by decide) (by decide) (by decide)
set_option maxRecDepth 8192 in
set_option maxHeartbeats 900000 in
theorem val1_main_v52 (V0 : Valuation τ sig (Elt F)) : val1 V0 (no_index (Proc.devRef .tc main_v52)) = res_main_v52 V0 := by
  unfold val1
  simp only [ops_part0_2, TRef.binary, TRef.nullary, TRef.unary, TRef.toBuf, TRef.ofBuf, cast_eq]
  after_results_simp
  simp only [val0_2_main_arg12, val0_2_main_v21, val0_2_main_call1_v3, val0_2_main_v48, val0_2_main_v6] <;> rfl
set_option maxRecDepth 8192 in
set_option maxHeartbeats 900000 in
theorem val1_main_v53 (V0 : Valuation τ sig (Elt F)) : val1 V0 (no_index (Proc.devRef .tc main_v53)) = mulf (res_main_v52 V0) (res_main_v52 V0) := by
  unfold val1
  simp only [ops_part0_2, TRef.binary, TRef.nullary, TRef.unary, TRef.toBuf, TRef.ofBuf, cast_eq]
  after_results_simp
  simp only [val0_2_main_arg12, val0_2_main_v21, val0_2_main_call1_v3, val0_2_main_v48, val0_2_main_v6] <;> rfl
set_option maxRecDepth 8192 in
set_option maxHeartbeats 900000 in
theorem val1_main_cst_3 (V0 : Valuation τ sig (Elt F)) : val1 V0 (no_index (Proc.devRef .tc main_cst_3)) = constant S_ .f32 0x00000000#32 := by
  unfold val1
  simp only [ops_part0_2, TRef.binary, TRef.nullary, TRef.unary, TRef.toBuf, TRef.ofBuf, cast_eq]
  after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_v54, main_v55, main_cst_4, main_v56, main_v57, main_cst_5, main_v58, main_v59, main_v60, main_v61, main_v62, main_v63, main_v64, main_v65]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
/-- A buffer that nothing so far writes keeps its contents. -/
theorem val2_arg (V0 : Valuation τ sig (Elt F)) (r : Ref sig .tc) (h0 : r ∉ ops_part0_0_W) (h1 : r ∉ ops_part0_1_W) (h2 : r ∉ ops_part0_2_W) (h3 : r ∉ ops_part1_W) :
    val2 V0 (Proc.devRef .tc r) = V0 (Proc.devRef .tc r) :=
  (val2_keep V0 r h3).trans (val1_arg V0 r h0 h1 h2)
set_option maxRecDepth 8192 in
set_option maxHeartbeats 1400000 in
theorem val2_main_v65 (V0 : Valuation τ sig (Elt F)) : val2 V0 (no_index (Proc.devRef .tc main_v65)) = mulf (mulf (res_main_v52 V0) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (res_main_v52 V0) (res_main_v52 V0)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 (V0 (Proc.devRef .tc main_arg13)))) := by
  unfold val2
  simp only [ops_part1]
  after_results_simp
  simp only [val1_main_arg13, val1_main_cst_3, val1_main_v53, val1_main_v52] <;> rfl

theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = mulf (mulf (res_main_v52 (launchContents m c)) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (res_main_v52 (launchContents m c)) (res_main_v52 (launchContents m c))) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 ((launchContents m c) (Proc.devRef .tc main_arg13))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v65).trans ((congrFun (after_ops (launchContents m c)) (Proc.devRef .tc main_v65)).trans (val2_main_v65 (launchContents m c))),
      (h c main_arg0).trans ((congrFun (after_ops (launchContents m c)) (Proc.devRef .tc main_arg0)).trans (val2_arg _ main_arg0 (by decide) (by decide) (by decide) (by decide))),
      (h c main_arg1).trans ((congrFun (after_ops (launchContents m c)) (Proc.devRef .tc main_arg1)).trans (val2_arg _ main_arg1 (by decide) (by decide) (by decide) (by decide))),
      (h c main_arg2).trans ((congrFun (after_ops (launchContents m c)) (Proc.devRef .tc main_arg2)).trans (val2_arg _ main_arg2 (by decide) (by decide) (by decide) (by decide))),
      (h c main_arg3).trans ((congrFun (after_ops (launchContents m c)) (Proc.devRef .tc main_arg3)).trans (val2_arg _ main_arg3 (by decide) (by decide) (by decide) (by decide))),
      (h c main_arg4).trans ((congrFun (after_ops (launchContents m c)) (Proc.devRef .tc main_arg4)).trans (val2_arg _ main_arg4 (by decide) (by decide) (by decide) (by decide))),
      (h c main_arg5).trans ((congrFun (after_ops (launchContents m c)) (Proc.devRef .tc main_arg5)).trans (val2_arg _ main_arg5 (by decide) (by decide) (by decide) (by decide))),
      (h c main_arg6).trans ((congrFun (after_ops (launchContents m c)) (Proc.devRef .tc main_arg6)).trans (val2_arg _ main_arg6 (by decide) (by decide) (by decide) (by decide))),
      (h c main_arg7).trans ((congrFun (after_ops (launchContents m c)) (Proc.devRef .tc main_arg7)).trans (val2_arg _ main_arg7 (by decide) (by decide) (by decide) (by decide))),
      (h c main_arg8).trans ((congrFun (after_ops (launchContents m c)) (Proc.devRef .tc main_arg8)).trans (val2_arg _ main_arg8 (by decide) (by decide) (by decide) (by decide))),
      (h c main_arg9).trans ((congrFun (after_ops (launchContents m c)) (Proc.devRef .tc main_arg9)).trans (val2_arg _ main_arg9 (by decide) (by decide) (by decide) (by decide))),
      (h c main_arg10).trans ((congrFun (after_ops (launchContents m c)) (Proc.devRef .tc main_arg10)).trans (val2_arg _ main_arg10 (by decide) (by decide) (by decide) (by decide))),
      (h c main_arg11).trans ((congrFun (after_ops (launchContents m c)) (Proc.devRef .tc main_arg11)).trans (val2_arg _ main_arg11 (by decide) (by decide) (by decide) (by decide))),
      (h c main_arg12).trans ((congrFun (after_ops (launchContents m c)) (Proc.devRef .tc main_arg12)).trans (val2_arg _ main_arg12 (by decide) (by decide) (by decide) (by decide))),
      (h c main_arg13).trans ((congrFun (after_ops (launchContents m c)) (Proc.devRef .tc main_arg13)).trans (val2_arg _ main_arg13 (by decide) (by decide) (by decide) (by decide)))⟩)
    (run_seq scopedRefs_eq scopedSems_eq defs main (fun _ => ops) main_eq (fun _ => ops_sub) m ρ fun _ => ops_fresh)

end Cert.OutFfnReferenceIdeal.Stage

end
-- ==== Proof.FfnRef.lean ====
/-
  What the last stage's reference computes: each of its stages, read at an entry, is the row function of the
  specification.
-/
module

public import proofs.«01_k».proof.Proof.FfnRefRun
public import proofs.«01_k».proof.Proof.FfnSpec

@[expose] public section

set_option maxRecDepth 16384

noncomputable section

namespace Cert.OutFfnReferenceIdeal.Stage

open Cert.OutFfnReferenceIdeal Cert.OutFfnReferenceIdeal.Gen Cert.FfnRow
open Idealize.ShloMosaic Idealize.ShloMosaic.StableHlo

variable (V0 : Valuation τ sig (Elt Ideal))

/-- An argument's contents as an array of numbers. -/
abbrev arg0 : (⟨3, ![2, 8192, 1024]⟩ : Shape).Idx → EReal := V0 (Proc.devRef .tc main_arg0)
abbrev arg1 : (⟨3, ![2, 8192, 1024]⟩ : Shape).Idx → EReal := V0 (Proc.devRef .tc main_arg1)
abbrev arg2 : (⟨3, ![2, 8192, 1024]⟩ : Shape).Idx → EReal := V0 (Proc.devRef .tc main_arg2)
abbrev arg3 : (⟨3, ![2, 8192, 1024]⟩ : Shape).Idx → EReal := V0 (Proc.devRef .tc main_arg3)
abbrev arg4 : (⟨3, ![2, 8192, 1024]⟩ : Shape).Idx → EReal := V0 (Proc.devRef .tc main_arg4)
abbrev arg5 : (⟨2, ![1024, 1024]⟩ : Shape).Idx → EReal := V0 (Proc.devRef .tc main_arg5)
abbrev arg6 : (⟨2, ![1024, 1024]⟩ : Shape).Idx → EReal := V0 (Proc.devRef .tc main_arg6)
abbrev arg7 : (⟨2, ![1024, 1024]⟩ : Shape).Idx → EReal := V0 (Proc.devRef .tc main_arg7)
abbrev arg8 : (⟨1, ![1024]⟩ : Shape).Idx → EReal := V0 (Proc.devRef .tc main_arg8)
abbrev arg9 : (⟨2, ![1024, 5632]⟩ : Shape).Idx → EReal := V0 (Proc.devRef .tc main_arg9)
abbrev arg10 : (⟨2, ![3, 2816]⟩ : Shape).Idx → EReal := V0 (Proc.devRef .tc main_arg10)
abbrev arg11 : (⟨1, ![2816]⟩ : Shape).Idx → EReal := V0 (Proc.devRef .tc main_arg11)
abbrev arg12 : (⟨2, ![2816, 1024]⟩ : Shape).Idx → EReal := V0 (Proc.devRef .tc main_arg12)
abbrev arg13 : (⟨1, ![1024]⟩ : Shape).Idx → EReal := V0 (Proc.devRef .tc main_arg13)

/-- The merged rows. -/
abbrev mergeR := mergeAt (arg0 V0) (arg1 V0) (arg2 V0) (arg3 V0) (arg4 V0) (arg5 V0) (arg6 V0) (arg7 V0)
/-- The gate's rows. -/
abbrev gateR := gateAt (arg0 V0) (arg1 V0) (arg2 V0) (arg3 V0) (arg4 V0) (arg5 V0) (arg6 V0) (arg7 V0) (arg8 V0) (arg9 V0)

/-- The merge. -/
theorem v6_at (b : Fin 2) (s : Fin 8192) (d : Fin 1024) : res_main_v6 V0 (ix3 b s d) = mergeR V0 b s d := by
  pointwise [res_main_v6, mergeAt, merge]

/-- The joint product of the feed-forward. -/
theorem v20_at (b : Fin 2) (s : Fin 8192) (q : Fin 5632) :
    res_main_v20 V0 (ix3 b s q) = ∑ k, rmsRow (mergeR V0 b s) (fun k => arg8 V0 (ix1 k)) k * arg9 V0 (ix2 k q) := by
  pointwise [res_main_v20, rmsRow, width, tiny, v6_at]

/-- The gate, with the two zero rows put before it. -/
theorem v23_at (b : Fin 2) (s : Fin 8194) (q : Fin 2816) :
    res_main_v23 V0 (ix3 b s q) = if h : 2 ≤ s.val then gateR V0 b ⟨s.val - 2, by omega⟩ q else 0 := by
  pointwise [res_main_v23, v20_at, gateAt, through]
  by_cases h : 2 ≤ s.val
  · rw [dif_pos ⟨h, by omega⟩, dif_pos h]
  · rw [dif_neg (fun hh => h hh.1), dif_neg h]
    show (((0#32 : BitVec 32).toInt : ℝ) : EReal) = 0
    simp

/-- The convolved gate. -/
theorem v48_at (b : Fin 2) (s : Fin 8192) (q : Fin 2816) :
    res_main_v48 V0 (ix3 b s q) = tapsAt (arg0 V0) (arg1 V0) (arg2 V0) (arg3 V0) (arg4 V0) (arg5 V0) (arg6 V0) (arg7 V0) (arg8 V0) (arg9 V0) (arg10 V0) (arg11 V0) b s q := by
  pointwise [res_main_v48, v23_at, tapsAt, taps, gateBefore]
  have e : ∀ h, (⟨1 + s.val - 2, h⟩ : Fin 8192) = ⟨s.val - 1, by omega⟩ := fun h => Fin.ext (by show 1 + s.val - 2 = s.val - 1; omega)
  have c : (2 ≤ 1 + s.val) = (1 ≤ s.val) := propext (by omega)
  refine congrArg (· + arg11 V0 (ix1 q)) ?_
  simp only [e, c, dite_eq_ite]
  rw [add_assoc, add_comm, add_comm (_ * _) (_ * _)]
  exact congrArg₂ (· + ·) (congrArg₂ (· + ·) (mul_comm _ _) (mul_comm _ _)) (mul_comm _ _)

/-- The gated feed-forward added. -/
theorem v52_at (b : Fin 2) (s : Fin 8192) (d : Fin 1024) :
    res_main_v52 V0 (ix3 b s d) = mergeR V0 b s d + ∑ k, silu (tapsAt (arg0 V0) (arg1 V0) (arg2 V0) (arg3 V0) (arg4 V0) (arg5 V0) (arg6 V0) (arg7 V0) (arg8 V0) (arg9 V0) (arg10 V0) (arg11 V0) b s k)
      * upAt (arg0 V0) (arg1 V0) (arg2 V0) (arg3 V0) (arg4 V0) (arg5 V0) (arg6 V0) (arg7 V0) (arg8 V0) (arg9 V0) b s k * arg12 V0 (ix2 k d) := by
  pointwise [res_main_v52, v48_at, v20_at, v6_at, silu, FfnRow.unit, upAt, through, zero_sub]

/-- The reference's result is the specification's. -/
theorem result_at (b : Fin 2) (s : Fin 8192) (d : Fin 1024) :
    val2 V0 (Proc.devRef .tc main_v65) (ix3 b s d)
      = outAt (arg0 V0) (arg1 V0) (arg2 V0) (arg3 V0) (arg4 V0) (arg5 V0) (arg6 V0) (arg7 V0) (arg8 V0) (arg9 V0) (arg10 V0) (arg11 V0) (arg12 V0) (arg13 V0) b s d := by
  rw [val2_main_v65]
  pointwise [v52_at, outAt, final, rmsRow, width, tiny]

/-- The same for the whole array. -/
theorem result_eq :
    val2 V0 (Proc.devRef .tc main_v65)
      = outArr (arg0 V0) (arg1 V0) (arg2 V0) (arg3 V0) (arg4 V0) (arg5 V0) (arg6 V0) (arg7 V0) (arg8 V0) (arg9 V0) (arg10 V0) (arg11 V0) (arg12 V0) (arg13 V0) := by
  funext i
  exact (congrArg (val2 V0 (Proc.devRef .tc main_v65)) (ValueIdx.eq_ix3 i)).trans (result_at V0 (i 0) (i 1) (i 2))

end Cert.OutFfnReferenceIdeal.Stage
-- ==== Proof.InBody.lean ====
/-
  One point of the layer's first kernel — the norm, the joint projection, the short convolution, the rotary embedding of
  queries and keys, the two gates and the casts of the later weights — with the values that it leaves: one block of each
  result, and the last eight rows of the convolved product kept for the next point. Stated at any arithmetic.
-/
module

public import proofs.«01_k».proof.Proof.Gen.InProjIdeal.Skeleton
public import proofs.«01_k».proof.Proof.Gen.InProjIdeal.Frame
public import Idealize.ShloMosaic.Lib.VecWindow
public import Idealize.ShloMosaic.Lib.Pipeline.Value
public import Idealize.ShloMosaic.Lib.Ring

@[expose] public section

set_option maxRecDepth 16384

noncomputable section

namespace Cert.InProjIdeal.Proj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- An access of the whole of a two-axis buffer starts at its first entry. -/
theorem zero2 : (![0, 0] : Fin 2 → Nat) = fun _ => 0 := by decide
/-- The same on three axes. -/
theorem zero3 : (![0, 0, 0] : Fin 3 → Nat) = fun _ => 0 := by decide

/-- The columns of the joint weights that make the convolution's outer gate. -/
def seg0 (x5 : Vec F S1024x8192 .bf16) : Vec F S1024x1024 .bf16 :=
  View.ld x5 (Rect.unit (s := S1024x8192) ![0, 0] S1024x1024.size inb_S1024x8192_S1024x1024_0_0)
/-- The columns of the joint weights that make the convolution's inner gate. -/
def seg1 (x5 : Vec F S1024x8192 .bf16) : Vec F S1024x1024 .bf16 :=
  View.ld x5 (Rect.unit (s := S1024x8192) ![0, 1024] S1024x1024.size inb_S1024x8192_S1024x1024_0_1024)
/-- The columns of the joint weights that make the convolution's input. -/
def seg2 (x5 : Vec F S1024x8192 .bf16) : Vec F S1024x1024 .bf16 :=
  View.ld x5 (Rect.unit (s := S1024x8192) ![0, 2048] S1024x1024.size inb_S1024x8192_S1024x1024_0_2048)
/-- The columns of the joint weights that make the queries. -/
def seg3 (x5 : Vec F S1024x8192 .bf16) : Vec F S1024x1024 .bf16 :=
  View.ld x5 (Rect.unit (s := S1024x8192) ![0, 3072] S1024x1024.size inb_S1024x8192_S1024x1024_0_3072)
/-- The columns of the joint weights that make the keys. -/
def seg4 (x5 : Vec F S1024x8192 .bf16) : Vec F S1024x1024 .bf16 :=
  View.ld x5 (Rect.unit (s := S1024x8192) ![0, 4096] S1024x1024.size inb_S1024x8192_S1024x1024_0_4096)
/-- The columns of the joint weights that make the values. -/
def seg5 (x5 : Vec F S1024x8192 .bf16) : Vec F S1024x1024 .bf16 :=
  View.ld x5 (Rect.unit (s := S1024x8192) ![0, 5120] S1024x1024.size inb_S1024x8192_S1024x1024_0_5120)
/-- The columns of the joint weights that make the convolution branch's gate. -/
def seg6 (x5 : Vec F S1024x8192 .bf16) : Vec F S1024x1024 .bf16 :=
  View.ld x5 (Rect.unit (s := S1024x8192) ![0, 6144] S1024x1024.size inb_S1024x8192_S1024x1024_0_6144)
/-- The columns of the joint weights that make the attention branch's gate. -/
def seg7 (x5 : Vec F S1024x8192 .bf16) : Vec F S1024x1024 .bf16 :=
  View.ld x5 (Rect.unit (s := S1024x8192) ![0, 7168] S1024x1024.size inb_S1024x8192_S1024x1024_0_7168)
/-- The convolution's tap on the row itself. -/
def tap2 (x6 : Vec F S3x1024 .f32) : Vec F S1x1024 .f32 :=
  View.ld x6 (Rect.unit (s := S3x1024) ![2, 0] S1x1024.size inb_S3x1024_S1x1024_2_0)
/-- The convolution's tap on the row before. -/
def tap1 (x6 : Vec F S3x1024 .f32) : Vec F S1x1024 .f32 :=
  View.ld x6 (Rect.unit (s := S3x1024) ![1, 0] S1x1024.size inb_S3x1024_S1x1024_1_0)
/-- The convolution's tap on the row two before. -/
def tap0 (x6 : Vec F S3x1024 .f32) : Vec F S1x1024 .f32 :=
  View.ld x6 (Rect.unit (s := S3x1024) ![0, 0] S1x1024.size inb_S3x1024_S1x1024_0_0)

/-- One head of the queries, the 128 columns from `o` on: turned by the angles, scaled, transposed. -/
def queryHead (o : Nat) (ho : S512x1024.Slices ![0, o] S512x128) (cs sn : FVec F S512x128 .f32) (q : FVec F S512x1024 .f32) : FVec F S1x128x512 .bf16 :=
  shapeCast S1x128x512 (truncf .bf16 (transpose S128x512 [1, 0] (mulf (addf (mulf (extractStridedSlice S512x128 ![0, o] q ho) cs)
    (mulf (dynamicRotate 1 64#32 none (extractStridedSlice S512x128 ![0, o] q ho) rotates_S512x128_d1) sn))
    (broadcast S512x128 (Scalar.ofBits .f32 0x3E0293EE#32))) transposes_S512x128_p1_0_S128x512) bitsLt_bf16_f32) shapeCasts_S128x512_S1x128x512

/-- One head of the keys, turned by the angles. -/
def keyHead (o : Nat) (ho : S512x1024.Slices ![0, o] S512x128) (cs sn : FVec F S512x128 .f32) (k : FVec F S512x1024 .f32) : FVec F S1x1x512x128 .bf16 :=
  shapeCast S1x1x512x128 (truncf .bf16 (addf (mulf (extractStridedSlice S512x128 ![0, o] k ho) cs)
    (mulf (dynamicRotate 1 64#32 none (extractStridedSlice S512x128 ![0, o] k ho) rotates_S512x128_d1) sn)) bitsLt_bf16_f32) shapeCasts_S512x128_S1x1x512x128

/-- One head of the values over 256 rows, from the transposed values: the 128 rows from `r` on, the 256 columns from `b` on. -/
def valueTile (r b : Nat) (h : S1024x512.Slices ![r, b] S128x256) (v : FVec F S1024x512 .bf16) : FVec F S1x1x1x128x256 .bf16 :=
  shapeCast S1x1x1x128x256 (extractStridedSlice S128x256 ![r, b] v h) shapeCasts_S128x256_S1x1x1x128x256

/-- The heads of the queries, each at its rows of the block. -/
def queryPieces (cs sn : FVec F S512x128 .f32) (q : FVec F S512x1024 .f32) : List (View.Piece (Elt F) S1x1024x512 .bf16) :=
  [⟨Rect.unit (s := S1x1024x512) ![0, 896, 0] S1x128x512.size inb_S1x1024x512_S1x128x512_0_896_0, queryHead 896 slices_S512x1024_o0_896_S512x128 cs sn q⟩,
   ⟨Rect.unit (s := S1x1024x512) ![0, 768, 0] S1x128x512.size inb_S1x1024x512_S1x128x512_0_768_0, queryHead 768 slices_S512x1024_o0_768_S512x128 cs sn q⟩,
   ⟨Rect.unit (s := S1x1024x512) ![0, 640, 0] S1x128x512.size inb_S1x1024x512_S1x128x512_0_640_0, queryHead 640 slices_S512x1024_o0_640_S512x128 cs sn q⟩,
   ⟨Rect.unit (s := S1x1024x512) ![0, 512, 0] S1x128x512.size inb_S1x1024x512_S1x128x512_0_512_0, queryHead 512 slices_S512x1024_o0_512_S512x128 cs sn q⟩,
   ⟨Rect.unit (s := S1x1024x512) ![0, 384, 0] S1x128x512.size inb_S1x1024x512_S1x128x512_0_384_0, queryHead 384 slices_S512x1024_o0_384_S512x128 cs sn q⟩,
   ⟨Rect.unit (s := S1x1024x512) ![0, 256, 0] S1x128x512.size inb_S1x1024x512_S1x128x512_0_256_0, queryHead 256 slices_S512x1024_o0_256_S512x128 cs sn q⟩,
   ⟨Rect.unit (s := S1x1024x512) ![0, 128, 0] S1x128x512.size inb_S1x1024x512_S1x128x512_0_128_0, queryHead 128 slices_S512x1024_o0_128_S512x128 cs sn q⟩,
   ⟨Rect.unit (s := S1x1024x512) ![0, 0, 0] S1x128x512.size inb_S1x1024x512_S1x128x512_0_0_0, queryHead 0 slices_S512x1024_o0_0_S512x128 cs sn q⟩]

/-- The heads of the keys, each at its place in the block. -/
def keyPieces (cs sn : FVec F S512x128 .f32) (k : FVec F S512x1024 .f32) : List (View.Piece (Elt F) S1x8x512x128 .bf16) :=
  [⟨Rect.unit (s := S1x8x512x128) ![0, 7, 0, 0] S1x1x512x128.size inb_S1x8x512x128_S1x1x512x128_0_7_0_0, keyHead 896 slices_S512x1024_o0_896_S512x128 cs sn k⟩,
   ⟨Rect.unit (s := S1x8x512x128) ![0, 6, 0, 0] S1x1x512x128.size inb_S1x8x512x128_S1x1x512x128_0_6_0_0, keyHead 768 slices_S512x1024_o0_768_S512x128 cs sn k⟩,
   ⟨Rect.unit (s := S1x8x512x128) ![0, 5, 0, 0] S1x1x512x128.size inb_S1x8x512x128_S1x1x512x128_0_5_0_0, keyHead 640 slices_S512x1024_o0_640_S512x128 cs sn k⟩,
   ⟨Rect.unit (s := S1x8x512x128) ![0, 4, 0, 0] S1x1x512x128.size inb_S1x8x512x128_S1x1x512x128_0_4_0_0, keyHead 512 slices_S512x1024_o0_512_S512x128 cs sn k⟩,
   ⟨Rect.unit (s := S1x8x512x128) ![0, 3, 0, 0] S1x1x512x128.size inb_S1x8x512x128_S1x1x512x128_0_3_0_0, keyHead 384 slices_S512x1024_o0_384_S512x128 cs sn k⟩,
   ⟨Rect.unit (s := S1x8x512x128) ![0, 2, 0, 0] S1x1x512x128.size inb_S1x8x512x128_S1x1x512x128_0_2_0_0, keyHead 256 slices_S512x1024_o0_256_S512x128 cs sn k⟩,
   ⟨Rect.unit (s := S1x8x512x128) ![0, 1, 0, 0] S1x1x512x128.size inb_S1x8x512x128_S1x1x512x128_0_1_0_0, keyHead 128 slices_S512x1024_o0_128_S512x128 cs sn k⟩,
   ⟨Rect.unit (s := S1x8x512x128) ![0, 0, 0, 0] S1x1x512x128.size inb_S1x8x512x128_S1x1x512x128_0_0_0_0, keyHead 0 slices_S512x1024_o0_0_S512x128 cs sn k⟩]

/-- The heads of the values, each over its two runs of 256 rows, and under each sixteen rows of ones. -/
def valuePieces (v : FVec F S1024x512 .bf16) : List (View.Piece (Elt F) S1x8x2x144x256 .bf16) :=
  [⟨Rect.unit (s := S1x8x2x144x256) ![0, 7, 1, 128, 0] S1x1x1x16x256.size inb_S1x8x2x144x256_S1x1x1x16x256_0_7_1_128_0, k0_pay43⟩,
   ⟨Rect.unit (s := S1x8x2x144x256) ![0, 7, 1, 0, 0] S1x1x1x128x256.size inb_S1x8x2x144x256_S1x1x1x128x256_0_7_1_0_0, valueTile 896 256 slices_S1024x512_o896_256_S128x256 v⟩,
   ⟨Rect.unit (s := S1x8x2x144x256) ![0, 7, 0, 128, 0] S1x1x1x16x256.size inb_S1x8x2x144x256_S1x1x1x16x256_0_7_0_128_0, k0_pay43⟩,
   ⟨Rect.unit (s := S1x8x2x144x256) ![0, 7, 0, 0, 0] S1x1x1x128x256.size inb_S1x8x2x144x256_S1x1x1x128x256_0_7_0_0_0, valueTile 896 0 slices_S1024x512_o896_0_S128x256 v⟩,
   ⟨Rect.unit (s := S1x8x2x144x256) ![0, 6, 1, 128, 0] S1x1x1x16x256.size inb_S1x8x2x144x256_S1x1x1x16x256_0_6_1_128_0, k0_pay43⟩,
   ⟨Rect.unit (s := S1x8x2x144x256) ![0, 6, 1, 0, 0] S1x1x1x128x256.size inb_S1x8x2x144x256_S1x1x1x128x256_0_6_1_0_0, valueTile 768 256 slices_S1024x512_o768_256_S128x256 v⟩,
   ⟨Rect.unit (s := S1x8x2x144x256) ![0, 6, 0, 128, 0] S1x1x1x16x256.size inb_S1x8x2x144x256_S1x1x1x16x256_0_6_0_128_0, k0_pay43⟩,
   ⟨Rect.unit (s := S1x8x2x144x256) ![0, 6, 0, 0, 0] S1x1x1x128x256.size inb_S1x8x2x144x256_S1x1x1x128x256_0_6_0_0_0, valueTile 768 0 slices_S1024x512_o768_0_S128x256 v⟩,
   ⟨Rect.unit (s := S1x8x2x144x256) ![0, 5, 1, 128, 0] S1x1x1x16x256.size inb_S1x8x2x144x256_S1x1x1x16x256_0_5_1_128_0, k0_pay43⟩,
   ⟨Rect.unit (s := S1x8x2x144x256) ![0, 5, 1, 0, 0] S1x1x1x128x256.size inb_S1x8x2x144x256_S1x1x1x128x256_0_5_1_0_0, valueTile 640 256 slices_S1024x512_o640_256_S128x256 v⟩,
   ⟨Rect.unit (s := S1x8x2x144x256) ![0, 5, 0, 128, 0] S1x1x1x16x256.size inb_S1x8x2x144x256_S1x1x1x16x256_0_5_0_128_0, k0_pay43⟩,
   ⟨Rect.unit (s := S1x8x2x144x256) ![0, 5, 0, 0, 0] S1x1x1x128x256.size inb_S1x8x2x144x256_S1x1x1x128x256_0_5_0_0_0, valueTile 640 0 slices_S1024x512_o640_0_S128x256 v⟩,
   ⟨Rect.unit (s := S1x8x2x144x256) ![0, 4, 1, 128, 0] S1x1x1x16x256.size inb_S1x8x2x144x256_S1x1x1x16x256_0_4_1_128_0, k0_pay43⟩,
   ⟨Rect.unit (s := S1x8x2x144x256) ![0, 4, 1, 0, 0] S1x1x1x128x256.size inb_S1x8x2x144x256_S1x1x1x128x256_0_4_1_0_0, valueTile 512 256 slices_S1024x512_o512_256_S128x256 v⟩,
   ⟨Rect.unit (s := S1x8x2x144x256) ![0, 4, 0, 128, 0] S1x1x1x16x256.size inb_S1x8x2x144x256_S1x1x1x16x256_0_4_0_128_0, k0_pay43⟩,
   ⟨Rect.unit (s := S1x8x2x144x256) ![0, 4, 0, 0, 0] S1x1x1x128x256.size inb_S1x8x2x144x256_S1x1x1x128x256_0_4_0_0_0, valueTile 512 0 slices_S1024x512_o512_0_S128x256 v⟩,
   ⟨Rect.unit (s := S1x8x2x144x256) ![0, 3, 1, 128, 0] S1x1x1x16x256.size inb_S1x8x2x144x256_S1x1x1x16x256_0_3_1_128_0, k0_pay43⟩,
   ⟨Rect.unit (s := S1x8x2x144x256) ![0, 3, 1, 0, 0] S1x1x1x128x256.size inb_S1x8x2x144x256_S1x1x1x128x256_0_3_1_0_0, valueTile 384 256 slices_S1024x512_o384_256_S128x256 v⟩,
   ⟨Rect.unit (s := S1x8x2x144x256) ![0, 3, 0, 128, 0] S1x1x1x16x256.size inb_S1x8x2x144x256_S1x1x1x16x256_0_3_0_128_0, k0_pay43⟩,
   ⟨Rect.unit (s := S1x8x2x144x256) ![0, 3, 0, 0, 0] S1x1x1x128x256.size inb_S1x8x2x144x256_S1x1x1x128x256_0_3_0_0_0, valueTile 384 0 slices_S1024x512_o384_0_S128x256 v⟩,
   ⟨Rect.unit (s := S1x8x2x144x256) ![0, 2, 1, 128, 0] S1x1x1x16x256.size inb_S1x8x2x144x256_S1x1x1x16x256_0_2_1_128_0, k0_pay43⟩,
   ⟨Rect.unit (s := S1x8x2x144x256) ![0, 2, 1, 0, 0] S1x1x1x128x256.size inb_S1x8x2x144x256_S1x1x1x128x256_0_2_1_0_0, valueTile 256 256 slices_S1024x512_o256_256_S128x256 v⟩,
   ⟨Rect.unit (s := S1x8x2x144x256) ![0, 2, 0, 128, 0] S1x1x1x16x256.size inb_S1x8x2x144x256_S1x1x1x16x256_0_2_0_128_0, k0_pay43⟩,
   ⟨Rect.unit (s := S1x8x2x144x256) ![0, 2, 0, 0, 0] S1x1x1x128x256.size inb_S1x8x2x144x256_S1x1x1x128x256_0_2_0_0_0, valueTile 256 0 slices_S1024x512_o256_0_S128x256 v⟩,
   ⟨Rect.unit (s := S1x8x2x144x256) ![0, 1, 1, 128, 0] S1x1x1x16x256.size inb_S1x8x2x144x256_S1x1x1x16x256_0_1_1_128_0, k0_pay43⟩,
   ⟨Rect.unit (s := S1x8x2x144x256) ![0, 1, 1, 0, 0] S1x1x1x128x256.size inb_S1x8x2x144x256_S1x1x1x128x256_0_1_1_0_0, valueTile 128 256 slices_S1024x512_o128_256_S128x256 v⟩,
   ⟨Rect.unit (s := S1x8x2x144x256) ![0, 1, 0, 128, 0] S1x1x1x16x256.size inb_S1x8x2x144x256_S1x1x1x16x256_0_1_0_128_0, k0_pay43⟩,
   ⟨Rect.unit (s := S1x8x2x144x256) ![0, 1, 0, 0, 0] S1x1x1x128x256.size inb_S1x8x2x144x256_S1x1x1x128x256_0_1_0_0_0, valueTile 128 0 slices_S1024x512_o128_0_S128x256 v⟩,
   ⟨Rect.unit (s := S1x8x2x144x256) ![0, 0, 1, 128, 0] S1x1x1x16x256.size inb_S1x8x2x144x256_S1x1x1x16x256_0_0_1_128_0, k0_pay43⟩,
   ⟨Rect.unit (s := S1x8x2x144x256) ![0, 0, 1, 0, 0] S1x1x1x128x256.size inb_S1x8x2x144x256_S1x1x1x128x256_0_0_1_0_0, valueTile 0 256 slices_S1024x512_o0_256_S128x256 v⟩,
   ⟨Rect.unit (s := S1x8x2x144x256) ![0, 0, 0, 128, 0] S1x1x1x16x256.size inb_S1x8x2x144x256_S1x1x1x16x256_0_0_0_128_0, k0_pay43⟩,
   ⟨Rect.unit (s := S1x8x2x144x256) ![0, 0, 0, 0, 0] S1x1x1x128x256.size inb_S1x8x2x144x256_S1x1x1x128x256_0_0_0_0_0, valueTile 0 0 slices_S1024x512_o0_0_S128x256 v⟩]

/-- The heads fill the block of the queries. -/
theorem queryPieces_cover (cs sn : FVec F S512x128 .f32) (q : FVec F S512x1024 .f32) : ∀ y, ∃ p ∈ queryPieces cs sn q, y ∈ p.1.set :=
  View.cover_of_tiledL (queryPieces cs sn q) S1x128x512.size (by sl_kernel_rfl)
/-- The heads fill the block of the keys. -/
theorem keyPieces_cover (cs sn : FVec F S512x128 .f32) (k : FVec F S512x1024 .f32) : ∀ y, ∃ p ∈ keyPieces cs sn k, y ∈ p.1.set :=
  View.cover_of_tiledL (keyPieces cs sn k) S1x1x512x128.size (by sl_kernel_rfl)
/-- The heads and the rows of ones fill the block of the values. -/
theorem valuePieces_cover (v : FVec F S1024x512 .bf16) : ∀ y, ∃ p ∈ valuePieces v, y ∈ p.1.set :=
  View.cover_of_tiledBy (valuePieces v) S1x1x1x16x256.size (by sl_kernel_rfl)

/-- The product that the convolution runs over. -/
def convIn (x0 : Vec F S1x512x1024 .f32) (x2 : Vec F S1x1024 .f32) (x5 : Vec F S1024x8192 .bf16) : FVec F S512x1024 .f32 := k0_pay4 x0 x2 (seg1 x5) (seg2 x5)
/-- The last eight rows of that product, which the next point's convolution reaches back to. -/
def tailOut (x0 : Vec F S1x512x1024 .f32) (x2 : Vec F S1x1024 .f32) (x5 : Vec F S1024x8192 .bf16) : Vec F S8x1024 .f32 := k0_pay18 (convIn x0 x2 x5)
/-- The block of the gated convolution, from the point's second coordinate `a`, its blocks and the tail `s` it finds. -/
def convOut (a : BitVec 32) (x0 : Vec F S1x512x1024 .f32) (x2 : Vec F S1x1024 .f32) (x5 : Vec F S1024x8192 .bf16) (x6 : Vec F S3x1024 .f32) (s : Vec F S8x1024 .f32) : Vec F S1x512x1024 .bf16 :=
  k0_pay2 (k0_pay3 x0 x2) (k0_pay17 (k0_pay14 a (convIn x0 x2 x5) s) (k0_pay15 a (convIn x0 x2 x5) s) (k0_pay16 (convIn x0 x2 x5) (tap2 x6)) (tap1 x6) (tap0 x6)) (seg0 x5)
/-- The block of the queries. -/
def queryOut (x0 : Vec F S1x512x1024 .f32) (x1 : Vec F S1x512x1 .i32) (x2 : Vec F S1x1024 .f32) (x3 : Vec F S1x128 .f32) (x4 : Vec F S1x128 .f32) (x5 : Vec F S1024x8192 .bf16) : Vec F S1x1024x512 .bf16 :=
  View.canon (queryPieces (k0_pay11 x1 x3) (k0_pay12 x1 x3 x4) (k0_pay19 (k0_pay3 x0 x2) (seg3 x5)))
/-- The block of the keys. -/
def keyOut (x0 : Vec F S1x512x1024 .f32) (x1 : Vec F S1x512x1 .i32) (x2 : Vec F S1x1024 .f32) (x3 : Vec F S1x128 .f32) (x4 : Vec F S1x128 .f32) (x5 : Vec F S1024x8192 .bf16) : Vec F S1x8x512x128 .bf16 :=
  View.canon (keyPieces (k0_pay11 x1 x3) (k0_pay12 x1 x3 x4) (k0_pay20 (k0_pay3 x0 x2) (seg4 x5)))
/-- The block of the values. -/
def valueOut (x0 : Vec F S1x512x1024 .f32) (x2 : Vec F S1x1024 .f32) (x5 : Vec F S1024x8192 .bf16) : Vec F S1x8x2x144x256 .bf16 :=
  View.canon (valuePieces (k0_pay41 (k0_pay3 x0 x2) (seg5 x5)))
/-- The block of a gate, from the columns that make it. -/
def gateOut (x0 : Vec F S1x512x1024 .f32) (x2 : Vec F S1x1024 .f32) (w : Vec F S1024x1024 .bf16) : Vec F S1x512x1024 .bf16 := k0_pay78 (k0_pay3 x0 x2) w

set_option maxHeartbeats 4000000 in
/-- The body's run: its blocks are kept, each result's block and the tail end at the values named above. -/
theorem body_run (c : Dev nD) (i : grid0.Coords) (arg2 : Memref sig .tc .vmem S1x512x1024 .f32) (harg2 : arg2.IsWhole) (arg3 : Memref sig .tc .vmem S1x512x1 .i32) (harg3 : arg3.IsWhole) (arg4 : Memref sig .tc .vmem S1x1024 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1024x8192 .bf16) (harg7 : arg7.IsWhole) (arg8 : Memref sig .tc .vmem S3x1024 .f32) (harg8 : arg8.IsWhole) (arg9 : Memref sig .tc .vmem S32x1024 .f32) (harg9 : arg9.IsWhole) (arg10 : Memref sig .tc .vmem S32x1024 .f32) (harg10 : arg10.IsWhole) (arg11 : Memref sig .tc .vmem S32x1024 .f32) (harg11 : arg11.IsWhole) (arg12 : Memref sig .tc .vmem S32x5632 .f32) (harg12 : arg12.IsWhole) (arg13 : Memref sig .tc .vmem S176x1024 .f32) (harg13 : arg13.IsWhole) (arg14 : Memref sig .tc .vmem S1x512x1024 .bf16) (harg14 : arg14.IsWhole) (arg15 : Memref sig .tc .vmem S1x1024x512 .bf16) (harg15 : arg15.IsWhole) (arg16 : Memref sig .tc .vmem S1x8x512x128 .bf16) (harg16 : arg16.IsWhole) (arg17 : Memref sig .tc .vmem S1x8x2x144x256 .bf16) (harg17 : arg17.IsWhole) (arg18 : Memref sig .tc .vmem S1x512x1024 .bf16) (harg18 : arg18.IsWhole) (arg19 : Memref sig .tc .vmem S1x512x1024 .bf16) (harg19 : arg19.IsWhole) (arg20 : Memref sig .tc .vmem S32x1024 .bf16) (harg20 : arg20.IsWhole) (arg21 : Memref sig .tc .vmem S32x1024 .bf16) (harg21 : arg21.IsWhole) (arg22 : Memref sig .tc .vmem S32x1024 .bf16) (harg22 : arg22.IsWhole) (arg23 : Memref sig .tc .vmem S32x5632 .bf16) (harg23 : arg23.IsWhole) (arg24 : Memref sig .tc .vmem S176x1024 .bf16) (harg24 : arg24.IsWhole) (arg25 : Memref sig .tc .vmem S8x1024 .f32) (harg25 : arg25.IsWhole)
    (x0 : Vec F S1x512x1024 .f32) (x1 : Vec F S1x512x1 .i32) (x2 : Vec F S1x1024 .f32) (x3 : Vec F S1x128 .f32) (x4 : Vec F S1x128 .f32) (x5 : Vec F S1024x8192 .bf16) (x6 : Vec F S3x1024 .f32) (x7 : Vec F S32x1024 .f32) (x8 : Vec F S32x1024 .f32) (x9 : Vec F S32x1024 .f32) (x10 : Vec F S32x5632 .f32) (x11 : Vec F S176x1024 .f32) (s : Vec F S8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ owns (c : Thread nD τ) arg25 fullShare s
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (convOut (BitVec.ofNat 32 (i 1).val) x0 x2 x5 x6 s) ∗ owns (c : Thread nD τ) arg15 fullShare (queryOut x0 x1 x2 x3 x4 x5) ∗ owns (c : Thread nD τ) arg16 fullShare (keyOut x0 x1 x2 x3 x4 x5) ∗ owns (c : Thread nD τ) arg17 fullShare (valueOut x0 x2 x5) ∗ owns (c : Thread nD τ) arg18 fullShare (gateOut x0 x2 (seg6 x5)) ∗ owns (c : Thread nD τ) arg19 fullShare (gateOut x0 x2 (seg7 x5)) ∗ owns (c : Thread nD τ) arg20 fullShare (k0_pay5 x7) ∗ owns (c : Thread nD τ) arg21 fullShare (k0_pay6 x8) ∗ owns (c : Thread nD τ) arg22 fullShare (k0_pay7 x9) ∗ owns (c : Thread nD τ) arg23 fullShare (k0_pay8 x10) ∗ owns (c : Thread nD τ) arg24 fullShare (k0_pay9 x11) ∗ owns (c : Thread nD τ) arg25 fullShare (tailOut x0 x2 x5)) -∗ K ⟨⟩))
      ⊢ wp frame (wpE (defs₀ (F := F)) Variants.none c none) E (cc0_in_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg25.eq_unread hfs0
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr; · ipureintro; exact harg13.read_unread _
    iexact H11
  isplitl [H12]
  · iexists _; isplitr; swap; · iexact H12
    ipureintro
    refine (View.read_writes_full _ _ _ _ _).trans ?_
    sl_unfold_words
    unfold convOut convIn seg0 seg1 seg2 tap0 tap1 tap2
    simp only [View.readAt_eq_ld, Memref.IsWhole.read_unread, View.ld_unit_zero (S := S1x512x1024) zero3, View.ld_unit_zero (S := S1x512x1) zero3, View.ld_unit_zero (S := S1x1024) zero2, View.ld_unit_zero (S := S1x128) zero2, View.ld_unit_zero (S := S8x1024) zero2, View.ld_unit_zero (S := S32x1024) zero2, View.ld_unit_zero (S := S32x5632) zero2, View.ld_unit_zero (S := S176x1024) zero2]
  isplitl [H13]
  · iexists _; isplitr; swap; · iexact H13
    ipureintro
    sl_unfold_words
    unfold queryOut seg3
    simp only [View.readAt_eq_ld, Memref.IsWhole.read_unread, View.ld_unit_zero (S := S1x512x1024) zero3, View.ld_unit_zero (S := S1x512x1) zero3, View.ld_unit_zero (S := S1x1024) zero2, View.ld_unit_zero (S := S1x128) zero2, View.ld_unit_zero (S := S8x1024) zero2, View.ld_unit_zero (S := S32x1024) zero2, View.ld_unit_zero (S := S32x5632) zero2, View.ld_unit_zero (S := S176x1024) zero2]
    exact View.read_writes_eq_canon _ _ _ (queryPieces_cover _ _ _)
  isplitl [H14]
  · iexists _; isplitr; swap; · iexact H14
    ipureintro
    sl_unfold_words
    unfold keyOut seg4
    simp only [View.readAt_eq_ld, Memref.IsWhole.read_unread, View.ld_unit_zero (S := S1x512x1024) zero3, View.ld_unit_zero (S := S1x512x1) zero3, View.ld_unit_zero (S := S1x1024) zero2, View.ld_unit_zero (S := S1x128) zero2, View.ld_unit_zero (S := S8x1024) zero2, View.ld_unit_zero (S := S32x1024) zero2, View.ld_unit_zero (S := S32x5632) zero2, View.ld_unit_zero (S := S176x1024) zero2]
    exact View.read_writes_eq_canon _ _ _ (keyPieces_cover _ _ _)
  isplitl [H15]
  · iexists _; isplitr; swap; · iexact H15
    ipureintro
    sl_unfold_words
    unfold valueOut seg5
    simp only [View.readAt_eq_ld, Memref.IsWhole.read_unread, View.ld_unit_zero (S := S1x512x1024) zero3, View.ld_unit_zero (S := S1x512x1) zero3, View.ld_unit_zero (S := S1x1024) zero2, View.ld_unit_zero (S := S1x128) zero2, View.ld_unit_zero (S := S8x1024) zero2, View.ld_unit_zero (S := S32x1024) zero2, View.ld_unit_zero (S := S32x5632) zero2, View.ld_unit_zero (S := S176x1024) zero2]
    exact View.read_writes_eq_canon _ _ _ (valuePieces_cover _)
  isplitl [H16]
  · iexists _; isplitr; swap; · iexact H16
    ipureintro
    refine (View.read_writes_full _ _ _ _ _).trans ?_
    sl_unfold_words
    unfold gateOut seg6
    simp only [View.readAt_eq_ld, Memref.IsWhole.read_unread, View.ld_unit_zero (S := S1x512x1024) zero3, View.ld_unit_zero (S := S1x512x1) zero3, View.ld_unit_zero (S := S1x1024) zero2, View.ld_unit_zero (S := S1x128) zero2, View.ld_unit_zero (S := S8x1024) zero2, View.ld_unit_zero (S := S32x1024) zero2, View.ld_unit_zero (S := S32x5632) zero2, View.ld_unit_zero (S := S176x1024) zero2]
  isplitl [H17]
  · iexists _; isplitr; swap; · iexact H17
    ipureintro
    refine (View.read_writes_full _ _ _ _ _).trans ?_
    sl_unfold_words
    unfold gateOut seg7
    simp only [View.readAt_eq_ld, Memref.IsWhole.read_unread, View.ld_unit_zero (S := S1x512x1024) zero3, View.ld_unit_zero (S := S1x512x1) zero3, View.ld_unit_zero (S := S1x1024) zero2, View.ld_unit_zero (S := S1x128) zero2, View.ld_unit_zero (S := S8x1024) zero2, View.ld_unit_zero (S := S32x1024) zero2, View.ld_unit_zero (S := S32x5632) zero2, View.ld_unit_zero (S := S176x1024) zero2]
    rfl
  isplitl [H18]
  · iexists _; isplitr; swap; · iexact H18
    ipureintro
    refine (View.read_writes_full _ _ _ _ _).trans ?_
    sl_unfold_words
    simp only [View.readAt_eq_ld, Memref.IsWhole.read_unread, View.ld_unit_zero (S := S1x512x1024) zero3, View.ld_unit_zero (S := S1x512x1) zero3, View.ld_unit_zero (S := S1x1024) zero2, View.ld_unit_zero (S := S1x128) zero2, View.ld_unit_zero (S := S8x1024) zero2, View.ld_unit_zero (S := S32x1024) zero2, View.ld_unit_zero (S := S32x5632) zero2, View.ld_unit_zero (S := S176x1024) zero2]
  isplitl [H19]
  · iexists _; isplitr; swap; · iexact H19
    ipureintro
    refine (View.read_writes_full _ _ _ _ _).trans ?_
    sl_unfold_words
    simp only [View.readAt_eq_ld, Memref.IsWhole.read_unread, View.ld_unit_zero (S := S1x512x1024) zero3, View.ld_unit_zero (S := S1x512x1) zero3, View.ld_unit_zero (S := S1x1024) zero2, View.ld_unit_zero (S := S1x128) zero2, View.ld_unit_zero (S := S8x1024) zero2, View.ld_unit_zero (S := S32x1024) zero2, View.ld_unit_zero (S := S32x5632) zero2, View.ld_unit_zero (S := S176x1024) zero2]
  isplitl [H20]
  · iexists _; isplitr; swap; · iexact H20
    ipureintro
    refine (View.read_writes_full _ _ _ _ _).trans ?_
    sl_unfold_words
    simp only [View.readAt_eq_ld, Memref.IsWhole.read_unread, View.ld_unit_zero (S := S1x512x1024) zero3, View.ld_unit_zero (S := S1x512x1) zero3, View.ld_unit_zero (S := S1x1024) zero2, View.ld_unit_zero (S := S1x128) zero2, View.ld_unit_zero (S := S8x1024) zero2, View.ld_unit_zero (S := S32x1024) zero2, View.ld_unit_zero (S := S32x5632) zero2, View.ld_unit_zero (S := S176x1024) zero2]
  isplitl [H21]
  · iexists _; isplitr; swap; · iexact H21
    ipureintro
    refine (View.read_writes_full _ _ _ _ _).trans ?_
    sl_unfold_words
    simp only [View.readAt_eq_ld, Memref.IsWhole.read_unread, View.ld_unit_zero (S := S1x512x1024) zero3, View.ld_unit_zero (S := S1x512x1) zero3, View.ld_unit_zero (S := S1x1024) zero2, View.ld_unit_zero (S := S1x128) zero2, View.ld_unit_zero (S := S8x1024) zero2, View.ld_unit_zero (S := S32x1024) zero2, View.ld_unit_zero (S := S32x5632) zero2, View.ld_unit_zero (S := S176x1024) zero2]
  isplitl [H22]
  · iexists _; isplitr; swap; · iexact H22
    ipureintro
    refine (View.read_writes_full _ _ _ _ _).trans ?_
    sl_unfold_words
    simp only [View.readAt_eq_ld, Memref.IsWhole.read_unread, View.ld_unit_zero (S := S1x512x1024) zero3, View.ld_unit_zero (S := S1x512x1) zero3, View.ld_unit_zero (S := S1x1024) zero2, View.ld_unit_zero (S := S1x128) zero2, View.ld_unit_zero (S := S8x1024) zero2, View.ld_unit_zero (S := S32x1024) zero2, View.ld_unit_zero (S := S32x5632) zero2, View.ld_unit_zero (S := S176x1024) zero2]
  iexists _; isplitr; swap; · iexact HS0
  ipureintro
  refine (View.read_writes_full _ _ _ _ _).trans ?_
  sl_unfold_words
  unfold tailOut convIn seg1 seg2
  simp only [View.readAt_eq_ld, Memref.IsWhole.read_unread, View.ld_unit_zero (S := S1x512x1024) zero3, View.ld_unit_zero (S := S1x512x1) zero3, View.ld_unit_zero (S := S1x1024) zero2, View.ld_unit_zero (S := S1x128) zero2, View.ld_unit_zero (S := S8x1024) zero2, View.ld_unit_zero (S := S32x1024) zero2, View.ld_unit_zero (S := S32x5632) zero2, View.ld_unit_zero (S := S176x1024) zero2]

end Cert.InProjIdeal.Proj

end
-- ==== Proof.InRun.lean ====
/-
  The whole run of the layer's first kernel: point after point over the grid, the tail of the convolved product carried
  from each point to the next in the scratch buffer, and so the arrays the results end at. Stated at any arithmetic.
-/
module

public import proofs.«01_k».proof.Proof.InBody
public import Idealize.ShloMosaic.Lib.Claim

@[expose] public section

set_option maxRecDepth 16384

noncomputable section

namespace Cert.InProjIdeal.Proj

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- At the first point of a sequence the tail found is not looked at: the rows before it are zero. -/
theorem tail_unused (x0 : Vec F S1x512x1024 .f32) (x2 : Vec F S1x1024 .f32) (x5 : Vec F S1024x8192 .bf16) (x6 : Vec F S3x1024 .f32) (s s' : Vec F S8x1024 .f32) :
    convOut (BitVec.ofNat 32 0) x0 x2 x5 x6 s = convOut (BitVec.ofNat 32 0) x0 x2 x5 x6 s' := rfl

local notation "𝕄" => MT nD τ sig Unit (Elt F) ℕ (UR sig nD τ) ℕ

variable (m : (ℓ : Loc nD τ sig) → Buf (Elt F) ℓ) (ρ : Dev nD → PrngReg)

/-- The tail point `t` leaves. -/
def tailAt (c : Dev nD) (t : Fin cfg0.N) : Vec F S8x1024 .f32 :=
  tailOut (iblk m c 0 t) (iblk m c 2 t) (iblk m c 5 t)

/-- The tail point `t` finds: the one the point before left (at the first point, which looks at none, any will do). -/
def tailBefore (c : Dev nD) (t : Fin cfg0.N) : Vec F S8x1024 .f32 :=
  tailAt m c ⟨t.val - 1, (Nat.sub_le _ _).trans_lt t.isLt⟩

/-- The block of the gated convolution point `t` leaves. -/
def convAt (c : Dev nD) (t : Fin cfg0.N) : Vec F S1x512x1024 .bf16 :=
  convOut (BitVec.ofNat 32 ((grid0.coords t) 1).val) (iblk m c 0 t) (iblk m c 2 t) (iblk m c 5 t) (iblk m c 6 t) (tailBefore m c t)

/-- What is kept between points: the scratch buffer, at the last point's tail once there has been one, and the
    generator's register. -/
def carried (c : Dev nD) (k : Fin (cfg0.N + 1)) : sProp 𝕄 :=
  iprop(∃ s, ⌜∀ h : k.val ≠ 0, s = tailAt m c ⟨k.val - 1, by omega⟩⌝
    ∗ owns (c : Thread nD τ) (Memref.whole cc0_scratch0) fullShare s ∗ (∃ r, prngReg c r))

/-- What the grid's points find and leave. -/
def points (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => convAt m c t
    | ⟨13, _⟩ => queryOut (iblk m c 0 t) (iblk m c 1 t) (iblk m c 2 t) (iblk m c 3 t) (iblk m c 4 t) (iblk m c 5 t)
    | ⟨14, _⟩ => keyOut (iblk m c 0 t) (iblk m c 1 t) (iblk m c 2 t) (iblk m c 3 t) (iblk m c 4 t) (iblk m c 5 t)
    | ⟨15, _⟩ => valueOut (iblk m c 0 t) (iblk m c 2 t) (iblk m c 5 t)
    | ⟨16, _⟩ => gateOut (iblk m c 0 t) (iblk m c 2 t) (seg6 (iblk m c 5 t))
    | ⟨17, _⟩ => gateOut (iblk m c 0 t) (iblk m c 2 t) (seg7 (iblk m c 5 t))
    | ⟨18, _⟩ => k0_pay5 (iblk m c 7 t)
    | ⟨19, _⟩ => k0_pay6 (iblk m c 8 t)
    | ⟨20, _⟩ => k0_pay7 (iblk m c 9 t)
    | ⟨21, _⟩ => k0_pay8 (iblk m c 10 t)
    | ⟨22, _⟩ => k0_pay9 (iblk m c 11 t)
    | ⟨n + 23, h⟩ => absurd (show n + 23 < 23 from h) (by omega)
  Φ k := carried m c k
  q _ := fullShare
  owed _ := 0

/-- The arrays are those of the region's entry. -/
theorem points_A (c : Dev nD) (w : Fin cfg0.W) : (points m 0 c).A w = V m c (Pipeline.arrRef spec0 w) := by
  dsimp only [points]

/-- Every point leaves window 0's block as it found it. -/
theorem after_0 (c : Dev nD) (t : Fin cfg0.N) : (points m 0 c).after 0 t = iblk m c 0 t := by dsimp only [points]
/-- Every point finds window 0's block. -/
theorem before_0 (c : Dev nD) (t : Fin cfg0.N) (d) : (points m 0 c).before 0 t d = iblk m c 0 t :=
  before0_0_of m (points m 0 c) (points_A m c 0) (after_0 m c) t d
/-- Every point leaves window 1's block as it found it. -/
theorem after_1 (c : Dev nD) (t : Fin cfg0.N) : (points m 0 c).after 1 t = iblk m c 1 t := by dsimp only [points]
/-- Every point finds window 1's block. -/
theorem before_1 (c : Dev nD) (t : Fin cfg0.N) (d) : (points m 0 c).before 1 t d = iblk m c 1 t :=
  before0_1_of m (points m 0 c) (points_A m c 1) (after_1 m c) t d
/-- Every point leaves window 2's block as it found it. -/
theorem after_2 (c : Dev nD) (t : Fin cfg0.N) : (points m 0 c).after 2 t = iblk m c 2 t := by dsimp only [points]
/-- Every point finds window 2's block. -/
theorem before_2 (c : Dev nD) (t : Fin cfg0.N) (d) : (points m 0 c).before 2 t d = iblk m c 2 t :=
  before0_2_of m (points m 0 c) (points_A m c 2) (after_2 m c) t d
/-- Every point leaves window 3's block as it found it. -/
theorem after_3 (c : Dev nD) (t : Fin cfg0.N) : (points m 0 c).after 3 t = iblk m c 3 t := by dsimp only [points]
/-- Every point finds window 3's block. -/
theorem before_3 (c : Dev nD) (t : Fin cfg0.N) (d) : (points m 0 c).before 3 t d = iblk m c 3 t :=
  before0_3_of m (points m 0 c) (points_A m c 3) (after_3 m c) t d
/-- Every point leaves window 4's block as it found it. -/
theorem after_4 (c : Dev nD) (t : Fin cfg0.N) : (points m 0 c).after 4 t = iblk m c 4 t := by dsimp only [points]
/-- Every point finds window 4's block. -/
theorem before_4 (c : Dev nD) (t : Fin cfg0.N) (d) : (points m 0 c).before 4 t d = iblk m c 4 t :=
  before0_4_of m (points m 0 c) (points_A m c 4) (after_4 m c) t d
/-- Every point leaves window 5's block as it found it. -/
theorem after_5 (c : Dev nD) (t : Fin cfg0.N) : (points m 0 c).after 5 t = iblk m c 5 t := by dsimp only [points]
/-- Every point finds window 5's block. -/
theorem before_5 (c : Dev nD) (t : Fin cfg0.N) (d) : (points m 0 c).before 5 t d = iblk m c 5 t :=
  before0_5_of m (points m 0 c) (points_A m c 5) (after_5 m c) t d
/-- Every point leaves window 6's block as it found it. -/
theorem after_6 (c : Dev nD) (t : Fin cfg0.N) : (points m 0 c).after 6 t = iblk m c 6 t := by dsimp only [points]
/-- Every point finds window 6's block. -/
theorem before_6 (c : Dev nD) (t : Fin cfg0.N) (d) : (points m 0 c).before 6 t d = iblk m c 6 t :=
  before0_6_of m (points m 0 c) (points_A m c 6) (after_6 m c) t d
/-- Every point leaves window 7's block as it found it. -/
theorem after_7 (c : Dev nD) (t : Fin cfg0.N) : (points m 0 c).after 7 t = iblk m c 7 t := by dsimp only [points]
/-- Every point finds window 7's block. -/
theorem before_7 (c : Dev nD) (t : Fin cfg0.N) (d) : (points m 0 c).before 7 t d = iblk m c 7 t :=
  before0_7_of m (points m 0 c) (points_A m c 7) (after_7 m c) t d
/-- Every point leaves window 8's block as it found it. -/
theorem after_8 (c : Dev nD) (t : Fin cfg0.N) : (points m 0 c).after 8 t = iblk m c 8 t := by dsimp only [points]
/-- Every point finds window 8's block. -/
theorem before_8 (c : Dev nD) (t : Fin cfg0.N) (d) : (points m 0 c).before 8 t d = iblk m c 8 t :=
  before0_8_of m (points m 0 c) (points_A m c 8) (after_8 m c) t d
/-- Every point leaves window 9's block as it found it. -/
theorem after_9 (c : Dev nD) (t : Fin cfg0.N) : (points m 0 c).after 9 t = iblk m c 9 t := by dsimp only [points]
/-- Every point finds window 9's block. -/
theorem before_9 (c : Dev nD) (t : Fin cfg0.N) (d) : (points m 0 c).before 9 t d = iblk m c 9 t :=
  before0_9_of m (points m 0 c) (points_A m c 9) (after_9 m c) t d
/-- Every point leaves window 10's block as it found it. -/
theorem after_10 (c : Dev nD) (t : Fin cfg0.N) : (points m 0 c).after 10 t = iblk m c 10 t := by dsimp only [points]
/-- Every point finds window 10's block. -/
theorem before_10 (c : Dev nD) (t : Fin cfg0.N) (d) : (points m 0 c).before 10 t d = iblk m c 10 t :=
  before0_10_of m (points m 0 c) (points_A m c 10) (after_10 m c) t d
/-- Every point leaves window 11's block as it found it. -/
theorem after_11 (c : Dev nD) (t : Fin cfg0.N) : (points m 0 c).after 11 t = iblk m c 11 t := by dsimp only [points]
/-- Every point finds window 11's block. -/
theorem before_11 (c : Dev nD) (t : Fin cfg0.N) (d) : (points m 0 c).before 11 t d = iblk m c 11 t :=
  before0_11_of m (points m 0 c) (points_A m c 11) (after_11 m c) t d
/-- What every point leaves in window 12. -/
theorem after_12 (c : Dev nD) (t : Fin cfg0.N) : (points m 0 c).after 12 t = convAt m c t := by dsimp only [points]
/-- What every point leaves in window 13. -/
theorem after_13 (c : Dev nD) (t : Fin cfg0.N) : (points m 0 c).after 13 t = queryOut (iblk m c 0 t) (iblk m c 1 t) (iblk m c 2 t) (iblk m c 3 t) (iblk m c 4 t) (iblk m c 5 t) := by dsimp only [points]
/-- What every point leaves in window 14. -/
theorem after_14 (c : Dev nD) (t : Fin cfg0.N) : (points m 0 c).after 14 t = keyOut (iblk m c 0 t) (iblk m c 1 t) (iblk m c 2 t) (iblk m c 3 t) (iblk m c 4 t) (iblk m c 5 t) := by dsimp only [points]
/-- What every point leaves in window 15. -/
theorem after_15 (c : Dev nD) (t : Fin cfg0.N) : (points m 0 c).after 15 t = valueOut (iblk m c 0 t) (iblk m c 2 t) (iblk m c 5 t) := by dsimp only [points]
/-- What every point leaves in window 16. -/
theorem after_16 (c : Dev nD) (t : Fin cfg0.N) : (points m 0 c).after 16 t = gateOut (iblk m c 0 t) (iblk m c 2 t) (seg6 (iblk m c 5 t)) := by dsimp only [points]
/-- What every point leaves in window 17. -/
theorem after_17 (c : Dev nD) (t : Fin cfg0.N) : (points m 0 c).after 17 t = gateOut (iblk m c 0 t) (iblk m c 2 t) (seg7 (iblk m c 5 t)) := by dsimp only [points]
/-- What every point leaves in window 18. -/
theorem after_18 (c : Dev nD) (t : Fin cfg0.N) : (points m 0 c).after 18 t = k0_pay5 (iblk m c 7 t) := by dsimp only [points]
/-- What every point leaves in window 19. -/
theorem after_19 (c : Dev nD) (t : Fin cfg0.N) : (points m 0 c).after 19 t = k0_pay6 (iblk m c 8 t) := by dsimp only [points]
/-- What every point leaves in window 20. -/
theorem after_20 (c : Dev nD) (t : Fin cfg0.N) : (points m 0 c).after 20 t = k0_pay7 (iblk m c 9 t) := by dsimp only [points]
/-- What every point leaves in window 21. -/
theorem after_21 (c : Dev nD) (t : Fin cfg0.N) : (points m 0 c).after 21 t = k0_pay8 (iblk m c 10 t) := by dsimp only [points]
/-- What every point leaves in window 22. -/
theorem after_22 (c : Dev nD) (t : Fin cfg0.N) : (points m 0 c).after 22 t = k0_pay9 (iblk m c 11 t) := by dsimp only [points]
/-- What is kept between points. -/
theorem kept (c : Dev nD) (k : Fin (cfg0.N + 1)) : (points m 0 c).Φ k = carried m c k := by dsimp only [points]

/-- The grid's free invariant is the scratch buffer at some contents, and the generator's register. -/
theorem inv_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-- At the start nothing is asked of the scratch buffer. -/
theorem start (c : Dev nD) : Pipeline.ΦA spec0 c ⊢ (points m 0 c).Φ 0 := by
  rw [kept, inv_eq]; unfold carried
  iintro ⟨⟨%s, H⟩, Hg⟩
  iexists s
  isplitr; · ipureintro; exact fun h => absurd rfl h
  isplitl [H]; · iexact H
  iexact Hg

/-- At the end the scratch buffer is given back at what it holds. -/
theorem finish (c : Dev nD) : (points m 0 c).Φ (Fin.last cfg0.N) ⊢ Pipeline.ΦA spec0 c := by
  rw [kept, inv_eq]; unfold carried
  iintro ⟨%s, -, H, Hg⟩
  isplitl [H]; · iexists s; iexact H
  iexact Hg

/-- The grid's first point is at the start of a sequence. -/
theorem coords_zero : ∀ t : Fin cfg0.N, t.val = 0 → ((grid0.coords t) 1).val = 0 :=
  (by decide +kernel : ∀ t : Fin grid0.N, t.val = 0 → ((grid0.coords t) 1).val = 0)

/-- The block of the gated convolution is the one named, whatever tail the invariant lets the point find. -/
theorem conv_eq (c : Dev nD) (t : Fin cfg0.N) (s : Vec F S8x1024 .f32)
    (hs : ∀ h : t.val ≠ 0, s = tailAt m c ⟨t.val - 1, by omega⟩) :
    convOut (BitVec.ofNat 32 ((grid0.coords t) 1).val) (iblk m c 0 t) (iblk m c 2 t) (iblk m c 5 t) (iblk m c 6 t) s = convAt m c t := by
  unfold convAt
  by_cases h : t.val = 0
  · rw [coords_zero t h]; exact tail_unused _ _ _ _ s _
  · rw [hs h]; rfl

set_option maxHeartbeats 1600000 in
/-- One point of the grid. -/
theorem point (c : Dev nD) (t : Fin cfg0.N) :
    iprop((points m 0 c).Φ t.castSucc ∗ (points m 0 c).owesAt () t.castSucc
      ∗ (∃ d, owns (c : Thread nD τ) (st0_0 t) fullShare ((points m 0 c).before 0 t d))
      ∗ (∃ d, owns (c : Thread nD τ) (st0_1 t) fullShare ((points m 0 c).before 1 t d))
      ∗ (∃ d, owns (c : Thread nD τ) (st0_2 t) fullShare ((points m 0 c).before 2 t d))
      ∗ (∃ d, owns (c : Thread nD τ) (st0_3 t) fullShare ((points m 0 c).before 3 t d))
      ∗ (∃ d, owns (c : Thread nD τ) (st0_4 t) fullShare ((points m 0 c).before 4 t d))
      ∗ (∃ d, owns (c : Thread nD τ) (st0_5 t) fullShare ((points m 0 c).before 5 t d))
      ∗ (∃ d, owns (c : Thread nD τ) (st0_6 t) fullShare ((points m 0 c).before 6 t d))
      ∗ (∃ d, owns (c : Thread nD τ) (st0_7 t) fullShare ((points m 0 c).before 7 t d))
      ∗ (∃ d, owns (c : Thread nD τ) (st0_8 t) fullShare ((points m 0 c).before 8 t d))
      ∗ (∃ d, owns (c : Thread nD τ) (st0_9 t) fullShare ((points m 0 c).before 9 t d))
      ∗ (∃ d, owns (c : Thread nD τ) (st0_10 t) fullShare ((points m 0 c).before 10 t d))
      ∗ (∃ d, owns (c : Thread nD τ) (st0_11 t) fullShare ((points m 0 c).before 11 t d))
      ∗ (∃ d, owns (c : Thread nD τ) (st0_12 t) fullShare ((points m 0 c).before 12 t d))
      ∗ (∃ d, owns (c : Thread nD τ) (st0_13 t) fullShare ((points m 0 c).before 13 t d))
      ∗ (∃ d, owns (c : Thread nD τ) (st0_14 t) fullShare ((points m 0 c).before 14 t d))
      ∗ (∃ d, owns (c : Thread nD τ) (st0_15 t) fullShare ((points m 0 c).before 15 t d))
      ∗ (∃ d, owns (c : Thread nD τ) (st0_16 t) fullShare ((points m 0 c).before 16 t d))
      ∗ (∃ d, owns (c : Thread nD τ) (st0_17 t) fullShare ((points m 0 c).before 17 t d))
      ∗ (∃ d, owns (c : Thread nD τ) (st0_18 t) fullShare ((points m 0 c).before 18 t d))
      ∗ (∃ d, owns (c : Thread nD τ) (st0_19 t) fullShare ((points m 0 c).before 19 t d))
      ∗ (∃ d, owns (c : Thread nD τ) (st0_20 t) fullShare ((points m 0 c).before 20 t d))
      ∗ (∃ d, owns (c : Thread nD τ) (st0_21 t) fullShare ((points m 0 c).before 21 t d))
      ∗ (∃ d, owns (c : Thread nD τ) (st0_22 t) fullShare ((points m 0 c).before 22 t d)))
    ⊢ wp frame (wpE (defs₀ (F := F)) Variants.none c none) Set.univ (bodyAt0 t) (fun _ =>
      iprop((points m 0 c).Φ t.succ ∗ (points m 0 c).owesAt () t.castSucc
      ∗ owns (c : Thread nD τ) (st0_0 t) fullShare ((points m 0 c).after 0 t)
      ∗ owns (c : Thread nD τ) (st0_1 t) fullShare ((points m 0 c).after 1 t)
      ∗ owns (c : Thread nD τ) (st0_2 t) fullShare ((points m 0 c).after 2 t)
      ∗ owns (c : Thread nD τ) (st0_3 t) fullShare ((points m 0 c).after 3 t)
      ∗ owns (c : Thread nD τ) (st0_4 t) fullShare ((points m 0 c).after 4 t)
      ∗ owns (c : Thread nD τ) (st0_5 t) fullShare ((points m 0 c).after 5 t)
      ∗ owns (c : Thread nD τ) (st0_6 t) fullShare ((points m 0 c).after 6 t)
      ∗ owns (c : Thread nD τ) (st0_7 t) fullShare ((points m 0 c).after 7 t)
      ∗ owns (c : Thread nD τ) (st0_8 t) fullShare ((points m 0 c).after 8 t)
      ∗ owns (c : Thread nD τ) (st0_9 t) fullShare ((points m 0 c).after 9 t)
      ∗ owns (c : Thread nD τ) (st0_10 t) fullShare ((points m 0 c).after 10 t)
      ∗ owns (c : Thread nD τ) (st0_11 t) fullShare ((points m 0 c).after 11 t)
      ∗ owns (c : Thread nD τ) (st0_12 t) fullShare ((points m 0 c).after 12 t)
      ∗ owns (c : Thread nD τ) (st0_13 t) fullShare ((points m 0 c).after 13 t)
      ∗ owns (c : Thread nD τ) (st0_14 t) fullShare ((points m 0 c).after 14 t)
      ∗ owns (c : Thread nD τ) (st0_15 t) fullShare ((points m 0 c).after 15 t)
      ∗ owns (c : Thread nD τ) (st0_16 t) fullShare ((points m 0 c).after 16 t)
      ∗ owns (c : Thread nD τ) (st0_17 t) fullShare ((points m 0 c).after 17 t)
      ∗ owns (c : Thread nD τ) (st0_18 t) fullShare ((points m 0 c).after 18 t)
      ∗ owns (c : Thread nD τ) (st0_19 t) fullShare ((points m 0 c).after 19 t)
      ∗ owns (c : Thread nD τ) (st0_20 t) fullShare ((points m 0 c).after 20 t)
      ∗ owns (c : Thread nD τ) (st0_21 t) fullShare ((points m 0 c).after 21 t)
      ∗ owns (c : Thread nD τ) (st0_22 t) fullShare ((points m 0 c).after 22 t))) := by
  simp only [before_0, before_1, before_2, before_3, before_4, before_5, before_6, before_7, before_8, before_9, before_10, before_11]
  rw [after_0, after_1, after_2, after_3, after_4, after_5, after_6, after_7, after_8, after_9, after_10, after_11, after_12, after_13, after_14, after_15, after_16, after_17, after_18, after_19, after_20, after_21, after_22, kept, kept]
  unfold carried
  iintro ⟨⟨%s, %hs, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (st0_21 t) (hstage0_21 ((cfg0.slots t 21).cast nbuf0_21)) (st0_22 t) (hstage0_22 ((cfg0.slots t 22).cast nbuf0_22)) (Memref.whole cc0_scratch0) (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) s Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [HS]; · iexact HS
  rw [conv_eq m c t s hs]
  iintro ⟨H0, H1, H2, H3, H4, H5, H6, H7, H8, H9, H10, H11, H12, H13, H14, H15, H16, H17, H18, H19, H20, H21, H22, HS⟩
  isplitl [HS Hg]
  · iexists (tailAt m c t)
    isplitr; · ipureintro; exact fun _ => rfl
    isplitl [HS]; · unfold tailAt; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexact H22

/-- The table's row at a point's slots is the kernel's body. -/
theorem row (t : Fin cfg0.N) : defs₀ (F := F) .tc cfg0.body (cfg0.bodyArgs t (cfg0.slots t)) = bodyAt0 t := by
  unfold defs₀; rw [Defs.onTc_tc]

/-- Every point of the grid meets its obligation. -/
theorem obligation (c : Dev nD) : BodyObligation (points (F := F) m 0 c) (defs₀ (F := F)) Variants.none () Set.univ := fun t => by
  rw [bigSep_W0, bigSep_W0, row]
  exact triple_restated (point m c t) rfl .rfl fun _ => .rfl

-- the launch theorem's arguments are found by unifying its statement with this one
set_option backward.isDefEq.respectTransparency.types false in
/-- The program's run: it ends, every array at what the points leave and every semaphore at zero. -/
theorem run : θ_run defs (onTc (τ := τ) (main (F := F))) (s₀ m ρ)
    (fun r => Pipeline.FramePost cfgs (points m) 0 (V m) r ∧ r.2.sem = fun _ => 0) :=
  Pipeline.θ_run_frame_track (Q' := _) cfgs (points m) (0 : Fin 1) launch0 defs₀ Variants.none m ρ main
    (hbody := fun c => (obligation m c).loose) (hshare := fun c => (points m 0 c).share_full fun _ => rfl)
    (howed := fun _ _ => rfl) (V := V m) (hmain := hmain m Variants.none) (hA := points_A m)
    (hin := start m) (hout := finish m)

end Cert.InProjIdeal.Proj

end
-- ==== Proof.InSpec.lean ====
/-
  The layer's first stage, entry by entry: the norm and the joint projection, the short gated convolution, the rotary
  turn of queries and keys, the values with their rows of ones, and the two gates. Only the convolution reads more than
  one row of its input.
-/
module

public import proofs.«01_k».proof.Proof.FfnSpec

@[expose] public section

noncomputable section

namespace Cert.ProjRow

open Idealize.ShloMosaic Cert.FfnRow

/-- A normed row through one column of the joint weights. -/
def project (x g : Fin 1024 → EReal) (w : Fin 1024 → Fin 8192 → EReal) (n : Fin 8192) : EReal :=
  ∑ k, rmsRow x g k * w k n

/-- The short convolution's three taps, on an entry, the one a row before and the one two rows before. -/
def threeTaps (w0 w1 w2 u u1 u2 : EReal) : EReal := w2 * u + w1 * u1 + w0 * u2

/-- A word as a number. -/
def number (p : BitVec 32) : EReal := FloatOps.sitofp (F := Ideal) .f32 p

/-- The angle's rate at a position in a head's half. -/
def rate (j : Fin 64) : EReal :=
  Ideal.exp (Ideal.ofBits .f32 0xC1135D8E#32 * number (BitVec.ofNat 32 j.val) * Ideal.ofBits .f32 0x3C800000#32)

/-- The angle of a position. -/
def angle (p : BitVec 32) (j : Fin 64) : EReal := number p * rate j

/-- A head turned by the angles of its position. -/
def turn (t : Fin 128 → EReal) (p : BitVec 32) (j : Fin 128) : EReal :=
  if h : j.val < 64 then t j * Ideal.cos (angle p ⟨j.val, h⟩) - t ⟨64 + j.val, by omega⟩ * Ideal.sin (angle p ⟨j.val, h⟩)
  else t j * Ideal.cos (angle p ⟨j.val - 64, by omega⟩) + t ⟨j.val - 64, by omega⟩ * Ideal.sin (angle p ⟨j.val - 64, by omega⟩)

/-- The same turn by a rotation of the head by half its width and a sign on the first half. -/
theorem turn_eq (t : Fin 128 → EReal) (p : BitVec 32) (j : Fin 128) (o : Fin 128) (ho : o.val = (j.val + 64) % 128)
    (a : Fin 64) (ha : a.val = j.val % 64) :
    t j * Ideal.cos (angle p a) + t o * (Ideal.sin (angle p a) * (if j.val < 64 then -1 else 1)) = turn t p j := by
  unfold turn
  by_cases h : j.val < 64
  · have e1 : a = ⟨j.val, h⟩ := Fin.ext (by show a.val = j.val; omega)
    have e2 : o = ⟨64 + j.val, by omega⟩ := Fin.ext (by show o.val = 64 + j.val; omega)
    rw [dif_pos h, if_pos h, e1, e2, mul_neg_one, mul_neg, sub_eq_add_neg]
  · have e1 : a = ⟨j.val - 64, by omega⟩ := Fin.ext (by show a.val = j.val - 64; omega)
    have e2 : o = ⟨j.val - 64, by omega⟩ := Fin.ext (by show o.val = j.val - 64; omega)
    rw [dif_neg h, if_neg h, e1, e2, mul_one]

/-- A gate's activation. -/
def sigmoid (z : EReal) : EReal := Ideal.div 1 (1 + Ideal.exp (0 - z))

/-- The scale of the scores, put on the queries. -/
def scale : EReal := Ideal.ofBits .f32 0x3E0293EE#32

variable (x : (⟨3, ![2, 8192, 1024]⟩ : Shape).Idx → EReal) (p : (⟨2, ![2, 8192]⟩ : Shape).Idx → BitVec 32)
  (g : (⟨1, ![1024]⟩ : Shape).Idx → EReal) (w : (⟨2, ![1024, 8192]⟩ : Shape).Idx → EReal)
  (c : (⟨2, ![3, 1024]⟩ : Shape).Idx → EReal)

/-- The joint projection of sequence `b` at position `s`. -/
def projAt (b : Fin 2) (s : Fin 8192) (n : Fin 8192) : EReal :=
  project (fun k => x (ix3 b s k)) (fun k => g (ix1 k)) (fun k n => w (ix2 k n)) n

/-- The product that the convolution runs over. -/
def innerAt (b : Fin 2) (s : Fin 8192) (d : Fin 1024) : EReal :=
  projAt x g w b s ⟨1024 + d.val, by omega⟩ * projAt x g w b s ⟨2048 + d.val, by omega⟩

/-- That product `n` positions before, zero before the sequence's start. -/
def innerBefore (n : Nat) (b : Fin 2) (s : Fin 8192) (d : Fin 1024) : EReal :=
  if n ≤ s.val then innerAt x g w b ⟨s.val - n, by omega⟩ d else 0

/-- The gated convolution. -/
def convAtOf (b : Fin 2) (s : Fin 8192) (d : Fin 1024) : EReal :=
  projAt x g w b s ⟨d.val, by omega⟩
    * threeTaps (c (ix2 0 d)) (c (ix2 1 d)) (c (ix2 2 d)) (innerAt x g w b s d) (innerBefore x g w 1 b s d) (innerBefore x g w 2 b s d)

/-- The gated convolution, the whole array. -/
def convArr (i : (⟨3, ![2, 8192, 1024]⟩ : Shape).Idx) : EReal := convAtOf x g w c (i 0) (i 1) (i 2)

/-- The queries, a head's features along the second axis. -/
def queryAtOf (b : Fin 2) (n : Fin 1024) (s : Fin 8192) : EReal :=
  turn (fun j => projAt x g w b s ⟨3072 + (n.val / 128 * 128 + j.val), by omega⟩) (p (ix2 b s)) ⟨n.val % 128, by omega⟩ * scale
/-- The queries, the whole array. -/
def queryArr (i : (⟨3, ![2, 1024, 8192]⟩ : Shape).Idx) : EReal := queryAtOf x p g w (i 0) (i 1) (i 2)

/-- The keys. -/
def keyAtOf (b : Fin 2) (h : Fin 8) (s : Fin 8192) (j : Fin 128) : EReal :=
  turn (fun j => projAt x g w b s ⟨4096 + (h.val * 128 + j.val), by omega⟩) (p (ix2 b s)) j
/-- The keys, the whole array. -/
def keyArr (i : (⟨4, ![2, 8, 8192, 128]⟩ : Shape).Idx) : EReal := keyAtOf x p g w (i 0) (i 1) (i 2) (i 3)

/-- The values, a block of 256 positions after another, and under each the rows of ones. -/
def valueAtOf (b : Fin 2) (h : Fin 8) (n : Fin 32) (r : Fin 144) (k : Fin 256) : EReal :=
  if hr : r.val < 128 then projAt x g w b ⟨n.val * 256 + k.val, by omega⟩ ⟨5120 + (h.val * 128 + r.val), by omega⟩ else 1
/-- The values, the whole array. -/
def valueArr (i : (⟨5, ![2, 8, 32, 144, 256]⟩ : Shape).Idx) : EReal := valueAtOf x g w (i 0) (i 1) (i 2) (i 3) (i 4)

/-- A gate made of the 1024 columns from `o` on. -/
def gateOf (o : Nat) (ho : o + 1024 ≤ 8192) (b : Fin 2) (s : Fin 8192) (d : Fin 1024) : EReal :=
  sigmoid (projAt x g w b s ⟨o + d.val, by omega⟩)
/-- A gate, the whole array. -/
def gateArr (o : Nat) (ho : o + 1024 ≤ 8192) (i : (⟨3, ![2, 8192, 1024]⟩ : Shape).Idx) : EReal :=
  gateOf x g w o ho (i 0) (i 1) (i 2)

end Cert.ProjRow
-- ==== Proof.InPay.lean ====
/-
  What one point of the first kernel computes, read at an entry with numbers in place of roundings.
-/
module

public import proofs.«01_k».proof.Proof.InBody
public import proofs.«01_k».proof.Proof.InSpec

@[expose] public section

set_option maxRecDepth 16384

noncomputable section

namespace Cert.InProjIdeal.Proj

open Cert.InProjIdeal Cert.InProjIdeal.Gen Cert.FfnRow Cert.ProjRow
open Idealize.ShloMosaic

variable (x0 : Vec Ideal S1x512x1024 .f32) (x1 : Vec Ideal S1x512x1 .i32) (x2 : Vec Ideal S1x1024 .f32) (x3 x4 : Vec Ideal S1x128 .f32)
  (x5 : Vec Ideal S1024x8192 .bf16) (x6 : Vec Ideal S3x1024 .f32)

/-- The normed block. -/
theorem pay3_at (r : Fin 512) (k : Fin 1024) :
    k0_pay3 x0 x2 (ix2 r k) = rmsRow (fun k => x0 (ix3 0 r k)) (fun k => x2 (ix2 0 k)) k := by
  pointwise [k0_pay3, rmsRow, width, tiny]

/-- The joint projection of row `r` of the block. -/
def projRow (r : Fin 512) (n : Fin 8192) : EReal :=
  project (fun k => x0 (ix3 0 r k)) (fun k => x2 (ix2 0 k)) (fun k n => x5 (ix2 k n)) n

/-- Row `r` of the product that the convolution runs over. -/
def innerRow (r : Fin 512) (d : Fin 1024) : EReal :=
  projRow x0 x2 x5 r ⟨1024 + d.val, by omega⟩ * projRow x0 x2 x5 r ⟨2048 + d.val, by omega⟩

theorem convIn_at (r : Fin 512) (d : Fin 1024) : convIn x0 x2 x5 (ix2 r d) = innerRow x0 x2 x5 r d := by
  pointwise [convIn, k0_pay4, pay3_at, seg1, seg2, innerRow, projRow, project]

theorem tailOut_at (r : Fin 8) (d : Fin 1024) :
    tailOut x0 x2 x5 (ix2 r d) = innerRow x0 x2 x5 ⟨504 + r.val, by omega⟩ d := by
  pointwise [tailOut, k0_pay18, convIn_at]

theorem gate6_at (r : Fin 512) (d : Fin 1024) :
    gateOut x0 x2 (seg6 x5) (ix3 0 r d) = sigmoid (projRow x0 x2 x5 r ⟨6144 + d.val, by omega⟩) := by
  pointwise [gateOut, k0_pay78, pay3_at, seg6, projRow, project, sigmoid]

theorem gate7_at (r : Fin 512) (d : Fin 1024) :
    gateOut x0 x2 (seg7 x5) (ix3 0 r d) = sigmoid (projRow x0 x2 x5 r ⟨7168 + d.val, by omega⟩) := by
  pointwise [gateOut, k0_pay78, pay3_at, seg7, projRow, project, sigmoid]

theorem conv17_at (a : BitVec 32) (u : FVec Ideal S512x1024 .f32) (s : Vec Ideal S8x1024 .f32) (w0 w1 w2 : Vec Ideal S1x1024 .f32)
    (r : Fin 512) (d : Fin 1024) :
    k0_pay17 (k0_pay14 a u s) (k0_pay15 a u s) (k0_pay16 u w2) w1 w0 (ix2 r d)
      = threeTaps (w0 (ix2 0 d)) (w1 (ix2 0 d)) (w2 (ix2 0 d)) (u (ix2 r d))
          (if r.val < 1 then (if a = 0#32 then 0 else s (ix2 7 d)) else u (ix2 ⟨r.val - 1, by omega⟩ d))
          (if hr : r.val < 2 then (if a = 0#32 then 0 else s (ix2 ⟨r.val + 6, by omega⟩ d)) else u (ix2 ⟨r.val - 2, by omega⟩ d)) := by
  pointwise [k0_pay17, k0_pay16, k0_pay15, k0_pay14, k0_pay13, threeTaps, choose_zero]
  have i1 : 7 + r.val - 8 = r.val - 1 := by omega
  have i2 : 6 + r.val - 8 = r.val - 2 := by omega
  refine congrArg₂ (· + w0 (ix2 0 d) * ·) (congrArg (w2 (ix2 0 d) * u (ix2 r d) + w1 (ix2 0 d) * ·) ?_) ?_
  · by_cases hr : r.val < 1
    · have hi : (⟨7 + r.val, by omega⟩ : Fin 8) = 7 := Fin.ext (by show 7 + r.val = 7; omega)
      rw [dif_pos (by omega), if_pos hr, hi]; split <;> rfl
    · rw [dif_neg (by omega), if_neg hr]; simp only [i1]
  · by_cases hr : r.val < 2
    · rw [dif_pos (by omega), dif_pos hr]; simp only [Nat.add_comm]; split <;> rfl
    · rw [dif_neg (by omega), dif_neg hr]; simp only [i2]

/-- The gated convolution's block, where the point finds the rows before its block in `s` unless it is a sequence's first. -/
theorem convOut_at (a : BitVec 32) (s : Vec Ideal S8x1024 .f32) (r : Fin 512) (d : Fin 1024) :
    convOut a x0 x2 x5 x6 s (ix3 0 r d)
      = projRow x0 x2 x5 r ⟨d.val, by omega⟩ * threeTaps (x6 (ix2 0 d)) (x6 (ix2 1 d)) (x6 (ix2 2 d)) (innerRow x0 x2 x5 r d)
          (if r.val < 1 then (if a = 0#32 then 0 else s (ix2 7 d)) else innerRow x0 x2 x5 ⟨r.val - 1, by omega⟩ d)
          (if hr : r.val < 2 then (if a = 0#32 then 0 else s (ix2 ⟨r.val + 6, by omega⟩ d)) else innerRow x0 x2 x5 ⟨r.val - 2, by omega⟩ d) := by
  have e : ∀ v : FVec Ideal S512x1024 .f32, k0_pay2 (k0_pay3 x0 x2) v (seg0 x5) (ix3 0 r d) = projRow x0 x2 x5 r ⟨d.val, by omega⟩ * v (ix2 r d) := by
    intro v
    pointwise [k0_pay2, pay3_at, seg0, projRow, project]
  unfold convOut
  rw [e, conv17_at]
  simp only [convIn_at]
  rw [show tap0 x6 (ix2 0 d) = x6 (ix2 0 d) by pointwise [tap0], show tap1 x6 (ix2 0 d) = x6 (ix2 1 d) by pointwise [tap1],
    show tap2 x6 (ix2 0 d) = x6 (ix2 2 d) by pointwise [tap2]]

/-- The projection's block of the queries. -/
theorem pay19_at (r : Fin 512) (d : Fin 1024) :
    k0_pay19 (k0_pay3 x0 x2) (seg3 x5) (ix2 r d) = projRow x0 x2 x5 r ⟨3072 + d.val, by omega⟩ := by
  pointwise [k0_pay19, pay3_at, seg3, projRow, project]

/-- The projection's block of the keys. -/
theorem pay20_at (r : Fin 512) (d : Fin 1024) :
    k0_pay20 (k0_pay3 x0 x2) (seg4 x5) (ix2 r d) = projRow x0 x2 x5 r ⟨4096 + d.val, by omega⟩ := by
  pointwise [k0_pay20, pay3_at, seg4, projRow, project]

/-- The projection's block of the values, transposed. -/
theorem pay41_at (r : Fin 512) (d : Fin 1024) :
    k0_pay41 (k0_pay3 x0 x2) (seg5 x5) (ix2 d r) = projRow x0 x2 x5 r ⟨5120 + d.val, by omega⟩ := by
  pointwise [k0_pay41, pay3_at, seg5, projRow, project]

/-- The cosines' block. -/
theorem pay11_at (r : Fin 512) (j : Fin 128) :
    k0_pay11 x1 x3 (ix2 r j) = Ideal.cos (number (x1 (ix3 0 r 0)) * x3 (ix2 0 j)) := by
  pointwise [k0_pay11, k0_pay10, number]

/-- The signed sines' block. -/
theorem pay12_at (r : Fin 512) (j : Fin 128) :
    k0_pay12 x1 x3 x4 (ix2 r j) = Ideal.sin (number (x1 (ix3 0 r 0)) * x3 (ix2 0 j)) * x4 (ix2 0 j) := by
  pointwise [k0_pay12, k0_pay10, number]

/-- A block turned by cosines and signed sines, at one of the 128 columns from `o` on. -/
def turned (cs sn : FVec Ideal S512x128 .f32) (t : FVec Ideal S512x1024 .f32) (o : Nat) (ho : o + 128 ≤ 1024) (r : Fin 512) (j : Fin 128) : EReal :=
  t (ix2 r ⟨o + j.val, by omega⟩) * cs (ix2 r j) + t (ix2 r ⟨o + (j.val + 128 - 64) % 128, by omega⟩) * sn (ix2 r j)

/-- One head of the queries. -/
theorem queryHead_at (o : Nat) (ho : S512x1024.Slices ![0, o] S512x128) (ho' : o + 128 ≤ 1024) (cs sn : FVec Ideal S512x128 .f32)
    (q : FVec Ideal S512x1024 .f32) (j : Fin 128) (r : Fin 512) :
    queryHead o ho cs sn q (ix3 0 j r) = turned cs sn q o ho' r j * scale := by
  pointwise [queryHead, turned, scale]

/-- One head of the keys. -/
theorem keyHead_at (o : Nat) (ho : S512x1024.Slices ![0, o] S512x128) (ho' : o + 128 ≤ 1024) (cs sn : FVec Ideal S512x128 .f32)
    (k : FVec Ideal S512x1024 .f32) (r : Fin 512) (j : Fin 128) :
    keyHead o ho cs sn k (ix4 0 0 r j) = turned cs sn k o ho' r j := by
  pointwise [keyHead, turned]

/-- One tile of the values. -/
theorem valueTile_at (r b : Nat) (h : S1024x512.Slices ![r, b] S128x256) (hr : r + 128 ≤ 1024) (hb : b + 256 ≤ 512)
    (v : FVec Ideal S1024x512 .bf16) (j : Fin 128) (k : Fin 256) :
    valueTile r b h v (ix5 0 0 0 j k) = v (ix2 ⟨r + j.val, by omega⟩ ⟨b + k.val, by omega⟩) := by
  pointwise [valueTile]

/-- The rows of ones. -/
theorem ones_at (j : Fin 16) (k : Fin 256) : k0_pay43 (F := Ideal) (ix5 0 0 0 j k) = 1 := by
  pointwise [k0_pay43]

/-- The turned columns by equal coordinates. -/
theorem turned_congr (cs sn : FVec Ideal S512x128 .f32) (t : FVec Ideal S512x1024 .f32) {o o' : Nat} (ho : o + 128 ≤ 1024) (ho' : o' + 128 ≤ 1024)
    {r r' : Fin 512} {j j' : Fin 128} (h1 : o = o') (h2 : r.val = r'.val) (h3 : j.val = j'.val) :
    turned cs sn t o ho r j = turned cs sn t o' ho' r' j' := by
  subst h1; rw [Fin.ext h2, Fin.ext h3]

/-- The block of the queries, entry by entry. -/
def queryBlock (cs sn : FVec Ideal S512x128 .f32) (q : FVec Ideal S512x1024 .f32) (y : S1x1024x512.Idx) : EReal :=
  turned cs sn q ((y 1).val / 128 * 128) (by have : (y 1).val < 1024 := (y 1).isLt; omega) ⟨(y 2).val, (y 2).isLt⟩
    ⟨(y 1).val % 128, Nat.mod_lt _ (by decide)⟩ * scale

/-- A head of the queries is the block's at the rows the head is stored at. -/
theorem query_piece (cs sn : FVec Ideal S512x128 .f32) (q : FVec Ideal S512x1024 .f32) (o : Nat) (h8 : o % 128 = 0) (ho' : o + 128 ≤ 1024)
    (ho : S512x1024.Slices ![0, o] S512x128)
    (hb : ∀ a, (![0, o, 0] : Fin 3 → Nat) a + S1x128x512.size a ≤ S1x1024x512.size a) (x : S1x128x512.Idx) :
    queryHead o ho cs sn q x = queryBlock cs sn q ((Rect.unit (s := S1x1024x512) ![0, o, 0] S1x128x512.size hb).emb x) := by
  obtain ⟨a, j, r, rfl⟩ : ∃ a j r, x = ix3 a j r := ⟨x 0, x 1, x 2, ValueIdx.eq_ix3 x⟩
  obtain rfl : a = 0 := Subsingleton.elim _ _
  have hj : j.val < 128 := j.isLt
  rw [queryHead_at o ho ho']
  refine congrArg (· * scale) (turned_congr cs sn q _ _ ?_ ?_ ?_)
  · show o = (o + 1 * j.val) / 128 * 128; omega
  · show r.val = 0 + 1 * r.val; omega
  · show j.val = (o + 1 * j.val) % 128; omega

/-- The heads of the queries together make the block. -/
theorem queryPieces_eq (cs sn : FVec Ideal S512x128 .f32) (q : FVec Ideal S512x1024 .f32) (y : S1x1024x512.Idx) :
    View.canon (queryPieces cs sn q) y = queryBlock cs sn q y := by
  refine View.canon_apply_of_pieces (queryBlock cs sn q) _ ?_ y (queryPieces_cover cs sn q y)
  unfold queryPieces
  simp only [List.forall_mem_cons, List.not_mem_nil, IsEmpty.forall_iff, implies_true, and_true]
  refine ⟨?_, ?_, ?_, ?_, ?_, ?_, ?_, ?_⟩ <;> refine fun x => query_piece cs sn q _ ?_ ?_ _ _ x <;> decide

/-- The block of the keys, entry by entry. -/
def keyBlock (cs sn : FVec Ideal S512x128 .f32) (k : FVec Ideal S512x1024 .f32) (y : S1x8x512x128.Idx) : EReal :=
  turned cs sn k ((y 1).val * 128) (by have : (y 1).val < 8 := (y 1).isLt; omega) ⟨(y 2).val, (y 2).isLt⟩ ⟨(y 3).val, (y 3).isLt⟩

/-- A head of the keys is the block's at the place the head is stored at. -/
theorem key_piece (cs sn : FVec Ideal S512x128 .f32) (k : FVec Ideal S512x1024 .f32) (o n : Nat) (h8 : o = n * 128) (ho' : o + 128 ≤ 1024)
    (ho : S512x1024.Slices ![0, o] S512x128)
    (hb : ∀ a, (![0, n, 0, 0] : Fin 4 → Nat) a + S1x1x512x128.size a ≤ S1x8x512x128.size a) (x : S1x1x512x128.Idx) :
    keyHead o ho cs sn k x = keyBlock cs sn k ((Rect.unit (s := S1x8x512x128) ![0, n, 0, 0] S1x1x512x128.size hb).emb x) := by
  obtain ⟨a, b, r, j, rfl⟩ : ∃ a b r j, x = ix4 a b r j := ⟨x 0, x 1, x 2, x 3, ValueIdx.eq_ix4 x⟩
  obtain rfl : a = 0 := Subsingleton.elim _ _
  obtain rfl : b = 0 := Subsingleton.elim _ _
  rw [keyHead_at o ho ho']
  refine turned_congr cs sn k _ _ ?_ ?_ ?_
  · show o = (n + 1 * 0) * 128; omega
  · show r.val = 0 + 1 * r.val; omega
  · show j.val = 0 + 1 * j.val; omega

/-- The heads of the keys together make the block. -/
theorem keyPieces_eq (cs sn : FVec Ideal S512x128 .f32) (k : FVec Ideal S512x1024 .f32) (y : S1x8x512x128.Idx) :
    View.canon (keyPieces cs sn k) y = keyBlock cs sn k y := by
  refine View.canon_apply_of_pieces (keyBlock cs sn k) _ ?_ y (keyPieces_cover cs sn k y)
  unfold keyPieces
  simp only [List.forall_mem_cons, List.not_mem_nil, IsEmpty.forall_iff, implies_true, and_true]
  refine ⟨?_, ?_, ?_, ?_, ?_, ?_, ?_, ?_⟩ <;> refine fun x => key_piece cs sn k _ _ ?_ ?_ _ _ x <;> decide

/-- The block of the values, entry by entry. -/
def valueBlock (v : FVec Ideal S1024x512 .bf16) (y : S1x8x2x144x256.Idx) : EReal :=
  if h : (y 3).val < 128 then
    v (ix2 ⟨(y 1).val * 128 + (y 3).val, by have : (y 1).val < 8 := (y 1).isLt; omega⟩
      ⟨(y 2).val * 256 + (y 4).val, by have : (y 2).val < 2 := (y 2).isLt; have : (y 4).val < 256 := (y 4).isLt; omega⟩)
  else 1

/-- A tile of the values is the block's at the place the tile is stored at. -/
theorem value_piece (v : FVec Ideal S1024x512 .bf16) (r b n k : Nat) (h1 : r = n * 128) (h2 : b = k * 256) (hr : r + 128 ≤ 1024) (hc : b + 256 ≤ 512)
    (h : S1024x512.Slices ![r, b] S128x256)
    (hb : ∀ a, (![0, n, k, 0, 0] : Fin 5 → Nat) a + S1x1x1x128x256.size a ≤ S1x8x2x144x256.size a) (x : S1x1x1x128x256.Idx) :
    valueTile r b h v x = valueBlock v ((Rect.unit (s := S1x8x2x144x256) ![0, n, k, 0, 0] S1x1x1x128x256.size hb).emb x) := by
  obtain ⟨a, c, d, i, j, rfl⟩ : ∃ a b c i j, x = ix5 a b c i j := ⟨x 0, x 1, x 2, x 3, x 4, ValueIdx.eq_ix5 x⟩
  obtain rfl : a = 0 := Subsingleton.elim _ _
  obtain rfl : c = 0 := Subsingleton.elim _ _
  obtain rfl : d = 0 := Subsingleton.elim _ _
  have hi : i.val < 128 := i.isLt
  rw [valueTile_at r b h hr hc]
  refine Eq.trans ?_ (dif_pos (show 0 + 1 * i.val < 128 by omega)).symm
  refine congrArg v (congrArg₂ ix2 (Fin.ext ?_) (Fin.ext ?_))
  · show r + i.val = (n + 1 * 0) * 128 + (0 + 1 * i.val); omega
  · show b + j.val = (k + 1 * 0) * 256 + (0 + 1 * j.val); omega

/-- So are the rows of ones. -/
theorem ones_piece (v : FVec Ideal S1024x512 .bf16) (n k : Nat)
    (hb : ∀ a, (![0, n, k, 128, 0] : Fin 5 → Nat) a + S1x1x1x16x256.size a ≤ S1x8x2x144x256.size a) (x : S1x1x1x16x256.Idx) :
    k0_pay43 (F := Ideal) x = valueBlock v ((Rect.unit (s := S1x8x2x144x256) ![0, n, k, 128, 0] S1x1x1x16x256.size hb).emb x) := by
  obtain ⟨a, c, d, i, j, rfl⟩ : ∃ a b c i j, x = ix5 a b c i j := ⟨x 0, x 1, x 2, x 3, x 4, ValueIdx.eq_ix5 x⟩
  obtain rfl : a = 0 := Subsingleton.elim _ _
  obtain rfl : c = 0 := Subsingleton.elim _ _
  obtain rfl : d = 0 := Subsingleton.elim _ _
  rw [ones_at]
  refine Eq.trans ?_ (dif_neg (show ¬ 128 + 1 * i.val < 128 by omega)).symm
  rfl

/-- The tiles of the values and the rows of ones together make the block. -/
theorem valuePieces_eq (v : FVec Ideal S1024x512 .bf16) (y : S1x8x2x144x256.Idx) :
    View.canon (valuePieces v) y = valueBlock v y := by
  refine View.canon_apply_of_pieces (valueBlock v) _ ?_ y (valuePieces_cover v y)
  unfold valuePieces
  simp only [List.forall_mem_cons, List.not_mem_nil, IsEmpty.forall_iff, implies_true, and_true]
  repeat' apply And.intro
  all_goals first
    | exact fun x => ones_piece v _ _ _ x
    | (refine fun x => value_piece v _ _ _ _ ?_ ?_ ?_ ?_ _ _ x <;> decide)

/-- Which sign a column's sine takes. -/
def signOf (j : Fin 128) : EReal := if j.val < 64 then -1 else 1

/-- The turned columns are the specification's, where the rates and the signs are those of a head. -/
theorem turned_eq (hf : ∀ j : Fin 128, x3 (ix2 0 j) = rate ⟨j.val % 64, by omega⟩) (hs : ∀ j : Fin 128, x4 (ix2 0 j) = signOf j)
    (t : FVec Ideal S512x1024 .f32) (o : Nat) (ho : o + 128 ≤ 1024) (r : Fin 512) (j : Fin 128) :
    turned (k0_pay11 x1 x3) (k0_pay12 x1 x3 x4) t o ho r j
      = turn (fun j => t (ix2 r ⟨o + j.val, by omega⟩)) (x1 (ix3 0 r 0)) j := by
  unfold turned
  rw [pay11_at, pay12_at, hf, hs]
  exact turn_eq (fun j => t (ix2 r ⟨o + j.val, by omega⟩)) (x1 (ix3 0 r 0)) j ⟨(j.val + 128 - 64) % 128, by omega⟩
    (by show (j.val + 128 - 64) % 128 = (j.val + 64) % 128; omega) ⟨j.val % 64, by omega⟩ rfl

theorem queryOut_at (hf : ∀ j : Fin 128, x3 (ix2 0 j) = rate ⟨j.val % 64, by omega⟩) (hs : ∀ j : Fin 128, x4 (ix2 0 j) = signOf j)
    (n : Fin 1024) (r : Fin 512) :
    queryOut x0 x1 x2 x3 x4 x5 (ix3 0 n r)
      = turn (fun j => projRow x0 x2 x5 r ⟨3072 + (n.val / 128 * 128 + j.val), by omega⟩) (x1 (ix3 0 r 0)) ⟨n.val % 128, by omega⟩ * scale := by
  refine (queryPieces_eq _ _ _ _).trans ?_
  refine congrArg (· * scale) ((turned_eq x1 x3 x4 hf hs _ (n.val / 128 * 128) (by omega) r ⟨n.val % 128, by omega⟩).trans ?_)
  simp only [pay19_at]

theorem keyOut_at (hf : ∀ j : Fin 128, x3 (ix2 0 j) = rate ⟨j.val % 64, by omega⟩) (hs : ∀ j : Fin 128, x4 (ix2 0 j) = signOf j)
    (h : Fin 8) (r : Fin 512) (j : Fin 128) :
    keyOut x0 x1 x2 x3 x4 x5 (ix4 0 h r j)
      = turn (fun j => projRow x0 x2 x5 r ⟨4096 + (h.val * 128 + j.val), by omega⟩) (x1 (ix3 0 r 0)) j := by
  refine (keyPieces_eq _ _ _ _).trans ?_
  refine (turned_eq x1 x3 x4 hf hs _ (h.val * 128) (by omega) r j).trans ?_
  simp only [pay20_at]

theorem valueOut_at (h : Fin 8) (b : Fin 2) (i : Fin 144) (k : Fin 256) :
    valueOut x0 x2 x5 (ix5 0 h b i k)
      = if hi : i.val < 128 then projRow x0 x2 x5 ⟨b.val * 256 + k.val, by omega⟩ ⟨5120 + (h.val * 128 + i.val), by omega⟩ else 1 := by
  refine (valuePieces_eq _ _).trans ?_
  show (if hi : i.val < 128 then k0_pay41 (k0_pay3 x0 x2) (seg5 x5) (ix2 ⟨h.val * 128 + i.val, by omega⟩ ⟨b.val * 256 + k.val, by omega⟩) else 1) = _
  simp only [pay41_at]

end Cert.InProjIdeal.Proj
-- ==== Proof.InVal.lean ====
/-
  The first kernel's results as arrays of its arguments: every point's blocks are the specification's rows at the
  positions the point covers, the rows before the block being the last rows of the point before.
-/
module

public import proofs.«01_k».proof.Proof.InRun
public import proofs.«01_k».proof.Proof.InPay
public import Idealize.ShloMosaic.Lib.Pipeline.ValueKit

@[expose] public section

set_option maxRecDepth 16384

noncomputable section

namespace Cert.InProjIdeal.Proj

open Cert.InProjIdeal Cert.InProjIdeal.Gen Cert.FfnRow Cert.ProjRow
open Idealize.ShloMosaic Idealize.ShloMosaic.TcCoe Idealize.ShloMosaic.StableHlo
open Idealize.SL Idealize.SL.Sem

variable (m : (ℓ : Loc nD τ sig) → Buf (Elt Ideal) ℓ)

/-- The region finds the rates as a single row, once for each half of a head. -/
theorem V_v7 (c : Dev nD) (j : Fin 128) : V m c main_v7 (ix2 0 j) = rate ⟨j.val % 64, by omega⟩ := by
  have e : V m c main_v7 = broadcastInDim S1x128 ![1] bcast_S128_S1x128_1 (concatenate S128 0
      [⟨S64, Host.exp (mulf (mulf (broadcastInDim S64 ![] bcast_S_S64 (constant (F := Ideal) S_ .f32 0xC1135D8E#32)) (sitofp .f32 (iotaInDim S64 32 0)))
          (broadcastInDim S64 ![] bcast_S_S64 (constant S_ .f32 0x3C800000#32)))⟩,
        ⟨S64, Host.exp (mulf (mulf (broadcastInDim S64 ![] bcast_S_S64 (constant (F := Ideal) S_ .f32 0xC1135D8E#32)) (sitofp .f32 (iotaInDim S64 32 0)))
          (broadcastInDim S64 ![] bcast_S_S64 (constant S_ .f32 0x3C800000#32)))⟩] concatenates_S64_S64_S128_d0) := by
    show StableHlo.after hostOps0 (fun b => m (c, b)) (Proc.devRef .tc main_v7) = _
    after_results
  rw [e]
  pointwise [rate, number]
  by_cases h : j.val < 64
  · rw [dif_pos h, Nat.mod_eq_of_lt h]
  · have e' : j.val % 64 = j.val - 64 := by omega
    rw [dif_neg h, e']

/-- The region finds the signs as a single row. -/
theorem V_v12 (c : Dev nD) (j : Fin 128) : V m c main_v12 (ix2 0 j) = signOf j := by
  have e : V m c main_v12 = broadcastInDim S1x128 ![1] bcast_S128_S1x128_1 (concatenate S128 0
      [⟨S64, Host.negf (broadcastInDim S64 ![] bcast_S_S64 (constant (F := Ideal) S_ .f32 0x3F800000#32))⟩,
        ⟨S64, broadcastInDim S64 ![] bcast_S_S64 (constant (F := Ideal) S_ .f32 0x3F800000#32)⟩] concatenates_S64_S64_S128_d0) := by
    show StableHlo.after hostOps0 (fun b => m (c, b)) (Proc.devRef .tc main_v12) = _
    after_results
  rw [e]
  pointwise [signOf]
  split <;> rfl

/-- The region finds the positions as columns. -/
theorem V_v13 (c : Dev nD) (b : Fin 2) (s : Fin 8192) : V m c main_v13 (ix3 b s 0) = m (c, Proc.devRef .tc main_arg1) (ix2 b s) := by
  have e : V m c main_v13 = broadcastInDim S2x8192x1 ![0, 1] bcast_S2x8192_S2x8192x1_0_1 (m (c, Proc.devRef .tc main_arg1)) := by
    show StableHlo.after hostOps0 (fun b => m (c, b)) (Proc.devRef .tc main_v13) = _
    after_results
  rw [e]
  pointwise []

/-- The region finds the norm's gain as a single row. -/
theorem V_v14 (c : Dev nD) (k : Fin 1024) : V m c main_v14 (ix2 0 k) = m (c, Proc.devRef .tc main_arg2) (ix1 k) := by
  have e : V m c main_v14 = broadcastInDim S1x1024 ![1] bcast_S1024_S1x1024_1 (m (c, Proc.devRef .tc main_arg2)) := by
    show StableHlo.after hostOps0 (fun b => m (c, b)) (Proc.devRef .tc main_v14) = _
    after_results
  rw [e]
  pointwise []

/-- The region finds the joint weights with their numbers unchanged: rounding is the identity on numbers. -/
theorem V_v15 (c : Dev nD) : V m c main_v15 = m (c, Proc.devRef .tc main_arg3) := by
  show StableHlo.after hostOps0 (fun b => m (c, b)) (Proc.devRef .tc main_v15) = _
  after_results
  rfl

/-- The grid's points. -/
theorem point_lt (t : Fin cfg0.N) : t.val < 32 := t.isLt

/-- The sequence point `t` works on. -/
abbrev seqOf (t : Fin cfg0.N) : Fin 2 := ⟨t.val / 16, by have := point_lt t; omega⟩
/-- The position of row `r` of point `t`'s block. -/
abbrev posOf (t : Fin cfg0.N) (r : Fin 512) : Fin 8192 := ⟨t.val % 16 * 512 + r.val, by omega⟩

/-- Where window 0's block lies. -/
theorem index_0 : ∀ t : Fin cfg0.N, win0_0.index t = ![t.val / 16, t.val % 16, 0] :=
  (by decide +kernel : ∀ t : Fin grid0.N, win0_0.index t = ![t.val / 16, t.val % 16, 0])

/-- Window 0's block at an entry. -/
theorem iblk_0 (c : Dev nD) (t : Fin cfg0.N) (r : Fin 512) (k : Fin 1024) :
    iblk m c 0 t (ix3 0 r k) = m (c, Proc.devRef .tc main_arg0) (ix3 (seqOf t) (posOf t r) k) := by
  blk_simp [iblk]
  refine (congrFun (V_main_arg0 m c) _).trans (congrArg (m (c, Proc.devRef .tc main_arg0)) ?_)
  blk_ext [index_0]

/-- Where window 1's block lies. -/
theorem index_1 : ∀ t : Fin cfg0.N, win0_1.index t = ![t.val / 16, t.val % 16, 0] :=
  (by decide +kernel : ∀ t : Fin grid0.N, win0_1.index t = ![t.val / 16, t.val % 16, 0])

/-- Window 1's block at an entry. -/
theorem iblk_1 (c : Dev nD) (t : Fin cfg0.N) (r : Fin 512) :
    iblk m c 1 t (ix3 0 r 0) = m (c, Proc.devRef .tc main_arg1) (ix2 (seqOf t) (posOf t r)) := by
  blk_simp [iblk]
  refine Eq.trans (congrArg (V m c main_v13) ?_) (V_v13 m c (seqOf t) (posOf t r))
  blk_ext [index_1]

/-- Where window 2's block lies. -/
theorem index_2 : ∀ t : Fin cfg0.N, win0_2.index t = ![0, 0] :=
  (by decide +kernel : ∀ t : Fin grid0.N, win0_2.index t = ![0, 0])

/-- Window 2's block at an entry. -/
theorem iblk_2 (c : Dev nD) (t : Fin cfg0.N) (k : Fin 1024) :
    iblk m c 2 t (ix2 0 k) = m (c, Proc.devRef .tc main_arg2) (ix1 k) := by
  blk_simp [iblk]
  refine Eq.trans (congrArg (V m c main_v14) ?_) (V_v14 m c k)
  blk_ext [index_2]

/-- Where window 3's block lies. -/
theorem index_3 : ∀ t : Fin cfg0.N, win0_3.index t = ![0, 0] :=
  (by decide +kernel : ∀ t : Fin grid0.N, win0_3.index t = ![0, 0])

/-- Window 3's block at an entry. -/
theorem iblk_3 (c : Dev nD) (t : Fin cfg0.N) (j : Fin 128) :
    iblk m c 3 t (ix2 0 j) = rate ⟨j.val % 64, by omega⟩ := by
  blk_simp [iblk]
  refine Eq.trans (congrArg (V m c main_v7) ?_) (V_v7 m c j)
  blk_ext [index_3]

/-- Where window 4's block lies. -/
theorem index_4 : ∀ t : Fin cfg0.N, win0_4.index t = ![0, 0] :=
  (by decide +kernel : ∀ t : Fin grid0.N, win0_4.index t = ![0, 0])

/-- Window 4's block at an entry. -/
theorem iblk_4 (c : Dev nD) (t : Fin cfg0.N) (j : Fin 128) :
    iblk m c 4 t (ix2 0 j) = signOf j := by
  blk_simp [iblk]
  refine Eq.trans (congrArg (V m c main_v12) ?_) (V_v12 m c j)
  blk_ext [index_4]

/-- Where window 5's block lies. -/
theorem index_5 : ∀ t : Fin cfg0.N, win0_5.index t = ![0, 0] :=
  (by decide +kernel : ∀ t : Fin grid0.N, win0_5.index t = ![0, 0])

/-- Window 5's block at an entry. -/
theorem iblk_5 (c : Dev nD) (t : Fin cfg0.N) (j : Fin 1024) (k : Fin 8192) :
    iblk m c 5 t (ix2 j k) = m (c, Proc.devRef .tc main_arg3) (ix2 j k) := by
  blk_simp [iblk]
  refine (congrFun (V_v15 m c) _).trans (congrArg (m (c, Proc.devRef .tc main_arg3)) ?_)
  blk_ext [index_5]

/-- Where window 6's block lies. -/
theorem index_6 : ∀ t : Fin cfg0.N, win0_6.index t = ![0, 0] :=
  (by decide +kernel : ∀ t : Fin grid0.N, win0_6.index t = ![0, 0])

/-- Window 6's block at an entry. -/
theorem iblk_6 (c : Dev nD) (t : Fin cfg0.N) (j : Fin 3) (k : Fin 1024) :
    iblk m c 6 t (ix2 j k) = m (c, Proc.devRef .tc main_arg4) (ix2 j k) := by
  blk_simp [iblk]
  refine (congrFun (V_main_arg4 m c) _).trans (congrArg (m (c, Proc.devRef .tc main_arg4)) ?_)
  blk_ext [index_6]

/-- Argument 0 at launch. -/
abbrev arg0 (c : Dev nD) : (⟨3, ![2, 8192, 1024]⟩ : Shape).Idx → EReal := m (c, Proc.devRef .tc main_arg0)
/-- Argument 1 at launch. -/
abbrev arg1 (c : Dev nD) : (⟨2, ![2, 8192]⟩ : Shape).Idx → BitVec 32 := m (c, Proc.devRef .tc main_arg1)
/-- Argument 2 at launch. -/
abbrev arg2 (c : Dev nD) : (⟨1, ![1024]⟩ : Shape).Idx → EReal := m (c, Proc.devRef .tc main_arg2)
/-- Argument 3 at launch. -/
abbrev arg3 (c : Dev nD) : (⟨2, ![1024, 8192]⟩ : Shape).Idx → EReal := m (c, Proc.devRef .tc main_arg3)
/-- Argument 4 at launch. -/
abbrev arg4 (c : Dev nD) : (⟨2, ![3, 1024]⟩ : Shape).Idx → EReal := m (c, Proc.devRef .tc main_arg4)

/-- The block's projected rows are the arrays'. -/
theorem projRow_eq (c : Dev nD) (t : Fin cfg0.N) (r : Fin 512) :
    projRow (iblk m c 0 t) (iblk m c 2 t) (iblk m c 5 t) r = projAt (arg0 m c) (arg2 m c) (arg3 m c) (seqOf t) (posOf t r) := by
  funext n
  unfold projRow projAt
  simp only [iblk_0, iblk_2, iblk_5]

/-- So are the rows that the convolution runs over. -/
theorem innerRow_eq (c : Dev nD) (t : Fin cfg0.N) (r : Fin 512) :
    innerRow (iblk m c 0 t) (iblk m c 2 t) (iblk m c 5 t) r = innerAt (arg0 m c) (arg2 m c) (arg3 m c) (seqOf t) (posOf t r) := by
  funext d
  unfold innerRow innerAt
  simp only [projRow_eq]

/-- The grid's second coordinate. -/
theorem coord_one : ∀ t : Fin cfg0.N, ((grid0.coords t) 1).val = t.val % 16 :=
  (by decide +kernel : ∀ t : Fin grid0.N, ((grid0.coords t) 1).val = t.val % 16)

/-- A point is the first of its sequence exactly when its second coordinate's word is zero. -/
theorem word_zero (t : Fin cfg0.N) : BitVec.ofNat 32 ((grid0.coords t) 1).val = 0#32 ↔ t.val % 16 = 0 := by
  rw [coord_one]
  constructor
  · intro h
    have := congrArg BitVec.toNat h
    rw [BitVec.toNat_ofNat, Nat.mod_eq_of_lt (by omega)] at this
    exact this
  · intro h; rw [h]

/-- A row before the block: zero at a sequence's start, else among the rows the point before left. -/
theorem tail_row (c : Dev nD) (t : Fin cfg0.N) (r : Fin 512) (n : Nat) (hn : 1 ≤ n) (hn8 : n ≤ 8) (hr : r.val < n) (p : Fin 8)
    (hp : p.val = 8 + r.val - n) (q : Fin 1024) :
    (if BitVec.ofNat 32 ((grid0.coords t) 1).val = 0#32 then (0 : EReal) else tailBefore m c t (ix2 p q))
      = innerBefore (arg0 m c) (arg2 m c) (arg3 m c) n (seqOf t) (posOf t r) q := by
  unfold innerBefore
  have ht := point_lt t
  by_cases h : t.val % 16 = 0
  · rw [if_pos ((word_zero t).mpr h), if_neg (by show ¬ n ≤ t.val % 16 * 512 + r.val; omega)]
  · rw [if_neg (fun e => h ((word_zero t).mp e)), if_pos (by show n ≤ t.val % 16 * 512 + r.val; omega)]
    unfold tailBefore tailAt
    rw [tailOut_at, innerRow_eq]
    exact congrFun (congrArg₂ (innerAt (arg0 m c) (arg2 m c) (arg3 m c)) (Fin.ext (by show (t.val - 1) / 16 = t.val / 16; omega))
      (Fin.ext (by show (t.val - 1) % 16 * 512 + (504 + p.val) = t.val % 16 * 512 + r.val - n; omega))) q

/-- A row before, inside the block. -/
theorem before_row (c : Dev nD) (t : Fin cfg0.N) (r : Fin 512) (n : Nat) (hr : n ≤ r.val) (q : Fin 1024) :
    innerRow (iblk m c 0 t) (iblk m c 2 t) (iblk m c 5 t) ⟨r.val - n, by omega⟩ q
      = innerBefore (arg0 m c) (arg2 m c) (arg3 m c) n (seqOf t) (posOf t r) q := by
  rw [innerRow_eq]
  unfold innerBefore
  rw [if_pos (by show n ≤ t.val % 16 * 512 + r.val; omega)]
  exact congrFun (congrArg (innerAt (arg0 m c) (arg2 m c) (arg3 m c) (seqOf t))
    (Fin.ext (by show t.val % 16 * 512 + (r.val - n) = t.val % 16 * 512 + r.val - n; omega))) q

/-- The convolution's block that point `t` leaves, at an entry. -/
theorem convAt_at (c : Dev nD) (t : Fin cfg0.N) (r : Fin 512) (d : Fin 1024) :
    convAt m c t (ix3 0 r d) = convAtOf (arg0 m c) (arg2 m c) (arg3 m c) (arg4 m c) (seqOf t) (posOf t r) d := by
  unfold convAt
  rw [convOut_at]
  unfold convAtOf
  rw [projRow_eq, innerRow_eq]
  refine congrArg (projAt (arg0 m c) (arg2 m c) (arg3 m c) (seqOf t) (posOf t r) ⟨d.val, by omega⟩ * ·) ?_
  rw [iblk_6, iblk_6, iblk_6]
  refine congrArg₂ (threeTaps _ _ _ _) ?_ ?_
  · by_cases hr : r.val < 1
    · rw [if_pos hr]; exact tail_row m c t r 1 (by omega) (by omega) hr 7 (by show 7 = _; omega) d
    · rw [if_neg hr]; exact before_row m c t r 1 (by omega) d
  · by_cases hr : r.val < 2
    · rw [dif_pos hr]; exact tail_row m c t r 2 (by omega) (by omega) hr _ (by show r.val + 6 = _; omega) d
    · rw [dif_neg hr]; exact before_row m c t r 2 (by omega) d

/-- Rows of a block: where each entry lies in the array. -/
theorem rows_eq {G : (⟨3, ![2, 8192, 1024]⟩ : Shape).Idx → EReal} {B : S1x512x1024.Idx → EReal} (t : Fin cfg0.N)
    (hB : ∀ r d, B (ix3 0 r d) = G (ix3 (seqOf t) (posOf t r) d)) (y : S1x512x1024.Idx) (i : S2x8192x1024.Idx)
    (h0 : (i 0).val = t.val / 16) (h1 : (i 1).val = t.val % 16 * 512 + (y 1).val) (h2 : (i 2).val = (y 2).val) : B y = G i := by
  obtain ⟨a, r, d, rfl⟩ : ∃ a r d, y = ix3 a r d := ⟨y 0, y 1, y 2, ValueIdx.eq_ix3 y⟩
  obtain rfl : a = 0 := Subsingleton.elim _ _
  have e : i = ix3 (seqOf t) (posOf t r) d := by
    funext a; fin_cases a
    · exact Fin.ext h0
    · exact Fin.ext h1
    · exact Fin.ext h2
  rw [hB, e]

/-- Where window 12's block lies. -/
theorem index_12 : ∀ t : Fin cfg0.N, win0_12.index t = ![t.val / 16, t.val % 16, 0] :=
  (by decide +kernel : ∀ t : Fin grid0.N, win0_12.index t = ![t.val / 16, t.val % 16, 0])

/-- Where window 13's block lies. -/
theorem index_13 : ∀ t : Fin cfg0.N, win0_13.index t = ![t.val / 16, 0, t.val % 16] :=
  (by decide +kernel : ∀ t : Fin grid0.N, win0_13.index t = ![t.val / 16, 0, t.val % 16])

/-- Where window 14's block lies. -/
theorem index_14 : ∀ t : Fin cfg0.N, win0_14.index t = ![t.val / 16, 0, t.val % 16, 0] :=
  (by decide +kernel : ∀ t : Fin grid0.N, win0_14.index t = ![t.val / 16, 0, t.val % 16, 0])

/-- Where window 15's block lies. -/
theorem index_15 : ∀ t : Fin cfg0.N, win0_15.index t = ![t.val / 16, 0, t.val % 16, 0, 0] :=
  (by decide +kernel : ∀ t : Fin grid0.N, win0_15.index t = ![t.val / 16, 0, t.val % 16, 0, 0])

/-- Where window 16's block lies. -/
theorem index_16 : ∀ t : Fin cfg0.N, win0_16.index t = ![t.val / 16, t.val % 16, 0] :=
  (by decide +kernel : ∀ t : Fin grid0.N, win0_16.index t = ![t.val / 16, t.val % 16, 0])

/-- Where window 17's block lies. -/
theorem index_17 : ∀ t : Fin cfg0.N, win0_17.index t = ![t.val / 16, t.val % 16, 0] :=
  (by decide +kernel : ∀ t : Fin grid0.N, win0_17.index t = ![t.val / 16, t.val % 16, 0])

/-- The convolution's array after the last point. -/
theorem conv_arr (c : Dev nD) : (points m 0 c).arrAt 12 cfg0.N = convArr (arg0 m c) (arg2 m c) (arg3 m c) (arg4 m c) := by
  refine (points m 0 c).arrAt_eq_of_covers 12 _ (by decide +kernel) fun t hf y => ?_
  blk_simp
  rw [after_12]
  refine rows_eq (G := convArr (arg0 m c) (arg2 m c) (arg3 m c) (arg4 m c)) t (fun r d => convAt_at m c t r d) _ _ ?_ ?_ ?_ <;> blk_simp [index_12]

/-- The queries' array after the last point. -/
theorem query_arr (c : Dev nD) : (points m 0 c).arrAt 13 cfg0.N = queryArr (arg0 m c) (arg1 m c) (arg2 m c) (arg3 m c) := by
  refine (points m 0 c).arrAt_eq_of_covers 13 _ (by decide +kernel) fun t hf y => ?_
  blk_simp
  rw [after_13]
  obtain ⟨a, n, r, rfl⟩ : ∃ a n r, y = ix3 a n r := ⟨y 0, y 1, y 2, ValueIdx.eq_ix3 y⟩
  obtain rfl : a = 0 := Subsingleton.elim _ _
  refine (queryOut_at _ _ _ _ _ _ (iblk_3 m c t) (iblk_4 m c t) n r).trans ?_
  rw [projRow_eq, iblk_1]
  refine Eq.trans (b := queryArr (arg0 m c) (arg1 m c) (arg2 m c) (arg3 m c) (ix3 (seqOf t) n (posOf t r))) rfl (congrArg (queryArr (arg0 m c) (arg1 m c) (arg2 m c) (arg3 m c)) ?_)
  blk_ext [index_13]

/-- The keys' array after the last point. -/
theorem key_arr (c : Dev nD) : (points m 0 c).arrAt 14 cfg0.N = keyArr (arg0 m c) (arg1 m c) (arg2 m c) (arg3 m c) := by
  refine (points m 0 c).arrAt_eq_of_covers 14 _ (by decide +kernel) fun t hf y => ?_
  blk_simp
  rw [after_14]
  obtain ⟨a, h, r, j, rfl⟩ : ∃ a h r j, y = ix4 a h r j := ⟨y 0, y 1, y 2, y 3, ValueIdx.eq_ix4 y⟩
  obtain rfl : a = 0 := Subsingleton.elim _ _
  refine (keyOut_at _ _ _ _ _ _ (iblk_3 m c t) (iblk_4 m c t) h r j).trans ?_
  rw [projRow_eq, iblk_1]
  refine Eq.trans (b := keyArr (arg0 m c) (arg1 m c) (arg2 m c) (arg3 m c) (ix4 (seqOf t) h (posOf t r) j)) rfl (congrArg (keyArr (arg0 m c) (arg1 m c) (arg2 m c) (arg3 m c)) ?_)
  blk_ext [index_14]

/-- The values' array after the last point. -/
theorem value_arr (c : Dev nD) : (points m 0 c).arrAt 15 cfg0.N = valueArr (arg0 m c) (arg2 m c) (arg3 m c) := by
  refine (points m 0 c).arrAt_eq_of_covers 15 _ (by decide +kernel) fun t hf y => ?_
  blk_simp
  rw [after_15]
  obtain ⟨a, h, b, i, k, rfl⟩ : ∃ a h b i k, y = ix5 a h b i k := ⟨y 0, y 1, y 2, y 3, y 4, ValueIdx.eq_ix5 y⟩
  obtain rfl : a = 0 := Subsingleton.elim _ _
  refine (valueOut_at _ _ _ h b i k).trans ?_
  have hb : b.val < 2 := b.isLt
  have hk : k.val < 256 := k.isLt
  refine Eq.trans (b := valueArr (arg0 m c) (arg2 m c) (arg3 m c) (ix5 (seqOf t) h ⟨t.val % 16 * 2 + b.val, by omega⟩ i k)) ?_ (congrArg (valueArr (arg0 m c) (arg2 m c) (arg3 m c)) ?_)
  · show _ = valueAtOf (arg0 m c) (arg2 m c) (arg3 m c) (seqOf t) h ⟨t.val % 16 * 2 + b.val, by omega⟩ i k
    unfold valueAtOf
    simp only [projRow_eq]
    by_cases hi : i.val < 128
    · rw [dif_pos hi, dif_pos hi]
      refine congrFun (congrArg (projAt (arg0 m c) (arg2 m c) (arg3 m c) (seqOf t)) (Fin.ext ?_)) _
      show t.val % 16 * 512 + (b.val * 256 + k.val) = (t.val % 16 * 2 + b.val) * 256 + k.val
      omega
    · rw [dif_neg hi, dif_neg hi]
  · blk_ext [index_15]

/-- The convolution branch's gate after the last point. -/
theorem gate6_arr (c : Dev nD) : (points m 0 c).arrAt 16 cfg0.N = gateArr (arg0 m c) (arg2 m c) (arg3 m c) 6144 (by decide) := by
  refine (points m 0 c).arrAt_eq_of_covers 16 _ (by decide +kernel) fun t hf y => ?_
  blk_simp
  rw [after_16]
  refine rows_eq (G := gateArr (arg0 m c) (arg2 m c) (arg3 m c) 6144 (by decide)) t (fun r d => ?_) _ _ ?_ ?_ ?_
  · rw [gate6_at, projRow_eq]; rfl
  all_goals blk_simp [index_16]

/-- The attention branch's gate after the last point. -/
theorem gate7_arr (c : Dev nD) : (points m 0 c).arrAt 17 cfg0.N = gateArr (arg0 m c) (arg2 m c) (arg3 m c) 7168 (by decide) := by
  refine (points m 0 c).arrAt_eq_of_covers 17 _ (by decide +kernel) fun t hf y => ?_
  blk_simp
  rw [after_17]
  refine rows_eq (G := gateArr (arg0 m c) (arg2 m c) (arg3 m c) 7168 (by decide)) t (fun r d => ?_) _ _ ?_ ?_ ?_
  · rw [gate7_at, projRow_eq]; rfl
  all_goals blk_simp [index_17]

/-- Where window 7's block lies. -/
theorem index_7 : ∀ t : Fin cfg0.N, win0_7.index t = ![t.val, 0] :=
  (by decide +kernel : ∀ t : Fin grid0.N, win0_7.index t = ![t.val, 0])

/-- Where window 18's block lies. -/
theorem index_18 : ∀ t : Fin cfg0.N, win0_18.index t = ![t.val, 0] :=
  (by decide +kernel : ∀ t : Fin grid0.N, win0_18.index t = ![t.val, 0])

/-- Argument 5 after the last point, its numbers unchanged. -/
theorem cast5_arr (c : Dev nD) : (points m 0 c).arrAt 18 cfg0.N = m (c, Proc.devRef .tc main_arg5) := by
  refine (points m 0 c).arrAt_eq_of_covers 18 _ (by decide +kernel) fun t hf y => ?_
  blk_simp
  rw [after_18]
  show iblk m c 7 t y = _
  blk_simp [iblk]
  refine (congrFun (V_main_arg5 m c) _).trans (congrArg (m (c, Proc.devRef .tc main_arg5)) ?_)
  blk_ext [index_7, index_18]

/-- Where window 8's block lies. -/
theorem index_8 : ∀ t : Fin cfg0.N, win0_8.index t = ![t.val, 0] :=
  (by decide +kernel : ∀ t : Fin grid0.N, win0_8.index t = ![t.val, 0])

/-- Where window 19's block lies. -/
theorem index_19 : ∀ t : Fin cfg0.N, win0_19.index t = ![t.val, 0] :=
  (by decide +kernel : ∀ t : Fin grid0.N, win0_19.index t = ![t.val, 0])

/-- Argument 6 after the last point, its numbers unchanged. -/
theorem cast6_arr (c : Dev nD) : (points m 0 c).arrAt 19 cfg0.N = m (c, Proc.devRef .tc main_arg6) := by
  refine (points m 0 c).arrAt_eq_of_covers 19 _ (by decide +kernel) fun t hf y => ?_
  blk_simp
  rw [after_19]
  show iblk m c 8 t y = _
  blk_simp [iblk]
  refine (congrFun (V_main_arg6 m c) _).trans (congrArg (m (c, Proc.devRef .tc main_arg6)) ?_)
  blk_ext [index_8, index_19]

/-- Where window 9's block lies. -/
theorem index_9 : ∀ t : Fin cfg0.N, win0_9.index t = ![t.val, 0] :=
  (by decide +kernel : ∀ t : Fin grid0.N, win0_9.index t = ![t.val, 0])

/-- Where window 20's block lies. -/
theorem index_20 : ∀ t : Fin cfg0.N, win0_20.index t = ![t.val, 0] :=
  (by decide +kernel : ∀ t : Fin grid0.N, win0_20.index t = ![t.val, 0])

/-- Argument 7 after the last point, its numbers unchanged. -/
theorem cast7_arr (c : Dev nD) : (points m 0 c).arrAt 20 cfg0.N = m (c, Proc.devRef .tc main_arg7) := by
  refine (points m 0 c).arrAt_eq_of_covers 20 _ (by decide +kernel) fun t hf y => ?_
  blk_simp
  rw [after_20]
  show iblk m c 9 t y = _
  blk_simp [iblk]
  refine (congrFun (V_main_arg7 m c) _).trans (congrArg (m (c, Proc.devRef .tc main_arg7)) ?_)
  blk_ext [index_9, index_20]

/-- Where window 10's block lies. -/
theorem index_10 : ∀ t : Fin cfg0.N, win0_10.index t = ![t.val, 0] :=
  (by decide +kernel : ∀ t : Fin grid0.N, win0_10.index t = ![t.val, 0])

/-- Where window 21's block lies. -/
theorem index_21 : ∀ t : Fin cfg0.N, win0_21.index t = ![t.val, 0] :=
  (by decide +kernel : ∀ t : Fin grid0.N, win0_21.index t = ![t.val, 0])

/-- Argument 8 after the last point, its numbers unchanged. -/
theorem cast8_arr (c : Dev nD) : (points m 0 c).arrAt 21 cfg0.N = m (c, Proc.devRef .tc main_arg8) := by
  refine (points m 0 c).arrAt_eq_of_covers 21 _ (by decide +kernel) fun t hf y => ?_
  blk_simp
  rw [after_21]
  show iblk m c 10 t y = _
  blk_simp [iblk]
  refine (congrFun (V_main_arg8 m c) _).trans (congrArg (m (c, Proc.devRef .tc main_arg8)) ?_)
  blk_ext [index_10, index_21]

/-- Where window 11's block lies. -/
theorem index_11 : ∀ t : Fin cfg0.N, win0_11.index t = ![min t.val 15, 0] :=
  (by decide +kernel : ∀ t : Fin grid0.N, win0_11.index t = ![min t.val 15, 0])

/-- Where window 22's block lies. -/
theorem index_22 : ∀ t : Fin cfg0.N, win0_22.index t = ![min t.val 15, 0] :=
  (by decide +kernel : ∀ t : Fin grid0.N, win0_22.index t = ![min t.val 15, 0])

/-- Argument 9 after the last point, its numbers unchanged. -/
theorem cast9_arr (c : Dev nD) : (points m 0 c).arrAt 22 cfg0.N = m (c, Proc.devRef .tc main_arg9) := by
  refine (points m 0 c).arrAt_eq_of_covers 22 _ (by decide +kernel) fun t hf y => ?_
  blk_simp
  rw [after_22]
  show iblk m c 11 t y = _
  blk_simp [iblk]
  refine (congrFun (V_main_arg9 m c) _).trans (congrArg (m (c, Proc.devRef .tc main_arg9)) ?_)
  blk_ext [index_11, index_22]

/-- The arguments end as they began, and every semaphore at zero, at any arithmetic. -/
theorem frame {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨
    ((h.1 c).1 0).trans (((points m 0 c).arrAt_in 0 rfl _).trans ((points_A m c 0).trans (V_main_arg0 m c))),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).1 6).trans (((points m 0 c).arrAt_in 6 rfl _).trans ((points_A m c 6).trans (V_main_arg4 m c))),
    ((h.1 c).1 7).trans (((points m 0 c).arrAt_in 7 rfl _).trans ((points_A m c 7).trans (V_main_arg5 m c))),
    ((h.1 c).1 8).trans (((points m 0 c).arrAt_in 8 rfl _).trans ((points_A m c 8).trans (V_main_arg6 m c))),
    ((h.1 c).1 9).trans (((points m 0 c).arrAt_in 9 rfl _).trans ((points_A m c 9).trans (V_main_arg7 m c))),
    ((h.1 c).1 10).trans (((points m 0 c).arrAt_in 10 rfl _).trans ((points_A m c 10).trans (V_main_arg8 m c))),
    ((h.1 c).1 11).trans (((points m 0 c).arrAt_in 11 rfl _).trans ((points_A m c 11).trans (V_main_arg9 m c)))⟩, h.2⟩) (run m ρ)

set_option maxHeartbeats 1600000 in
/-- The results end at the specification's arrays of the arguments, which end as they began. -/
theorem value (ρ : Dev nD → PrngReg) :
    θ_run defs (onTc (τ := τ) (main (F := Ideal))) ⟨m, fun _ => 0, ρ⟩ (fun r => ∀ c : Dev nD,
      r.2.mem ((c.tc : Thread nD τ).loc main_v16_0) = convArr (arg0 m c) (arg2 m c) (arg3 m c) (arg4 m c)
      ∧ r.2.mem ((c.tc : Thread nD τ).loc main_v16_1) = queryArr (arg0 m c) (arg1 m c) (arg2 m c) (arg3 m c)
      ∧ r.2.mem ((c.tc : Thread nD τ).loc main_v16_2) = keyArr (arg0 m c) (arg1 m c) (arg2 m c) (arg3 m c)
      ∧ r.2.mem ((c.tc : Thread nD τ).loc main_v16_3) = valueArr (arg0 m c) (arg2 m c) (arg3 m c)
      ∧ r.2.mem ((c.tc : Thread nD τ).loc main_v16_4) = gateArr (arg0 m c) (arg2 m c) (arg3 m c) 6144 (by decide)
      ∧ r.2.mem ((c.tc : Thread nD τ).loc main_v16_5) = gateArr (arg0 m c) (arg2 m c) (arg3 m c) 7168 (by decide)
      ∧ r.2.mem ((c.tc : Thread nD τ).loc main_v16_6) = m (c, Proc.devRef .tc main_arg5)
      ∧ r.2.mem ((c.tc : Thread nD τ).loc main_v16_7) = m (c, Proc.devRef .tc main_arg6)
      ∧ r.2.mem ((c.tc : Thread nD τ).loc main_v16_8) = m (c, Proc.devRef .tc main_arg7)
      ∧ r.2.mem ((c.tc : Thread nD τ).loc main_v16_9) = m (c, Proc.devRef .tc main_arg8)
      ∧ r.2.mem ((c.tc : Thread nD τ).loc main_v16_10) = m (c, Proc.devRef .tc main_arg9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    ((h.1 c).1 12).trans (conv_arr m c),
    ((h.1 c).1 13).trans (query_arr m c),
    ((h.1 c).1 14).trans (key_arr m c),
    ((h.1 c).1 15).trans (value_arr m c),
    ((h.1 c).1 16).trans (gate6_arr m c),
    ((h.1 c).1 17).trans (gate7_arr m c),
    ((h.1 c).1 18).trans (cast5_arr m c),
    ((h.1 c).1 19).trans (cast6_arr m c),
    ((h.1 c).1 20).trans (cast7_arr m c),
    ((h.1 c).1 21).trans (cast8_arr m c),
    ((h.1 c).1 22).trans (cast9_arr m c),
    ((h.1 c).1 0).trans (((points m 0 c).arrAt_in 0 rfl _).trans ((points_A m c 0).trans (V_main_arg0 m c))),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).1 6).trans (((points m 0 c).arrAt_in 6 rfl _).trans ((points_A m c 6).trans (V_main_arg4 m c))),
    ((h.1 c).1 7).trans (((points m 0 c).arrAt_in 7 rfl _).trans ((points_A m c 7).trans (V_main_arg5 m c))),
    ((h.1 c).1 8).trans (((points m 0 c).arrAt_in 8 rfl _).trans ((points_A m c 8).trans (V_main_arg6 m c))),
    ((h.1 c).1 9).trans (((points m 0 c).arrAt_in 9 rfl _).trans ((points_A m c 9).trans (V_main_arg7 m c))),
    ((h.1 c).1 10).trans (((points m 0 c).arrAt_in 10 rfl _).trans ((points_A m c 10).trans (V_main_arg8 m c))),
    ((h.1 c).1 11).trans (((points m 0 c).arrAt_in 11 rfl _).trans ((points_A m c 11).trans (V_main_arg9 m c)))⟩) (run m ρ)

end Cert.InProjIdeal.Proj
-- ==== Proof.InRef.lean ====
/-
  What the first kernel's reference computes: each of its stages, read at an entry, is the row function of the
  specification.
-/
module

public import proofs.«01_k».proof.Proof.Gen.InProjReferenceIdeal.Run
public import proofs.«01_k».proof.Proof.InSpec

@[expose] public section

set_option maxRecDepth 16384

noncomputable section

namespace Cert.InProjReferenceIdeal.Stage

open Cert.InProjReferenceIdeal Cert.InProjReferenceIdeal.Gen Cert.InProjReferenceIdeal.Value Cert.FfnRow Cert.ProjRow
open Idealize.ShloMosaic Idealize.ShloMosaic.TcCoe Idealize.ShloMosaic.StableHlo
open Idealize.SL Idealize.SL.Sem

variable (x : FVec Ideal S2x8192x1024 .f32) (pos : Vec Ideal S2x8192 .i32) (g : FVec Ideal S1024 .f32) (w : FVec Ideal S1024x8192 .f32)
  (c : FVec Ideal S3x1024 .f32) (p : FVec Ideal S2x8192x8192 .f32) (t : FVec Ideal S2x8x8192x128 .f32)

/-- The norm and the joint projection. -/
def projected : FVec Ideal S2x8192x8192 .f32 :=
  Host.dotGeneral dot_S2x8192x1024_S1024x8192_S2x8192x8192_2_0_01_1_n_n none (mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))) w

/-- The product that the convolution runs over, two zero rows before it. -/
def padded : FVec Ideal S2x8194x1024 .f32 :=
  pad S2x8194x1024 ![0, 2, 0] ![0, 0, 0] ![0, 0, 0] (mulf (extractStridedSlice S2x8192x1024 ![0, 0, 1024] p slices_S2x8192x8192_S2x8192x1024_0_0_1024)
    (extractStridedSlice S2x8192x1024 ![0, 0, 2048] p slices_S2x8192x8192_S2x8192x1024_0_0_2048)) (sitofp .f32 (constantI S_ 32 0#32)) pads_S2x8192x1024_S2x8194x1024_000_200_000 h_S_

/-- The gated convolution. -/
def convolved : FVec Ideal S2x8192x1024 .f32 :=
  mulf (extractStridedSlice S2x8192x1024 ![0, 0, 0] p slices_S2x8192x8192_S2x8192x1024_0_0_0)
    (addf (addf (addf (broadcastInDim S2x8192x1024 ![] bcast_S_S2x8192x1024 (constant S_ .f32 0x00000000#32))
      (mulf (extractStridedSlice S2x8192x1024 ![0, 0, 0] (padded p) slices_S2x8194x1024_S2x8192x1024_0_0_0)
        (broadcastInDim S2x8192x1024 ![0, 1, 2] bcast_S1x1x1024_S2x8192x1024_0_1_2 (broadcastInDim S1x1x1024 ![2] bcast_S1024_S1x1x1024_2
          (shapeCast _ (extractStridedSlice S1x1024 ![0, 0] c slices_S3x1024_S1x1024_0_0) shapeCasts_S1x1024_S1024)))))
      (mulf (extractStridedSlice S2x8192x1024 ![0, 1, 0] (padded p) slices_S2x8194x1024_S2x8192x1024_0_1_0)
        (broadcastInDim S2x8192x1024 ![0, 1, 2] bcast_S1x1x1024_S2x8192x1024_0_1_2 (broadcastInDim S1x1x1024 ![2] bcast_S1024_S1x1x1024_2
          (shapeCast _ (extractStridedSlice S1x1024 ![1, 0] c slices_S3x1024_S1x1024_1_0) shapeCasts_S1x1024_S1024)))))
      (mulf (extractStridedSlice S2x8192x1024 ![0, 2, 0] (padded p) slices_S2x8194x1024_S2x8192x1024_0_2_0)
        (broadcastInDim S2x8192x1024 ![0, 1, 2] bcast_S1x1x1024_S2x8192x1024_0_1_2 (broadcastInDim S1x1x1024 ![2] bcast_S1024_S1x1x1024_2
          (shapeCast _ (extractStridedSlice S1x1024 ![2, 0] c slices_S3x1024_S1x1024_2_0) shapeCasts_S1x1024_S1024)))))

/-- The 1024 columns from `o` on as eight heads. -/
def headsOf (o : Nat) (ho : S2x8192x8192.Slices ![0, 0, o] S2x8192x1024) : FVec Ideal S2x8x8192x128 .f32 :=
  transpose S2x8x8192x128 [0, 2, 1, 3] (shapeCast S2x8192x8x128 (extractStridedSlice S2x8192x1024 ![0, 0, o] p ho)
    shapeCasts_S2x8192x1024_S2x8192x8x128) transposes_S2x8192x8x128_S2x8x8192x128_0_2_1_3

/-- The angles of the positions. -/
def angles : FVec Ideal S2x1x8192x64 .f32 :=
  mulf (broadcastInDim S2x1x8192x64 ![0, 1, 2, 3] bcast_S2x1x8192x1_S2x1x8192x64_0_1_2_3 (broadcastInDim S2x1x8192x1 ![0, 2] bcast_S2x8192_S2x1x8192x1_0_2 (sitofp .f32 pos)))
    (broadcastInDim S2x1x8192x64 ![0, 1, 2, 3] bcast_S1x1x1x64_S2x1x8192x64_0_1_2_3 (broadcastInDim S1x1x1x64 ![3] bcast_S64_S1x1x1x64_3
      (Host.exp (mulf (mulf (broadcastInDim S64 ![] bcast_S_S64 (constant S_ .f32 0xC1135D8E#32)) (sitofp .f32 (iotaInDim S64 32 0))) (broadcastInDim S64 ![] bcast_S_S64 (constant S_ .f32 0x3C800000#32))))))

/-- Heads turned by their positions' angles. -/
def rotated : FVec Ideal S2x8x8192x128 .f32 :=
  concatenate S2x8x8192x128 3
    [⟨S2x8x8192x64, subf (mulf (extractStridedSlice S2x8x8192x64 ![0, 0, 0, 0] t slices_S2x8x8192x128_S2x8x8192x64_0_0_0_0) (broadcastInDim S2x8x8192x64 ![0, 1, 2, 3] bcast_S2x1x8192x64_S2x8x8192x64_0_1_2_3 (Host.cos (angles pos)))) (mulf (extractStridedSlice S2x8x8192x64 ![0, 0, 0, 64] t slices_S2x8x8192x128_S2x8x8192x64_0_0_0_64) (broadcastInDim S2x8x8192x64 ![0, 1, 2, 3] bcast_S2x1x8192x64_S2x8x8192x64_0_1_2_3 (Host.sin (angles pos))))⟩,
      ⟨S2x8x8192x64, addf (mulf (extractStridedSlice S2x8x8192x64 ![0, 0, 0, 64] t slices_S2x8x8192x128_S2x8x8192x64_0_0_0_64) (broadcastInDim S2x8x8192x64 ![0, 1, 2, 3] bcast_S2x1x8192x64_S2x8x8192x64_0_1_2_3 (Host.cos (angles pos)))) (mulf (extractStridedSlice S2x8x8192x64 ![0, 0, 0, 0] t slices_S2x8x8192x128_S2x8x8192x64_0_0_0_0) (broadcastInDim S2x8x8192x64 ![0, 1, 2, 3] bcast_S2x1x8192x64_S2x8x8192x64_0_1_2_3 (Host.sin (angles pos))))⟩]
    concatenates_S2x8x8192x64_S2x8x8192x64_S2x8x8192x128_d3

/-- The turned queries scaled, in the layout in which the attention takes them. -/
def queries : FVec Ideal S2x1024x8192 .f32 :=
  shapeCast S2x1024x8192 (transpose S2x8x128x8192 [0, 1, 3, 2] (mulf (rotated pos t) (broadcastInDim S2x8x8192x128 ![] bcast_S_S2x8x8192x128 (constant S_ .f32 0x3E0293EE#32)))
    transposes_S2x8x8192x128_S2x8x128x8192_0_1_3_2) shapeCasts_S2x8x128x8192_S2x1024x8192

/-- The values in the layout in which the attention takes them. -/
def values : FVec Ideal S2x8x32x144x256 .f32 :=
  concatenate S2x8x32x144x256 3 [⟨S2x8x32x128x256, transpose S2x8x32x128x256 [0, 1, 2, 4, 3]
      (shapeCast S2x8x32x256x128 t shapeCasts_S2x8x8192x128_S2x8x32x256x128) transposes_S2x8x32x256x128_S2x8x32x128x256_0_1_2_4_3⟩,
    ⟨S2x8x32x16x256, broadcastInDim S2x8x32x16x256 ![] bcast_S_S2x8x32x16x256 (constant (F := Ideal) S_ .f32 0x3F800000#32)⟩]
    concatenates_S2x8x32x128x256_S2x8x32x16x256_S2x8x32x144x256_d3

/-- A gate made of the 1024 columns from `o` on. -/
def gated (o : Nat) (ho : S2x8192x8192.Slices ![0, 0, o] S2x8192x1024) : FVec Ideal S2x8192x1024 .f32 :=
  Host.divf (broadcastInDim S2x8192x1024 ![] bcast_S_S2x8192x1024 (constant S_ .f32 0x3F800000#32))
    (addf (broadcastInDim S2x8192x1024 ![] bcast_S_S2x8192x1024 (constant S_ .f32 0x3F800000#32))
      (Host.exp (Host.negf (extractStridedSlice S2x8192x1024 ![0, 0, o] p ho))))

theorem projected_at (b : Fin 2) (s n : Fin 8192) : projected x g w (ix3 b s n) = projAt x g w b s n := by
  pointwise [projected, projAt, project, rmsRow, width, tiny]

theorem padded_at (b : Fin 2) (s : Fin 8194) (d : Fin 1024) :
    padded (projected x g w) (ix3 b s d) = if h : 2 ≤ s.val then innerAt x g w b ⟨s.val - 2, by omega⟩ d else 0 := by
  pointwise [padded, projected_at, innerAt]
  by_cases h : 2 ≤ s.val
  · rw [dif_pos ⟨h, by omega⟩, dif_pos h]
  · rw [dif_neg (fun hh => h hh.1), dif_neg h]
    show (((0#32 : BitVec 32).toInt : ℝ) : EReal) = 0
    simp

theorem convolved_at (b : Fin 2) (s : Fin 8192) (d : Fin 1024) :
    convolved c (projected x g w) (ix3 b s d) = convAtOf x g w c b s d := by
  pointwise [convolved, padded_at, projected_at, convAtOf, threeTaps, innerBefore]
  have e : ∀ h, (⟨1 + s.val - 2, h⟩ : Fin 8192) = ⟨s.val - 1, by omega⟩ := fun h => Fin.ext (by show 1 + s.val - 2 = s.val - 1; omega)
  have c : (2 ≤ 1 + s.val) = (1 ≤ s.val) := propext (by omega)
  refine congrArg (projAt x g w b s ⟨d.val, by omega⟩ * ·) ?_
  simp only [e, c, dite_eq_ite]
  rw [add_assoc, add_comm, add_comm (_ * _) (_ * _)]
  exact congrArg₂ (· + ·) (congrArg₂ (· + ·) (mul_comm _ _) (mul_comm _ _)) (mul_comm _ _)

theorem headsOf_at (o : Nat) (ho : S2x8192x8192.Slices ![0, 0, o] S2x8192x1024) (ho' : o + 1024 ≤ 8192)
    (b : Fin 2) (h : Fin 8) (s : Fin 8192) (j : Fin 128) :
    headsOf p o ho (ix4 b h s j) = p (ix3 b s ⟨o + (h.val * 128 + j.val), by omega⟩) := by
  pointwise [headsOf]

theorem rotated_at (b : Fin 2) (h : Fin 8) (s : Fin 8192) (j : Fin 128) :
    rotated pos t (ix4 b h s j) = turn (fun j => t (ix4 b h s j)) (pos (ix2 b s)) j := by
  pointwise [rotated, angles, turn, angle, rate, number]
  by_cases hj : j.val < 64
  · rw [dif_pos hj, dif_pos hj]
  · have e : ∀ h, (⟨64 + (j.val - 64), h⟩ : Fin 128) = j := fun h => Fin.ext (by show 64 + (j.val - 64) = j.val; omega)
    rw [dif_neg hj, dif_neg hj]
    simp only [e]

theorem queries_at (b : Fin 2) (n : Fin 1024) (s : Fin 8192) :
    queries pos t (ix3 b n s) = turn (fun j => t (ix4 b ⟨n.val / 128, by omega⟩ s j)) (pos (ix2 b s)) ⟨n.val % 128, by omega⟩ * scale := by
  pointwise [queries, rotated_at, scale]

theorem values_at (b : Fin 2) (h : Fin 8) (n : Fin 32) (r : Fin 144) (k : Fin 256) :
    values t (ix5 b h n r k) = if hr : r.val < 128 then t (ix4 b h ⟨n.val * 256 + k.val, by omega⟩ ⟨r.val, hr⟩) else 1 := by
  pointwise [values]

theorem gated_at (o : Nat) (ho : S2x8192x8192.Slices ![0, 0, o] S2x8192x1024) (ho' : o + 1024 ≤ 8192) (b : Fin 2) (s : Fin 8192) (d : Fin 1024) :
    gated p o ho (ix3 b s d) = sigmoid (p (ix3 b s ⟨o + d.val, by omega⟩)) := by
  pointwise [gated, sigmoid, zero_sub]

/-- The convolution, the whole array. -/
theorem convolved_eq : convolved c (projected x g w) = convArr x g w c := by
  funext i
  obtain ⟨a, b, d, rfl⟩ : ∃ a b d, i = ix3 a b d := ⟨i 0, i 1, i 2, ValueIdx.eq_ix3 i⟩
  exact convolved_at x g w c _ _ _

/-- The queries, the whole array. -/
theorem queries_eq : queries pos (headsOf (projected x g w) 3072 slices_S2x8192x8192_S2x8192x1024_0_0_3072) = queryArr x pos g w := by
  funext i
  obtain ⟨a, b, d, rfl⟩ : ∃ a b d, i = ix3 a b d := ⟨i 0, i 1, i 2, ValueIdx.eq_ix3 i⟩
  rw [queries_at]
  simp only [headsOf_at _ 3072 _ (by decide), projected_at]
  rfl

/-- The keys, the whole array. -/
theorem keys_eq : rotated pos (headsOf (projected x g w) 4096 slices_S2x8192x8192_S2x8192x1024_0_0_4096) = keyArr x pos g w := by
  funext i
  obtain ⟨a, b, d, e, rfl⟩ : ∃ a b d e, i = ix4 a b d e := ⟨i 0, i 1, i 2, i 3, ValueIdx.eq_ix4 i⟩
  rw [rotated_at]
  simp only [headsOf_at _ 4096 _ (by decide), projected_at]
  rfl

/-- The values, the whole array. -/
theorem values_eq : values (headsOf (projected x g w) 5120 slices_S2x8192x8192_S2x8192x1024_0_0_5120) = valueArr x g w := by
  funext i
  obtain ⟨a, b, d, e, f, rfl⟩ : ∃ a b d e f, i = ix5 a b d e f := ⟨i 0, i 1, i 2, i 3, i 4, ValueIdx.eq_ix5 i⟩
  rw [values_at]
  simp only [headsOf_at _ 5120 _ (by decide), projected_at]
  rfl

/-- A gate, the whole array. -/
theorem gated_eq (o : Nat) (ho : S2x8192x8192.Slices ![0, 0, o] S2x8192x1024) (ho' : o + 1024 ≤ 8192) :
    gated (projected x g w) o ho = gateArr x g w o ho' := by
  funext i
  obtain ⟨a, b, d, rfl⟩ : ∃ a b d, i = ix3 a b d := ⟨i 0, i 1, i 2, ValueIdx.eq_ix3 i⟩
  rw [gated_at _ o ho ho', projected_at]
  rfl

variable (m : (ℓ : Loc nD τ sig) → Buf (Elt Ideal) ℓ)

/-- An argument at launch. -/
abbrev arg0 (c : Dev nD) : (⟨3, ![2, 8192, 1024]⟩ : Shape).Idx → EReal := (m ((c.tc : Thread nD τ).loc main_arg0))
abbrev arg1 (c : Dev nD) : (⟨2, ![2, 8192]⟩ : Shape).Idx → BitVec 32 := (m ((c.tc : Thread nD τ).loc main_arg1))
abbrev arg2 (c : Dev nD) : (⟨1, ![1024]⟩ : Shape).Idx → EReal := (m ((c.tc : Thread nD τ).loc main_arg2))
abbrev arg3 (c : Dev nD) : (⟨2, ![1024, 8192]⟩ : Shape).Idx → EReal := (m ((c.tc : Thread nD τ).loc main_arg3))
abbrev arg4 (c : Dev nD) : (⟨2, ![3, 1024]⟩ : Shape).Idx → EReal := (m ((c.tc : Thread nD τ).loc main_arg4))

/-- The reference's first result. -/
theorem v127_eq (c : Dev nD) : res_main_v127 m c = convArr (arg0 m c) (arg2 m c) (arg3 m c) (arg4 m c) :=
  (show res_main_v127 m c = convolved (arg4 m c) (projected (arg0 m c) (arg2 m c) (arg3 m c)) by unfold res_main_v127; rfl).trans (convolved_eq _ _ _ _)

/-- The reference's queries. -/
theorem v128_eq (c : Dev nD) : res_main_v128 m c = queryArr (arg0 m c) (arg1 m c) (arg2 m c) (arg3 m c) :=
  (show res_main_v128 m c = queries (arg1 m c) (headsOf (projected (arg0 m c) (arg2 m c) (arg3 m c)) 3072 slices_S2x8192x8192_S2x8192x1024_0_0_3072) by
    unfold res_main_v128; rfl).trans (queries_eq _ _ _ _)

/-- The reference's keys. -/
theorem v129_eq (c : Dev nD) : res_main_v129 m c = keyArr (arg0 m c) (arg1 m c) (arg2 m c) (arg3 m c) :=
  (show res_main_v129 m c = rotated (arg1 m c) (headsOf (projected (arg0 m c) (arg2 m c) (arg3 m c)) 4096 slices_S2x8192x8192_S2x8192x1024_0_0_4096) by
    unfold res_main_v129; rfl).trans (keys_eq _ _ _ _)

/-- The reference's results are the specification's arrays of the arguments, which end as they began. -/
theorem value (ρ : Dev nD → PrngReg) :
    θ_run defs (onTc (τ := τ) (main (F := Ideal))) ⟨m, fun _ => 0, ρ⟩ (fun r => ∀ c : Dev nD,
      r.2.mem ((c.tc : Thread nD τ).loc main_v127) = convArr (arg0 m c) (arg2 m c) (arg3 m c) (arg4 m c)
      ∧ r.2.mem ((c.tc : Thread nD τ).loc main_v128) = queryArr (arg0 m c) (arg1 m c) (arg2 m c) (arg3 m c)
      ∧ r.2.mem ((c.tc : Thread nD τ).loc main_v129) = keyArr (arg0 m c) (arg1 m c) (arg2 m c) (arg3 m c)
      ∧ r.2.mem ((c.tc : Thread nD τ).loc main_v130) = valueArr (arg0 m c) (arg2 m c) (arg3 m c)
      ∧ r.2.mem ((c.tc : Thread nD τ).loc main_v131) = gateArr (arg0 m c) (arg2 m c) (arg3 m c) 6144 (by decide)
      ∧ r.2.mem ((c.tc : Thread nD τ).loc main_v132) = gateArr (arg0 m c) (arg2 m c) (arg3 m c) 7168 (by decide)
      ∧ r.2.mem ((c.tc : Thread nD τ).loc main_v133) = m ((c.tc : Thread nD τ).loc main_arg5)
      ∧ r.2.mem ((c.tc : Thread nD τ).loc main_v134) = m ((c.tc : Thread nD τ).loc main_arg6)
      ∧ r.2.mem ((c.tc : Thread nD τ).loc main_v135) = m ((c.tc : Thread nD τ).loc main_arg7)
      ∧ r.2.mem ((c.tc : Thread nD τ).loc main_v136) = m ((c.tc : Thread nD τ).loc main_arg8)
      ∧ r.2.mem ((c.tc : Thread nD τ).loc main_v137) = m ((c.tc : Thread nD τ).loc main_arg9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => by
    obtain ⟨h0, h1, h2, h3, h4, h5, h6, h7, h8, h9, h10, a0, a1, a2, a3, a4, a5, a6, a7, a8, a9⟩ := h c
    exact ⟨h0.trans (v127_eq m c), h1.trans (v128_eq m c), h2.trans (v129_eq m c),
      h3.trans (values_eq (arg0 m c) (arg2 m c) (arg3 m c)),
      h4.trans (gated_eq (arg0 m c) (arg2 m c) (arg3 m c) 6144 slices_S2x8192x8192_S2x8192x1024_0_0_6144 (by decide)),
      h5.trans (gated_eq (arg0 m c) (arg2 m c) (arg3 m c) 7168 slices_S2x8192x8192_S2x8192x1024_0_0_7168 (by decide)),
      h6, h7, h8, h9, h10, a0, a1, a2, a3, a4, a5, a6, a7, a8, a9⟩) (run m ρ)

/-- The arguments end as they began, and every semaphore at zero. -/
theorem frame (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => by
    obtain ⟨h0, h1, h2, h3, h4, h5, h6, h7, h8, h9, h10, a0, a1, a2, a3, a4, a5, a6, a7, a8, a9⟩ := h c
    exact ⟨a0, a1, a2, a3, a4, a5, a6, a7, a8, a9⟩, Idealize.ShloMosaic.sem_eq_zero_of_no_sems (by decide) r.2⟩) (run m ρ)

end Cert.InProjReferenceIdeal.Stage
-- ==== Proof.lean ====
/-
  The certificate: the frames of the layer's three kernels, and the values of the first and of the last against the
  reference's lines for them.
-/
module

public import proofs.«01_k».proof.Defs
public import proofs.«01_k».proof.Proof.Gen.Kernel
public import proofs.«01_k».proof.Proof.Gen.KernelIdeal
public import proofs.«01_k».proof.Proof.Gen.OutFfn
public import proofs.«01_k».proof.Proof.Gen.OutFfnIdeal
public import proofs.«01_k».proof.Proof.Gen.OutFfnReferenceIdeal
public import proofs.«01_k».proof.Proof.Gen.InProj
public import proofs.«01_k».proof.Proof.Gen.InProjIdeal
public import proofs.«01_k».proof.Proof.Gen.InProjReferenceIdeal
public import proofs.«01_k».proof.Proof.Moba
public import proofs.«01_k».proof.Proof.FfnVal
public import proofs.«01_k».proof.Proof.FfnRef
public import proofs.«01_k».proof.Proof.InVal
public import proofs.«01_k».proof.Proof.InRef

@[expose] public section

noncomputable section

namespace Cert.Proof

open Idealize.ShloMosaic Idealize.ShloMosaic.TcCoe Idealize.SL.Sem

/-- The two texts of the attention kernel's body table are one. -/
theorem kernel_body_table {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

/-- So are those of its whole table. -/
theorem kernel_table {F : FTy → Type} [FloatOps F] : Cert.Kernel.defs (F := F) = Cert.KernelIdeal.defs (F := F) :=
  congrArg (Pipeline.defs Cert.KernelIdeal.pcfgs) kernel_body_table

/-- The frame of the attention kernel on machine words, from the run proved of the other text. -/
theorem frame_kernel : Cert.quiescent_Kernel := fun m ρ _ =>
  (congrArg (fun D => θ_run D (onTc (τ := Cert.KernelIdeal.τ) (Cert.KernelIdeal.main (F := Bits))) ⟨m, fun _ => 0, ρ⟩ _) kernel_table).mpr
    (Cert.KernelIdeal.Moba.frame (F := Bits) m ρ)

/-- The attention kernel's frame on numbers. -/
theorem frame_kernel_ideal : Cert.quiescent_KernelIdeal := fun m ρ _ => Cert.KernelIdeal.Moba.frame (F := Ideal) m ρ

/-- The two texts of the last kernel's body table are one. -/
theorem ffn_body_table {F : FTy → Type} [FloatOps F] : Cert.OutFfn.defs₀ (F := F) = Cert.OutFfnIdeal.defs₀ (F := F) := by
  unfold Cert.OutFfn.defs₀ Cert.OutFfnIdeal.defs₀
  refine congrArg Defs.onTc (funext fun l => funext fun a => ?_)
  match l, a with
  | ⟨0, _⟩, (t, s) => rfl

/-- So are those of its whole table. -/
theorem ffn_table {F : FTy → Type} [FloatOps F] : Cert.OutFfn.defs (F := F) = Cert.OutFfnIdeal.defs (F := F) :=
  congrArg (Pipeline.defs Cert.OutFfnIdeal.pcfgs) ffn_body_table

/-- The frame of the last kernel on machine words, from the run proved of the other text. -/
theorem frame_ffn : Cert.quiescent_OutFfn := fun m ρ _ =>
  (congrArg (fun D => θ_run D (onTc (τ := Cert.OutFfnIdeal.τ) (Cert.OutFfnIdeal.main (F := Bits))) ⟨m, fun _ => 0, ρ⟩ _) ffn_table).mpr
    (Cert.OutFfnIdeal.Ffn.frame (F := Bits) m ρ)

/-- The last kernel's frame on numbers. -/
theorem frame_ffn_ideal : Cert.quiescent_OutFfnIdeal := fun m ρ _ => Cert.OutFfnIdeal.Ffn.frame (F := Ideal) m ρ

/-- The reference's frame: no operation writes an argument, and it has no semaphore. -/
theorem frame_ffn_reference : Cert.quiescent_OutFfnReferenceIdeal := fun m ρ _ =>
  (θ_run Cert.OutFfnReferenceIdeal.defs _ _).mono
    (fun r h => ⟨fun c => (h c).2, Idealize.ShloMosaic.sem_eq_zero_of_no_sems (by decide) r.2⟩)
    (Cert.OutFfnReferenceIdeal.Stage.run (F := Ideal) m ρ)

/-- The last kernel and the reference end at one array: the specification's, of the arguments they agree on. -/
theorem value_ffn : Cert.algebraic_OutFfnIdeal_OutFfnReferenceIdeal := by
  intro m ρ m' ρ' _ hagree
  refine ⟨fun c => Cert.FfnRow.outArr (Cert.OutFfnIdeal.Ffn.arg0 m c) (Cert.OutFfnIdeal.Ffn.arg1 m c) (Cert.OutFfnIdeal.Ffn.arg2 m c) (Cert.OutFfnIdeal.Ffn.arg3 m c) (Cert.OutFfnIdeal.Ffn.arg4 m c) (Cert.OutFfnIdeal.Ffn.arg5 m c) (Cert.OutFfnIdeal.Ffn.arg6 m c) (Cert.OutFfnIdeal.Ffn.arg7 m c) (Cert.OutFfnIdeal.Ffn.arg8 m c) (Cert.OutFfnIdeal.Ffn.arg9 m c) (Cert.OutFfnIdeal.Ffn.arg10 m c) (Cert.OutFfnIdeal.Ffn.arg11 m c) (Cert.OutFfnIdeal.Ffn.arg12 m c) (Cert.OutFfnIdeal.Ffn.arg13 m c),
    Cert.OutFfnIdeal.Ffn.value m ρ, ?_⟩
  refine (θ_run Cert.OutFfnReferenceIdeal.defs _ _).mono (fun r h c => ⟨?_, (h c).2⟩)
    (Cert.OutFfnReferenceIdeal.Stage.run (F := Ideal) m' ρ')
  refine (h c).1.trans (((Cert.OutFfnReferenceIdeal.Stage.val2_main_v65 _).symm.trans
    (Cert.OutFfnReferenceIdeal.Stage.result_eq _)).trans ?_)
  obtain ⟨a0, a1, a2, a3, a4, a5, a6, a7, a8, a9, a10, a11, a12, a13⟩ := hagree c
  show Cert.FfnRow.outArr (m' ((c.tc : Thread Cert.OutFfnReferenceIdeal.nD Cert.OutFfnReferenceIdeal.τ).loc Cert.OutFfnReferenceIdeal.main_arg0)) (m' ((c.tc : Thread Cert.OutFfnReferenceIdeal.nD Cert.OutFfnReferenceIdeal.τ).loc Cert.OutFfnReferenceIdeal.main_arg1)) (m' ((c.tc : Thread Cert.OutFfnReferenceIdeal.nD Cert.OutFfnReferenceIdeal.τ).loc Cert.OutFfnReferenceIdeal.main_arg2)) (m' ((c.tc : Thread Cert.OutFfnReferenceIdeal.nD Cert.OutFfnReferenceIdeal.τ).loc Cert.OutFfnReferenceIdeal.main_arg3)) (m' ((c.tc : Thread Cert.OutFfnReferenceIdeal.nD Cert.OutFfnReferenceIdeal.τ).loc Cert.OutFfnReferenceIdeal.main_arg4)) (m' ((c.tc : Thread Cert.OutFfnReferenceIdeal.nD Cert.OutFfnReferenceIdeal.τ).loc Cert.OutFfnReferenceIdeal.main_arg5)) (m' ((c.tc : Thread Cert.OutFfnReferenceIdeal.nD Cert.OutFfnReferenceIdeal.τ).loc Cert.OutFfnReferenceIdeal.main_arg6)) (m' ((c.tc : Thread Cert.OutFfnReferenceIdeal.nD Cert.OutFfnReferenceIdeal.τ).loc Cert.OutFfnReferenceIdeal.main_arg7)) (m' ((c.tc : Thread Cert.OutFfnReferenceIdeal.nD Cert.OutFfnReferenceIdeal.τ).loc Cert.OutFfnReferenceIdeal.main_arg8)) (m' ((c.tc : Thread Cert.OutFfnReferenceIdeal.nD Cert.OutFfnReferenceIdeal.τ).loc Cert.OutFfnReferenceIdeal.main_arg9)) (m' ((c.tc : Thread Cert.OutFfnReferenceIdeal.nD Cert.OutFfnReferenceIdeal.τ).loc Cert.OutFfnReferenceIdeal.main_arg10)) (m' ((c.tc : Thread Cert.OutFfnReferenceIdeal.nD Cert.OutFfnReferenceIdeal.τ).loc Cert.OutFfnReferenceIdeal.main_arg11)) (m' ((c.tc : Thread Cert.OutFfnReferenceIdeal.nD Cert.OutFfnReferenceIdeal.τ).loc Cert.OutFfnReferenceIdeal.main_arg12)) (m' ((c.tc : Thread Cert.OutFfnReferenceIdeal.nD Cert.OutFfnReferenceIdeal.τ).loc Cert.OutFfnReferenceIdeal.main_arg13)) = _
  rw [a0, a1, a2, a3, a4, a5, a6, a7, a8, a9, a10, a11, a12, a13]

set_option maxHeartbeats 4000000 in
/-- The two texts of the first kernel's body table are one. -/
theorem proj_body_table {F : FTy → Type} [FloatOps F] : Cert.InProj.defs₀ (F := F) = Cert.InProjIdeal.defs₀ (F := F) := by
  unfold Cert.InProj.defs₀ Cert.InProjIdeal.defs₀
  refine congrArg Defs.onTc (funext fun l => funext fun a => ?_)
  match l, a with
  | ⟨0, _⟩, (t, s) => rfl

set_option maxHeartbeats 4000000 in
/-- So are those of its whole table. -/
theorem proj_table {F : FTy → Type} [FloatOps F] : Cert.InProj.defs (F := F) = Cert.InProjIdeal.defs (F := F) :=
  congrArg (Pipeline.defs Cert.InProjIdeal.pcfgs) proj_body_table

set_option maxHeartbeats 4000000 in
/-- The frame of the first kernel on machine words, from the run proved of the other text. -/
theorem frame_proj : Cert.quiescent_InProj := fun m ρ _ =>
  (congrArg (fun D => θ_run D (onTc (τ := Cert.InProjIdeal.τ) (Cert.InProjIdeal.main (F := Bits))) ⟨m, fun _ => 0, ρ⟩ _) proj_table).mpr
    (Cert.InProjIdeal.Proj.frame (F := Bits) m ρ)

/-- The first kernel's frame on numbers. -/
theorem frame_proj_ideal : Cert.quiescent_InProjIdeal := fun m ρ _ => Cert.InProjIdeal.Proj.frame (F := Ideal) m ρ

/-- Its reference's frame. -/
theorem frame_proj_reference : Cert.quiescent_InProjReferenceIdeal := fun m ρ _ => Cert.InProjReferenceIdeal.Stage.frame m ρ

/-- The first kernel and its reference end at the same eleven arrays: the specification's, of the arguments they agree on. -/
theorem value_proj : Cert.algebraic_InProjIdeal_InProjReferenceIdeal := by
  intro m ρ m' ρ' _ hagree
  refine ⟨fun c => Cert.ProjRow.convArr (Cert.InProjIdeal.Proj.arg0 m c) (Cert.InProjIdeal.Proj.arg2 m c) (Cert.InProjIdeal.Proj.arg3 m c) (Cert.InProjIdeal.Proj.arg4 m c), fun c => Cert.ProjRow.queryArr (Cert.InProjIdeal.Proj.arg0 m c) (Cert.InProjIdeal.Proj.arg1 m c) (Cert.InProjIdeal.Proj.arg2 m c) (Cert.InProjIdeal.Proj.arg3 m c), fun c => Cert.ProjRow.keyArr (Cert.InProjIdeal.Proj.arg0 m c) (Cert.InProjIdeal.Proj.arg1 m c) (Cert.InProjIdeal.Proj.arg2 m c) (Cert.InProjIdeal.Proj.arg3 m c), fun c => Cert.ProjRow.valueArr (Cert.InProjIdeal.Proj.arg0 m c) (Cert.InProjIdeal.Proj.arg2 m c) (Cert.InProjIdeal.Proj.arg3 m c), fun c => Cert.ProjRow.gateArr (Cert.InProjIdeal.Proj.arg0 m c) (Cert.InProjIdeal.Proj.arg2 m c) (Cert.InProjIdeal.Proj.arg3 m c) 6144 (by decide), fun c => Cert.ProjRow.gateArr (Cert.InProjIdeal.Proj.arg0 m c) (Cert.InProjIdeal.Proj.arg2 m c) (Cert.InProjIdeal.Proj.arg3 m c) 7168 (by decide), fun c => m ((c.tc : Thread Cert.InProjIdeal.nD Cert.InProjIdeal.τ).loc Cert.InProjIdeal.main_arg5), fun c => m ((c.tc : Thread Cert.InProjIdeal.nD Cert.InProjIdeal.τ).loc Cert.InProjIdeal.main_arg6), fun c => m ((c.tc : Thread Cert.InProjIdeal.nD Cert.InProjIdeal.τ).loc Cert.InProjIdeal.main_arg7), fun c => m ((c.tc : Thread Cert.InProjIdeal.nD Cert.InProjIdeal.τ).loc Cert.InProjIdeal.main_arg8), fun c => m ((c.tc : Thread Cert.InProjIdeal.nD Cert.InProjIdeal.τ).loc Cert.InProjIdeal.main_arg9),
    Cert.InProjIdeal.Proj.value m ρ, ?_⟩
  refine (θ_run Cert.InProjReferenceIdeal.defs _ _).mono (fun r h c => ?_) (Cert.InProjReferenceIdeal.Stage.value m' ρ')
  obtain ⟨h0, h1, h2, h3, h4, h5, h6, h7, h8, h9, h10, hrest⟩ := h c
  obtain ⟨a0, a1, a2, a3, a4, a5, a6, a7, a8, a9⟩ := hagree c
  exact ⟨h0.trans (by show Cert.ProjRow.convArr (m' ((c.tc : Thread Cert.InProjReferenceIdeal.nD Cert.InProjReferenceIdeal.τ).loc Cert.InProjReferenceIdeal.main_arg0)) (m' ((c.tc : Thread Cert.InProjReferenceIdeal.nD Cert.InProjReferenceIdeal.τ).loc Cert.InProjReferenceIdeal.main_arg2)) (m' ((c.tc : Thread Cert.InProjReferenceIdeal.nD Cert.InProjReferenceIdeal.τ).loc Cert.InProjReferenceIdeal.main_arg3)) (m' ((c.tc : Thread Cert.InProjReferenceIdeal.nD Cert.InProjReferenceIdeal.τ).loc Cert.InProjReferenceIdeal.main_arg4)) = _; rw [a0, a2, a3, a4]),
    h1.trans (by show Cert.ProjRow.queryArr (m' ((c.tc : Thread Cert.InProjReferenceIdeal.nD Cert.InProjReferenceIdeal.τ).loc Cert.InProjReferenceIdeal.main_arg0)) (m' ((c.tc : Thread Cert.InProjReferenceIdeal.nD Cert.InProjReferenceIdeal.τ).loc Cert.InProjReferenceIdeal.main_arg1)) (m' ((c.tc : Thread Cert.InProjReferenceIdeal.nD Cert.InProjReferenceIdeal.τ).loc Cert.InProjReferenceIdeal.main_arg2)) (m' ((c.tc : Thread Cert.InProjReferenceIdeal.nD Cert.InProjReferenceIdeal.τ).loc Cert.InProjReferenceIdeal.main_arg3)) = _; rw [a0, a1, a2, a3]),
    h2.trans (by show Cert.ProjRow.keyArr (m' ((c.tc : Thread Cert.InProjReferenceIdeal.nD Cert.InProjReferenceIdeal.τ).loc Cert.InProjReferenceIdeal.main_arg0)) (m' ((c.tc : Thread Cert.InProjReferenceIdeal.nD Cert.InProjReferenceIdeal.τ).loc Cert.InProjReferenceIdeal.main_arg1)) (m' ((c.tc : Thread Cert.InProjReferenceIdeal.nD Cert.InProjReferenceIdeal.τ).loc Cert.InProjReferenceIdeal.main_arg2)) (m' ((c.tc : Thread Cert.InProjReferenceIdeal.nD Cert.InProjReferenceIdeal.τ).loc Cert.InProjReferenceIdeal.main_arg3)) = _; rw [a0, a1, a2, a3]),
    h3.trans (by show Cert.ProjRow.valueArr (m' ((c.tc : Thread Cert.InProjReferenceIdeal.nD Cert.InProjReferenceIdeal.τ).loc Cert.InProjReferenceIdeal.main_arg0)) (m' ((c.tc : Thread Cert.InProjReferenceIdeal.nD Cert.InProjReferenceIdeal.τ).loc Cert.InProjReferenceIdeal.main_arg2)) (m' ((c.tc : Thread Cert.InProjReferenceIdeal.nD Cert.InProjReferenceIdeal.τ).loc Cert.InProjReferenceIdeal.main_arg3)) = _; rw [a0, a2, a3]),
    h4.trans (by show Cert.ProjRow.gateArr (m' ((c.tc : Thread Cert.InProjReferenceIdeal.nD Cert.InProjReferenceIdeal.τ).loc Cert.InProjReferenceIdeal.main_arg0)) (m' ((c.tc : Thread Cert.InProjReferenceIdeal.nD Cert.InProjReferenceIdeal.τ).loc Cert.InProjReferenceIdeal.main_arg2)) (m' ((c.tc : Thread Cert.InProjReferenceIdeal.nD Cert.InProjReferenceIdeal.τ).loc Cert.InProjReferenceIdeal.main_arg3)) 6144 (by decide) = _; rw [a0, a2, a3]),
    h5.trans (by show Cert.ProjRow.gateArr (m' ((c.tc : Thread Cert.InProjReferenceIdeal.nD Cert.InProjReferenceIdeal.τ).loc Cert.InProjReferenceIdeal.main_arg0)) (m' ((c.tc : Thread Cert.InProjReferenceIdeal.nD Cert.InProjReferenceIdeal.τ).loc Cert.InProjReferenceIdeal.main_arg2)) (m' ((c.tc : Thread Cert.InProjReferenceIdeal.nD Cert.InProjReferenceIdeal.τ).loc Cert.InProjReferenceIdeal.main_arg3)) 7168 (by decide) = _; rw [a0, a2, a3]),
    h6.trans a5, h7.trans a6, h8.trans a7, h9.trans a8, h10.trans a9,
    hrest⟩

/-- The certificate's claims together. -/
theorem claim : Cert.Claim :=
  ⟨Cert.Kernel.Gen.facts, Cert.KernelIdeal.Gen.facts, Cert.OutFfn.Gen.facts, Cert.OutFfnIdeal.Gen.facts,
    Cert.OutFfnReferenceIdeal.Gen.facts, Cert.InProj.Gen.facts, Cert.InProjIdeal.Gen.facts, Cert.InProjReferenceIdeal.Gen.facts,
    frame_kernel, frame_kernel_ideal, frame_ffn, frame_ffn_ideal, frame_ffn_reference, frame_proj, frame_proj_ideal,
    frame_proj_reference, trivial, trivial, value_ffn, trivial, value_proj⟩

end Cert.Proof

end
